-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_v161) = v1 c
          ∧ r.2.mem ((c.tc : Thread Cert.Reference2Ideal.nD Cert.Reference2Ideal.τ).loc Cert.Reference2Ideal.main_v162) = v2 c
          ∧ r.2.mem ((c.tc : Thread Cert.Reference2Ideal.nD Cert.Reference2Ideal.τ).loc Cert.Reference2Ideal.main_v93) = v3 c
          ∧ r.2.mem ((c.tc : Thread Cert.Reference2Ideal.nD Cert.Reference2Ideal.τ).loc Cert.Reference2Ideal.main_v163) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_v12) = v1 c
          ∧ r.2.mem ((c.tc : Thread Cert.Reference14Ideal.nD Cert.Reference14Ideal.τ).loc Cert.Reference14Ideal.main_v15) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)) (v2 : (c : Dev Cert.Kernel15Ideal.nD) → Buf (Elt Ideal) ((c.tc : Thread Cert.Kernel15Ideal.nD Cert.Kernel15Ideal.τ).loc Cert.Kernel15Ideal.main_v5_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_v5_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v33) = v0 c
          ∧ r.2.mem ((c.tc : Thread Cert.Reference15Ideal.nD Cert.Reference15Ideal.τ).loc Cert.Reference15Ideal.main_v42) = v1 c
          ∧ r.2.mem ((c.tc : Thread Cert.Reference15Ideal.nD Cert.Reference15Ideal.τ).loc Cert.Reference15Ideal.main_v2) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)) (v4 : (c : Dev Cert.Kernel13Ideal.nD) → Buf (Elt Ideal) ((c.tc : Thread Cert.Kernel13Ideal.nD Cert.Kernel13Ideal.τ).loc Cert.Kernel13Ideal.main_v1_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_v1_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_v38) = v1 c
          ∧ r.2.mem ((c.tc : Thread Cert.Reference13Ideal.nD Cert.Reference13Ideal.τ).loc Cert.Reference13Ideal.main_v41) = v2 c
          ∧ r.2.mem ((c.tc : Thread Cert.Reference13Ideal.nD Cert.Reference13Ideal.τ).loc Cert.Reference13Ideal.main_v42) = v3 c
          ∧ r.2.mem ((c.tc : Thread Cert.Reference13Ideal.nD Cert.Reference13Ideal.τ).loc Cert.Reference13Ideal.main_v22) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v42)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v42) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v62) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x1024 : Shape := ⟨2, ![4096, 1024]⟩
abbrev S2816x1024 : Shape := ⟨2, ![2816, 1024]⟩
abbrev S4x4096x704 : Shape := ⟨3, ![4, 4096, 704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4x4096x704 : S_.BroadcastsInDim S4x4096x704 (![] : Fin 0 → Fin S4x4096x704.rank)
  reducesTo_S4x4096x704_S_d0_1_2 : S4x4096x704.ReducesTo [0, 1, 2] S_

variable [Facts]

def fn_part1 {F : FTy → Type} [FloatOps F] (main_v16 : IVec S_ 1) (main_v17 : FVec F S4x4096x704 .f32) : IVec S_ 1 :=
  let main_v18 : FVec F S4x4096x704 .f32 := Host.absf main_v17
  let main_cst_4 : FVec F S_ .f32 := constant S_ .f32 0x7F800000#32
  let main_v19 : FVec F S4x4096x704 .f32 := broadcastInDim S4x4096x704 ![] bcast_S_S4x4096x704 main_cst_4
  let main_v20 : IVec S4x4096x704 1 := cmpf .olt main_v18 main_v19
  let main_c_5 : IVec S_ 1 := constantI S_ 1 1#1
  let main_v21 : IVec S_ 1 := (fun x v => Host.reduce IntOp.andi x v reducesTo_S4x4096x704_S_d0_1_2 h_S_) main_v20 main_c_5
  let main_v22 : IVec S_ 1 := andi main_v16 main_v21
  main_v22

def fn {F : FTy → Type} [FloatOps F] (main_arg0 : FVec F S4096x1024 .bf16) (main_arg1 : FVec F S2816x1024 .bf16) (main_arg2 : FVec F S4x4096x704 .bf16) (main_arg3 : FVec F S4x4096x704 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4x4096x704 .f32 := (extf .f32 · bitsLt_bf16_f32) main_arg2
  let main_v12 : FVec F S4x4096x704 .f32 := Host.absf main_v11
  let main_cst_2 : FVec F S_ .f32 := constant S_ .f32 0x7F800000#32
  let main_v13 : FVec F S4x4096x704 .f32 := broadcastInDim S4x4096x704 ![] bcast_S_S4x4096x704 main_cst_2
  let main_v14 : IVec S4x4096x704 1 := cmpf .olt main_v12 main_v13
  let main_c_3 : IVec S_ 1 := constantI S_ 1 1#1
  let main_v15 : IVec S_ 1 := (fun x v => Host.reduce IntOp.andi x v reducesTo_S4x4096x704_S_d0_1_2 h_S_) main_v14 main_c_3
  let main_v16 : IVec S_ 1 := andi main_v10 main_v15
  let main_v17 : FVec F S4x4096x704 .f32 := (extf .f32 · bitsLt_bf16_f32) main_arg3
  fn_part1 (F := F) main_v16 main_v17
-- ==== Pre_finite2.lean ====
abbrev S4352x7168 : Shape := ⟨2, ![4352, 7168]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩

class Facts : Prop where
  slices_S4352x7168_S4096x1024_256_2048 : S4352x7168.Slices ![256, 2048] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  main_v19

def fn {F : FTy → Type} [FloatOps F] (main_arg0 : FVec F S4352x7168 .f32) (main_arg1 : FVec F S1024 .f32) (main_arg2 : FVec F S1024 .f32) (main_arg3 : FVec F S8x128x128 .f32) (main_arg4 : FVec F S8x128 .f32) (main_arg5 : FVec F S4096x1024 .f32) (main_arg6 : FVec F S4352x7168 .bf16) : IVec S_ 1 :=
  let main_v0 : FVec F S4096x1024 .f32 := (extractStridedSlice S4096x1024 ![256, 2048] · slices_S4352x7168_S4096x1024_256_2048) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024 .f32 := Host.absf main_arg1
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S8x128x128 .f32 := Host.absf main_arg3
  let main_cst_2 : FVec F S_ .f32 := constant S_ .f32 0x7F800000#32
  let main_v11 : FVec F S8x128x128 .f32 := broadcastInDim S8x128x128 ![] bcast_S_S8x128x128 main_cst_2
  let main_v12 : IVec S8x128x128 1 := cmpf .olt main_v10 main_v11
  let main_c_3 : IVec S_ 1 := constantI S_ 1 1#1
  let main_v13 : IVec S_ 1 := (fun x v => Host.reduce IntOp.andi x v reducesTo_S8x128x128_S_d0_1_2 h_S_) main_v12 main_c_3
  let main_v14 : IVec S_ 1 := andi main_v9 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  fn_part1 (F := F) main_v14 main_v15 main_v16
-- ==== Kernel.lean ====
abbrev S4096x1024 : Shape := ⟨2, ![4096, 1024]⟩
abbrev S2816x1024 : Shape := ⟨2, ![2816, 1024]⟩
abbrev S4x4096x704 : Shape := ⟨3, ![4, 4096, 704]⟩
abbrev S512x1024 : Shape := ⟨2, ![512, 1024]⟩
abbrev S4x512x704 : Shape := ⟨3, ![4, 512, 704]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x1024 : Shape := ⟨2, ![4096, 1024]⟩
abbrev S2816x1024 : Shape := ⟨2, ![2816, 1024]⟩
abbrev S4x4096x704 : Shape := ⟨3, ![4, 4096, 704]⟩
abbrev S4096x4x704 : Shape := ⟨3, ![4096, 4, 704]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4x4096x704, .bf16⟩
  | .hbm, ⟨3, _⟩ => ⟨S4x4096x704, .bf16⟩
  | .hbm, ⟨4, _⟩ => ⟨S4x4096x704, .f32⟩
  | .hbm, ⟨5, _⟩ => ⟨S4x4096x704, .f32⟩
  | .hbm, ⟨6, _⟩ => ⟨S4096x4x704, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x4x704, .f32⟩
  | .hbm, ⟨22, _⟩ => ⟨S4096x2816, .f32⟩
  | .hbm, ⟨23, _⟩ => ⟨S4096x2816, .f32⟩
  | .hbm, ⟨24, _⟩ => ⟨S2816x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x4x704, .f32⟩
  | .hbm, ⟨31, _⟩ => ⟨S4x4096x704, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel2.lean ====
abbrev S4352x7168 : Shape := ⟨2, ![4352, 7168]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S1x1024 : Shape := ⟨2, ![1, 1024]⟩
abbrev S8x128x1 : Shape := ⟨3, ![8, 128, 1]⟩
abbrev S128x2048 : Shape := ⟨2, ![128, 2048]⟩
abbrev S128x1024 : Shape := ⟨2, ![128, 1024]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 15
  | .vmem => 14
  | .smem => 0
  | _ => 0

abbrev bufTy : (tb : Table) → Fin (tcTables nBuf tb) → BufTy
  | .hbm, ⟨0, _⟩ => ⟨S4352x7168, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S4352x7168, .bf16⟩
  | .hbm, ⟨7, _⟩ => ⟨S1x1024, .f32⟩
  | .hbm, ⟨8, _⟩ => ⟨S1x1024, .f32⟩
  | .hbm, ⟨9, _⟩ => ⟨S8x128x1, .f32⟩
  | .hbm, ⟨10, _⟩ => ⟨S4352x7168, .bf16⟩
  | .hbm, ⟨11, _⟩ => ⟨S1x1024, .f32⟩
  | .hbm, ⟨12, _⟩ => ⟨S1x1024, .f32⟩
  | .hbm, ⟨13, _⟩ => ⟨S8x128x128, .f32⟩
  | .hbm, ⟨14, _⟩ => ⟨S8x128x1, .f32⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S8x128x1, .f32⟩
  | .local _ .vmem, ⟨6, _⟩ => ⟨S128x1024, .f32⟩
  | .local _ .vmem, ⟨7, _⟩ => ⟨S128x1024, .f32⟩
  | .local _ .vmem, ⟨8, _⟩ => ⟨S128x2048, .bf16⟩
  | .local _ .vmem, ⟨9, _⟩ => ⟨S128x2048, .bf16⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S8x128x1, .f32⟩
  | _, _ => ⟨S4352x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c0_i32_114 : BitVec 32 := 0#32
  let v298 : BitVec 1 := Scalar.cmpi .eq arg0 c0_i32_114
  let v299 : BitVec 32 := Scalar.extui v298
  let c0_i32_115 : BitVec 32 := 0#32
  let v300 : BitVec 1 := Scalar.cmpi .ne v299 c0_i32_115
  v300

def k0_cond2 (i : grid0.Coords) : BitVec 1 :=
  let arg0 : BitVec 32 := BitVec.ofNat 32 (i 0).val
  let c0_i32_114 : BitVec 32 := 0#32
  let v298 : BitVec 1 := Scalar.cmpi .eq arg0 c0_i32_114
  let v_true : BitVec 1 := 1#1
  let v301 : BitVec 1 := Scalar.xori v298 v_true
  let v302 : BitVec 32 := Scalar.extui v301
  let c0_i32_116 : BitVec 32 := 0#32
  let v303 : BitVec 1 := Scalar.cmpi .ne v302 c0_i32_116
  v303

def k0_cond3 (i : grid0.Coords) : BitVec 1 :=
  let arg0 : BitVec 32 := BitVec.ofNat 32 (i 0).val
  let c0_i32_117 : BitVec 32 := 0#32
  let v304 : BitVec 1 := Scalar.cmpi .eq arg0 c0_i32_117
  let v305 : BitVec 32 := Scalar.extui v304
  let c0_i32_118 : BitVec 32 := 0#32
  let v306 : BitVec 1 := Scalar.cmpi .ne v305 c0_i32_118
  v306

def k0_cond4 (i : grid0.Coords) : BitVec 1 :=
  let arg0 : BitVec 32 := BitVec.ofNat 32 (i 0).val
  let c0_i32_117 : BitVec 32 := 0#32
  let v304 : BitVec 1 := Scalar.cmpi .eq arg0 c0_i32_117
  let true_119 : BitVec 1 := 1#1
  let v307 : BitVec 1 := Scalar.xori v304 true_119
  let v308 : BitVec 32 := Scalar.extui v307
  let c0_i32_120 : BitVec 32 := 0#32
  let v309 : BitVec 1 := Scalar.cmpi .ne v308 c0_i32_120
  v309

def k0_cond5 (i : grid0.Coords) : BitVec 1 :=
  let arg0 : BitVec 32 := BitVec.ofNat 32 (i 0).val
  let c0_i32_121 : BitVec 32 := 0#32
  let v310 : BitVec 1 := Scalar.cmpi .eq arg0 c0_i32_121
  let v311 : BitVec 32 := Scalar.extui v310
  let c0_i32_122 : BitVec 32 := 0#32
  let v312 : BitVec 1 := Scalar.cmpi .ne v311 c0_i32_122
  v312

def k0_cond6 (i : grid0.Coords) : BitVec 1 :=
  let arg0 : BitVec 32 := BitVec.ofNat 32 (i 0).val
  let c0_i32_121 : BitVec 32 := 0#32
  let v310 : BitVec 1 := Scalar.cmpi .eq arg0 c0_i32_121
  let true_123 : BitVec 1 := 1#1
  let v313 : BitVec 1 := Scalar.xori v310 true_123
  let v314 : BitVec 32 := Scalar.extui v313
  let c0_i32_124 : BitVec 32 := 0#32
  let v315 : BitVec 1 := Scalar.cmpi .ne v314 c0_i32_124
  v315

def k0_cond7 (i : grid0.Coords) : BitVec 1 :=
  let arg0 : BitVec 32 := BitVec.ofNat 32 (i 0).val
  let c0_i32_125 : BitVec 32 := 0#32
  let v316 : BitVec 1 := Scalar.cmpi .eq arg0 c0_i32_125
  let v317 : BitVec 32 := Scalar.extui v316
  let c0_i32_126 : BitVec 32 := 0#32
  let v318 : BitVec 1 := Scalar.cmpi .ne v317 c0_i32_126
  v318

def k0_cond8 (i : grid0.Coords) : BitVec 1 :=
  let arg0 : BitVec 32 := BitVec.ofNat 32 (i 0).val
  let c0_i32_125 : BitVec 32 := 0#32
  let v316 : BitVec 1 := Scalar.cmpi .eq arg0 c0_i32_125
  let true_127 : BitVec 1 := 1#1
  let v319 : BitVec 1 := Scalar.xori v316 true_127
  let v320 : BitVec 32 := Scalar.extui v319
  let c0_i32_128 : BitVec 32 := 0#32
  let v321 : BitVec 1 := Scalar.cmpi .ne v320 c0_i32_128
  v321

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c1_i32 : BitVec 32 := 1#32
  let c0_i32_1 : BitVec 32 := 0#32
  ![v1.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c1_i32 : BitVec 32 := 1#32
  let c0_i32_1 : BitVec 32 := 0#32
  ![v1.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4352x7168 : Shape := ⟨2, ![4352, 7168]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S256x2048 : Shape := ⟨2, ![256, 2048]⟩
abbrev S4096x2048 : Shape := ⟨2, ![4096, 2048]⟩
abbrev S4352x2048 : Shape := ⟨2, ![4352, 2048]⟩
abbrev S4352x3072 : Shape := ⟨2, ![4352, 3072]⟩
abbrev S8x128x1 : Shape := ⟨3, ![8, 128, 1]⟩

abbrev nBuf : Space → Nat
  | .hbm => 213
  | .vmem => 0
  | .smem => 0
  | _ => 0

abbrev hbmTy0_0 (i : Nat) : BufTy := match i % 128 with
  | 0 => ⟨S4352x7168, .f32⟩
  | 1 => ⟨S1024, .f32⟩
  | 2 => ⟨S1024, .f32⟩
  | 3 => ⟨S8x128x128, .f32⟩
  | 4 => ⟨S8x128, .f32⟩
  | 5 => ⟨S4096x1024, .f32⟩
  | 6 => ⟨S4352x7168, .bf16⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S_, .f32⟩
  | 86 => ⟨S4096x1, .f32⟩
  | 87 => ⟨S4096x1, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x1024, .f32⟩
  | 94 => ⟨S4096x1024, .f32⟩
  | 95 => ⟨S1x1024, .f32⟩
  | 96 => ⟨S4096x1024, .f32⟩
  | 97 => ⟨S4096x1024, .f32⟩
  | 98 => ⟨S1x1024, .f32⟩
  | 99 => ⟨S4096x1024, .f32⟩
  | 100 => ⟨S4096x1024, .f32⟩
  | 101 => ⟨S32x128x8x128, .f32⟩
  | 102 => ⟨S8x32x128x128, .f32⟩
  | 103 => ⟨S32x128x8x128, .f32⟩
  | 104 => ⟨S128x8, .f32⟩
  | 105 => ⟨S128x8x1, .f32⟩
  | 106 => ⟨S1x128x8x1, .f32⟩
  | 107 => ⟨S32x128x8x128, .f32⟩
  | 108 => ⟨S32x128x8x128, .f32⟩
  | 109 => ⟨S4096x1024, .f32⟩
  | 110 => ⟨S4096x1024, .f32⟩
  | 111 => ⟨S4096x1024, .f32⟩
  | 112 => ⟨S4096x1024, .f32⟩
  | 113 => ⟨S32x128x8x128, .f32⟩
  | 114 => ⟨S_, .f32⟩
  | 115 => ⟨S128x8, .f32⟩
  | 116 => ⟨S1x128x8x1, .f32⟩
  | 117 => ⟨S_, .f32⟩
  | 118 => ⟨S128x8, .f32⟩
  | 119 => ⟨S128x8x1, .f32⟩
  | 120 => ⟨S_, .f32⟩
  | 121 => ⟨S128x8, .f32⟩
  | 122 => ⟨S8x128, .f32⟩
  | 123 => ⟨S8x32x128x128, .f32⟩
  | 124 => ⟨S8x128x128, .f32⟩
  | 125 => ⟨S8x32x128x128, .f32⟩
  | 126 => ⟨S32x128x8x128, .f32⟩
  | 127 => ⟨S4096x1024, .f32⟩
  | _ => ⟨S4352x7168, .f32⟩

abbrev hbmTy0_1 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S_, .f32⟩
  | 12 => ⟨S1024, .f32⟩
  | 13 => ⟨S4096x1024, .f32⟩
  | 14 => ⟨S_, .f32⟩
  | 15 => ⟨S4096, .f32⟩
  | 16 => ⟨S4096x1, .f32⟩
  | 17 => ⟨S4096x1024, .f32⟩
  | 18 => ⟨S4096x1024, .f32⟩
  | 19 => ⟨S4096x1, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S4096x1024, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S256x2048, .f32⟩
  | 76 => ⟨S4096x2048, .f32⟩
  | 77 => ⟨S4352x2048, .f32⟩
  | 78 => ⟨S4352x2048, .bf16⟩
  | 79 => ⟨S4352x2048, .bf16⟩
  | 80 => ⟨S4352x3072, .bf16⟩
  | 81 => ⟨S4352x7168, .bf16⟩
  | 82 => ⟨S1x1024, .f32⟩
  | 83 => ⟨S1x1024, .f32⟩
  | 84 => ⟨S8x128x1, .f32⟩
  | _ => ⟨S4352x7168, .f32⟩

abbrev hbmTy (i : Nat) : BufTy := match i / 128 with
  | 0 => hbmTy0_0 i
  | 1 => hbmTy0_1 i
  | _ => ⟨S4352x7168, .f32⟩

abbrev bufTy : (tb : Table) → Fin (tcTables nBuf tb) → BufTy
  | .hbm, ⟨i, _⟩ => hbmTy i
  | _, _ => ⟨S4352x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_20 : Ref sig .tc := ⟨.hbm, 114, rfl⟩
abbrev main_v86 : Ref sig .tc := ⟨.hbm, 115, rfl⟩
abbrev main_v87 : Ref sig .tc := ⟨.hbm, 116, rfl⟩
abbrev main_cst_21 : Ref sig .tc := ⟨.hbm, 117, rfl⟩
abbrev main_v88 : Ref sig .tc := ⟨.hbm, 118, rfl⟩
abbrev main_v89 : Ref sig .tc := ⟨.hbm, 119, rfl⟩
abbrev main_cst_22 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_cst_24 : Ref sig .tc := ⟨.hbm, 131, rfl⟩
abbrev main_v99 : Ref sig .tc := ⟨.hbm, 132, rfl⟩
abbrev main_v100 : Ref sig .tc := ⟨.hbm, 133, rfl⟩
abbrev main_cst_25 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_26 : Ref sig .tc := ⟨.hbm, 139, rfl⟩
abbrev main_v105 : Ref sig .tc := ⟨.hbm, 140, rfl⟩
abbrev main_v106 : Ref sig .tc := ⟨.hbm, 141, rfl⟩
abbrev main_cst_27 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_28 : Ref sig .tc := ⟨.hbm, 149, rfl⟩
abbrev main_v113 : Ref sig .tc := ⟨.hbm, 150, rfl⟩
abbrev main_v114 : Ref sig .tc := ⟨.hbm, 151, rfl⟩
abbrev main_cst_29 : Ref sig .tc := ⟨.hbm, 152, rfl⟩
abbrev main_v115 : Ref sig .tc := ⟨.hbm, 153, rfl⟩
abbrev main_v116 : Ref sig .tc := ⟨.hbm, 154, rfl⟩
abbrev main_cst_30 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_31 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_32 : Ref sig .tc := ⟨.hbm, 165, rfl⟩
abbrev main_v125 : Ref sig .tc := ⟨.hbm, 166, rfl⟩
abbrev main_v126 : Ref sig .tc := ⟨.hbm, 167, rfl⟩
abbrev main_cst_33 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_34 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_35 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_36 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_37 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_38 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_39 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_40 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩

abbrev nD : Nat := 1
abbrev τ : Topo := Topo.v7x

variable {F : FTy → Type} [FloatOps F]
-- ==== Kernel3.lean ====
abbrev S4x4096x704 : Shape := ⟨3, ![4, 4096, 704]⟩
abbrev S4x1024x704 : Shape := ⟨3, ![4, 1024, 704]⟩
abbrev S4096x1024 : Shape := ⟨2, ![4096, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x1024x704, .bf16⟩
  | .hbm, ⟨3, _⟩ => ⟨S4x1024x704, .bf16⟩
  | .hbm, ⟨4, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x4096x704 : Shape := ⟨3, ![4, 4096, 704]⟩
abbrev S4x1024x704 : Shape := ⟨3, ![4, 1024, 704]⟩
abbrev S_ : Shape := ⟨0, ![]⟩
abbrev S4096x1024 : Shape := ⟨2, ![4096, 1024]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x1024x704, .bf16⟩
  | .hbm, ⟨3, _⟩ => ⟨S4x1024x704, .bf16⟩
  | .hbm, ⟨4, _⟩ => ⟨S_, .f32⟩
  | .hbm, ⟨5, _⟩ => ⟨S4096x1024, .f32⟩
  | .hbm, ⟨6, _⟩ => ⟨S4x1024x704, .f32⟩
  | .hbm, ⟨7, _⟩ => ⟨S1024x4x704, .f32⟩
  | .hbm, ⟨8, _⟩ => ⟨S1024x2816, .f32⟩
  | .hbm, ⟨9, _⟩ => ⟨S4096x2816, .f32⟩
  | .hbm, ⟨10, _⟩ => ⟨S4x1024x704, .f32⟩
  | .hbm, ⟨11, _⟩ => ⟨S1024x4x704, .f32⟩
  | .hbm, ⟨12, _⟩ => ⟨S1024x2816, .f32⟩
  | .hbm, ⟨13, _⟩ => ⟨S4096x2816, .f32⟩
  | .hbm, ⟨14, _⟩ => ⟨S4x4096x704, .f32⟩
  | .hbm, ⟨15, _⟩ => ⟨S4096x4x704, .f32⟩
  | .hbm, ⟨16, _⟩ => ⟨S4096x2816, .f32⟩
  | .hbm, ⟨17, _⟩ => ⟨S4x4096x704, .f32⟩
  | .hbm, ⟨18, _⟩ => ⟨S4096x4x704, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel4.lean ====
abbrev S4096x1024 : Shape := ⟨2, ![4096, 1024]⟩
abbrev S4x4096x704 : Shape := ⟨3, ![4, 4096, 704]⟩
abbrev S4x1024x704 : Shape := ⟨3, ![4, 1024, 704]⟩
abbrev S512x1024 : Shape := ⟨2, ![512, 1024]⟩
abbrev S4x512x704 : Shape := ⟨3, ![4, 512, 704]⟩
abbrev S1x1024x704 : Shape := ⟨3, ![1, 1024, 704]⟩
abbrev S1024x704 : Shape := ⟨2, ![1024, 704]⟩
abbrev S1x512x704 : Shape := ⟨3, ![1, 512, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x1024x704, .bf16⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_44 : BitVec 32 := 0#32
  let v45 : BitVec 1 := Scalar.cmpi .ne v44 c0_i32_44
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S4x4096x704 : Shape := ⟨3, ![4, 4096, 704]⟩
abbrev S_ : Shape := ⟨0, ![]⟩
abbrev S1024x2816 : Shape := ⟨2, ![1024, 2816]⟩
abbrev S4096x2816 : Shape := ⟨2, ![4096, 2816]⟩
abbrev S4096x4x704 : Shape := ⟨3, ![4096, 4, 704]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4x4096x704, .f32⟩
  | .hbm, ⟨7, _⟩ => ⟨S4096x4x704, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4x4096x704 : Shape := ⟨3, ![4, 4096, 704]⟩
abbrev S4096x1024 : Shape := ⟨2, ![4096, 1024]⟩
abbrev S2816x1024 : Shape := ⟨2, ![2816, 1024]⟩
abbrev S4x512x704 : Shape := ⟨3, ![4, 512, 704]⟩
abbrev S512x1024 : Shape := ⟨2, ![512, 1024]⟩
abbrev S704x1024 : Shape := ⟨2, ![704, 1024]⟩
abbrev S1x512x704 : Shape := ⟨3, ![1, 512, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S2816x1024, .bf16⟩
  | .local _ .vmem, ⟨0, _⟩ => ⟨S4x512x704, .bf16⟩
  | .local _ .vmem, ⟨1, _⟩ => ⟨S4x512x704, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_33 : BitVec 32 := 0#32
  let v41 : BitVec 1 := Scalar.cmpi .ne v40 c0_i32_33
  v41

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4x4096x704 : Shape := ⟨3, ![4, 4096, 704]⟩
abbrev S4096x1024 : Shape := ⟨2, ![4096, 1024]⟩
abbrev S_ : Shape := ⟨0, ![]⟩
abbrev S2816x1024 : Shape := ⟨2, ![2816, 1024]⟩
abbrev S4096x4x704 : Shape := ⟨3, ![4096, 4, 704]⟩
abbrev S4096x2816 : Shape := ⟨2, ![4096, 2816]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4352x1024 : Shape := ⟨2, ![4352, 1024]⟩
abbrev S4352x7168 : Shape := ⟨2, ![4352, 7168]⟩
abbrev S1024x7168 : Shape := ⟨2, ![1024, 7168]⟩
abbrev S256x1024 : Shape := ⟨2, ![256, 1024]⟩
abbrev S256x3584 : Shape := ⟨2, ![256, 3584]⟩
abbrev S1024x3584 : Shape := ⟨2, ![1024, 3584]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x7168, .bf16⟩
  | .hbm, ⟨2, _⟩ => ⟨S1024x7168, .bf16⟩
  | .local _ .vmem, ⟨0, _⟩ => ⟨S256x1024, .bf16⟩
  | .local _ .vmem, ⟨1, _⟩ => ⟨S256x1024, .bf16⟩
  | .local _ .vmem, ⟨2, _⟩ => ⟨S256x3584, .bf16⟩
  | .local _ .vmem, ⟨3, _⟩ => ⟨S256x3584, .bf16⟩
  | .local _ .vmem, ⟨4, _⟩ => ⟨S1024x3584, .bf16⟩
  | .local _ .vmem, ⟨5, _⟩ => ⟨S1024x3584, .bf16⟩
  | .local _ .vmem, ⟨6, _⟩ => ⟨S1024x3584, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 17], ![false, false, false]⟩

def k0_cond2 (i : grid0.Coords) : BitVec 1 :=
  let arg2 : BitVec 32 := BitVec.ofNat 32 (i 2).val
  let c16_i32 : BitVec 32 := 16#32
  let v11 : BitVec 1 := Scalar.cmpi .eq arg2 c16_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x1024 : Shape := ⟨2, ![4352, 1024]⟩
abbrev S4352x7168 : Shape := ⟨2, ![4352, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x7168, .bf16⟩
  | .hbm, ⟨2, _⟩ => ⟨S_, .f32⟩
  | .hbm, ⟨3, _⟩ => ⟨S1024x7168, .f32⟩
  | .hbm, ⟨4, _⟩ => ⟨S4352x1024, .f32⟩
  | .hbm, ⟨5, _⟩ => ⟨S4352x7168, .f32⟩
  | .hbm, ⟨6, _⟩ => ⟨S4352x7168, .f32⟩
  | .hbm, ⟨7, _⟩ => ⟨S7168x1024, .f32⟩
  | .hbm, ⟨8, _⟩ => ⟨S1024x7168, .f32⟩
  | .hbm, ⟨9, _⟩ => ⟨S1024x7168, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x7168 : Shape := ⟨2, ![4352, 7168]⟩
abbrev S1024x7168 : Shape := ⟨2, ![1024, 7168]⟩
abbrev S4352x1024 : Shape := ⟨2, ![4352, 1024]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x7168, .bf16⟩
  | .hbm, ⟨1, _⟩ => ⟨S1024x7168, .bf16⟩
  | .hbm, ⟨2, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .f32⟩
  | .local _ .vmem, ⟨5, _⟩ => ⟨S2176x1024, .f32⟩
  | .local _ .vmem, ⟨6, _⟩ => ⟨S2176x1024, .f32⟩
  | _, _ => ⟨S4352x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x7168 : Shape := ⟨2, ![4352, 7168]⟩
abbrev S1024x7168 : Shape := ⟨2, ![1024, 7168]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x7168, .bf16⟩
  | .hbm, ⟨1, _⟩ => ⟨S1024x7168, .bf16⟩
  | .hbm, ⟨2, _⟩ => ⟨S_, .f32⟩
  | .hbm, ⟨3, _⟩ => ⟨S4352x1024, .f32⟩
  | .hbm, ⟨4, _⟩ => ⟨S1024x7168, .f32⟩
  | .hbm, ⟨5, _⟩ => ⟨S4352x7168, .f32⟩
  | .hbm, ⟨6, _⟩ => ⟨S4352x7168, .f32⟩
  | .hbm, ⟨7, _⟩ => ⟨S4352x1024, .f32⟩
  | _, _ => ⟨S4352x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S4x1024x704 : Shape := ⟨3, ![4, 1024, 704]⟩
abbrev S4x4096x704 : Shape := ⟨3, ![4, 4096, 704]⟩
abbrev S512x1024 : Shape := ⟨2, ![512, 1024]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x1024x704, .bf16⟩
  | .hbm, ⟨2, _⟩ => ⟨S4x1024x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x704, .bf16⟩
  | .hbm, ⟨2, _⟩ => ⟨S4x1024x704, .bf16⟩
  | .hbm, ⟨3, _⟩ => ⟨S4096x1024, .f32⟩
  | .hbm, ⟨4, _⟩ => ⟨S4x1024x704, .f32⟩
  | .hbm, ⟨5, _⟩ => ⟨S1024x4x704, .f32⟩
  | .hbm, ⟨6, _⟩ => ⟨S1024x2816, .f32⟩
  | .hbm, ⟨7, _⟩ => ⟨S4096x2816, .f32⟩
  | .hbm, ⟨8, _⟩ => ⟨S4x1024x704, .f32⟩
  | .hbm, ⟨9, _⟩ => ⟨S1024x4x704, .f32⟩
  | .hbm, ⟨10, _⟩ => ⟨S1024x2816, .f32⟩
  | .hbm, ⟨11, _⟩ => ⟨S4096x2816, .f32⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x4x704, .f32⟩
  | .hbm, ⟨29, _⟩ => ⟨S4x4096x704, .f32⟩
  | .hbm, ⟨30, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel11.lean ====
abbrev S4x4096x704 : Shape := ⟨3, ![4, 4096, 704]⟩
abbrev S2816x1024 : Shape := ⟨2, ![2816, 1024]⟩
abbrev S4096x1024 : Shape := ⟨2, ![4096, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4x4096x704 : Shape := ⟨3, ![4, 4096, 704]⟩
abbrev S2816x1024 : Shape := ⟨2, ![2816, 1024]⟩
abbrev S4096x4x704 : Shape := ⟨3, ![4096, 4, 704]⟩
abbrev S4096x2816 : Shape := ⟨2, ![4096, 2816]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S2816x1024, .f32⟩
  | .hbm, ⟨6, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4352x1024 : Shape := ⟨2, ![4352, 1024]⟩
abbrev S1024x7168 : Shape := ⟨2, ![1024, 7168]⟩
abbrev S4352x7168 : Shape := ⟨2, ![4352, 7168]⟩
abbrev S544x1024 : Shape := ⟨2, ![544, 1024]⟩
abbrev S1024x3584 : Shape := ⟨2, ![1024, 3584]⟩
abbrev S544x3584 : Shape := ⟨2, ![544, 3584]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x7168, .bf16⟩
  | .hbm, ⟨2, _⟩ => ⟨S4352x7168, .f32⟩
  | .local _ .vmem, ⟨0, _⟩ => ⟨S544x1024, .bf16⟩
  | .local _ .vmem, ⟨1, _⟩ => ⟨S544x1024, .bf16⟩
  | .local _ .vmem, ⟨2, _⟩ => ⟨S1024x3584, .bf16⟩
  | .local _ .vmem, ⟨3, _⟩ => ⟨S1024x3584, .bf16⟩
  | .local _ .vmem, ⟨4, _⟩ => ⟨S544x3584, .f32⟩
  | .local _ .vmem, ⟨5, _⟩ => ⟨S544x3584, .f32⟩
  | .local _ .vmem, ⟨6, _⟩ => ⟨S8x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S544x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x1024 : Shape := ⟨2, ![4352, 1024]⟩
abbrev S1024x7168 : Shape := ⟨2, ![1024, 7168]⟩
abbrev S4352x7168 : Shape := ⟨2, ![4352, 7168]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x7168, .bf16⟩
  | .hbm, ⟨2, _⟩ => ⟨S4352x1024, .f32⟩
  | .hbm, ⟨3, _⟩ => ⟨S1024x7168, .f32⟩
  | .hbm, ⟨4, _⟩ => ⟨S4352x7168, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S4352x7168 : Shape := ⟨2, ![4352, 7168]⟩
abbrev S1024x1024 : Shape := ⟨2, ![1024, 1024]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4352x7168, .f32⟩
  | .hbm, ⟨3, _⟩ => ⟨S1024x1024, .bf16⟩
  | .hbm, ⟨4, _⟩ => ⟨S1024x1024, .bf16⟩
  | .hbm, ⟨5, _⟩ => ⟨S2048, .f32⟩
  | .hbm, ⟨6, _⟩ => ⟨S1x2048, .f32⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1024x1024, .bf16⟩
  | .local _ .vmem, ⟨7, _⟩ => ⟨S1024x1024, .bf16⟩
  | .local _ .vmem, ⟨8, _⟩ => ⟨S1x2048, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4096x1024 : Shape := ⟨2, ![4096, 1024]⟩
abbrev S4352x7168 : Shape := ⟨2, ![4352, 7168]⟩
abbrev S1024x1024 : Shape := ⟨2, ![1024, 1024]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4352x7168, .f32⟩
  | .hbm, ⟨3, _⟩ => ⟨S1024x1024, .bf16⟩
  | .hbm, ⟨4, _⟩ => ⟨S1024x1024, .bf16⟩
  | .hbm, ⟨5, _⟩ => ⟨S2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel15.lean ====
abbrev S4352x1024 : Shape := ⟨2, ![4352, 1024]⟩
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S4352x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference15Ideal.lean ====
abbrev S4352x1024 : Shape := ⟨2, ![4352, 1024]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel13.lean ====
abbrev S4096x1024 : Shape := ⟨2, ![4096, 1024]⟩
abbrev S4352x7168 : Shape := ⟨2, ![4352, 7168]⟩
abbrev S2048 : Shape := ⟨1, ![2048]⟩
abbrev S1024x1024 : Shape := ⟨2, ![1024, 1024]⟩
abbrev S1x2048 : Shape := ⟨2, ![1, 2048]⟩
abbrev S256x1024 : Shape := ⟨2, ![256, 1024]⟩
abbrev S256x2048 : Shape := ⟨2, ![256, 2048]⟩

abbrev nBuf : Space → Nat
  | .hbm => 13
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4352x7168, .f32⟩
  | .hbm, ⟨3, _⟩ => ⟨S2048, .f32⟩
  | .hbm, ⟨4, _⟩ => ⟨S1024x1024, .bf16⟩
  | .hbm, ⟨5, _⟩ => ⟨S4096x1024, .bf16⟩
  | .hbm, ⟨6, _⟩ => ⟨S4352x7168, .bf16⟩
  | .hbm, ⟨7, _⟩ => ⟨S1x2048, .f32⟩
  | .hbm, ⟨8, _⟩ => ⟨S4096x1024, .bf16⟩
  | .hbm, ⟨9, _⟩ => ⟨S4096x1024, .bf16⟩
  | .hbm, ⟨10, _⟩ => ⟨S4352x7168, .bf16⟩
  | .hbm, ⟨11, _⟩ => ⟨S1x2048, .f32⟩
  | .hbm, ⟨12, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32_20 : BitVec 32 := 0#32
  let v44 : BitVec 1 := Scalar.cmpi .eq arg0 c0_i32_20
  let v45 : BitVec 32 := Scalar.extui v44
  let c0_i32_21 : BitVec 32 := 0#32
  let v46 : BitVec 1 := Scalar.cmpi .ne v45 c0_i32_21
  v46

def k0_cond2 (i : grid0.Coords) : BitVec 1 :=
  let arg0 : BitVec 32 := BitVec.ofNat 32 (i 0).val
  let c0_i32_20 : BitVec 32 := 0#32
  let v44 : BitVec 1 := Scalar.cmpi .eq arg0 c0_i32_20
  let v_true : BitVec 1 := 1#1
  let v47 : BitVec 1 := Scalar.xori v44 v_true
  let v48 : BitVec 32 := Scalar.extui v47
  let c0_i32_22 : BitVec 32 := 0#32
  let v49 : BitVec 1 := Scalar.cmpi .ne v48 c0_i32_22
  v49

def k0_cond3 (i : grid0.Coords) : BitVec 1 :=
  let arg0 : BitVec 32 := BitVec.ofNat 32 (i 0).val
  let c0_i32_23 : BitVec 32 := 0#32
  let v50 : BitVec 1 := Scalar.cmpi .eq arg0 c0_i32_23
  let v51 : BitVec 32 := Scalar.extui v50
  let c0_i32_24 : BitVec 32 := 0#32
  let v52 : BitVec 1 := Scalar.cmpi .ne v51 c0_i32_24
  v52

def k0_cond4 (i : grid0.Coords) : BitVec 1 :=
  let arg0 : BitVec 32 := BitVec.ofNat 32 (i 0).val
  let c0_i32_23 : BitVec 32 := 0#32
  let v50 : BitVec 1 := Scalar.cmpi .eq arg0 c0_i32_23
  let true_25 : BitVec 1 := 1#1
  let v53 : BitVec 1 := Scalar.xori v50 true_25
  let v54 : BitVec 32 := Scalar.extui v53
  let c0_i32_26 : BitVec 32 := 0#32
  let v55 : BitVec 1 := Scalar.cmpi .ne v54 c0_i32_26
  v55

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference13Ideal.lean ====
abbrev S4096x1024 : Shape := ⟨2, ![4096, 1024]⟩
abbrev S4352x7168 : Shape := ⟨2, ![4352, 7168]⟩
abbrev S2048 : Shape := ⟨1, ![2048]⟩
abbrev S1024x1024 : Shape := ⟨2, ![1024, 1024]⟩
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S4352x2048 : Shape := ⟨2, ![4352, 2048]⟩
abbrev S4352x5120 : Shape := ⟨2, ![4352, 5120]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4352x7168, .f32⟩
  | .hbm, ⟨3, _⟩ => ⟨S2048, .f32⟩
  | .hbm, ⟨4, _⟩ => ⟨S1024x1024, .bf16⟩
  | .hbm, ⟨5, _⟩ => ⟨S4096x1024, .bf16⟩
  | .hbm, ⟨6, _⟩ => ⟨S4352x7168, .bf16⟩
  | .hbm, ⟨7, _⟩ => ⟨S4096x2048, .f32⟩
  | .hbm, ⟨8, _⟩ => ⟨S1024x1024, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S1024x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x2048, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S256x2048, .f32⟩
  | .hbm, ⟨51, _⟩ => ⟨S4352x2048, .f32⟩
  | .hbm, ⟨52, _⟩ => ⟨S4096x1024, .bf16⟩
  | .hbm, ⟨53, _⟩ => ⟨S4096x1024, .bf16⟩
  | .hbm, ⟨54, _⟩ => ⟨S4352x2048, .bf16⟩
  | .hbm, ⟨55, _⟩ => ⟨S4352x5120, .bf16⟩
  | .hbm, ⟨56, _⟩ => ⟨S4352x7168, .bf16⟩
  | .hbm, ⟨57, _⟩ => ⟨S1x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel16.lean ====
abbrev S4352x7168 : Shape := ⟨2, ![4352, 7168]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S4096x1024 : Shape := ⟨2, ![4096, 1024]⟩
abbrev S128x2048 : Shape := ⟨2, ![128, 2048]⟩
abbrev S128x1024 : Shape := ⟨2, ![128, 1024]⟩

abbrev nBuf : Space → Nat
  | .hbm => 48
  | .vmem => 22
  | .smem => 0
  | _ => 0

abbrev bufTy : (tb : Table) → Fin (tcTables nBuf tb) → BufTy
  | .hbm, ⟨0, _⟩ => ⟨S4352x7168, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S1x128x128, .f32⟩
  | .hbm, ⟨8, _⟩ => ⟨S128x128, .f32⟩
  | .hbm, ⟨9, _⟩ => ⟨S1x128x128, .f32⟩
  | .hbm, ⟨10, _⟩ => ⟨S128x128, .f32⟩
  | .hbm, ⟨11, _⟩ => ⟨S1x128x128, .f32⟩
  | .hbm, ⟨12, _⟩ => ⟨S128x128, .f32⟩
  | .hbm, ⟨13, _⟩ => ⟨S1x128x128, .f32⟩
  | .hbm, ⟨14, _⟩ => ⟨S128x128, .f32⟩
  | .hbm, ⟨15, _⟩ => ⟨S1x128x128, .f32⟩
  | .hbm, ⟨16, _⟩ => ⟨S128x128, .f32⟩
  | .hbm, ⟨17, _⟩ => ⟨S1x128x128, .f32⟩
  | .hbm, ⟨18, _⟩ => ⟨S128x128, .f32⟩
  | .hbm, ⟨19, _⟩ => ⟨S1x128x128, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128, .f32⟩
  | .hbm, ⟨24, _⟩ => ⟨S128, .f32⟩
  | .hbm, ⟨25, _⟩ => ⟨S128x1, .f32⟩
  | .hbm, ⟨26, _⟩ => ⟨S1x128, .f32⟩
  | .hbm, ⟨27, _⟩ => ⟨S128, .f32⟩
  | .hbm, ⟨28, _⟩ => ⟨S128x1, .f32⟩
  | .hbm, ⟨29, _⟩ => ⟨S1x128, .f32⟩
  | .hbm, ⟨30, _⟩ => ⟨S128, .f32⟩
  | .hbm, ⟨31, _⟩ => ⟨S128x1, .f32⟩
  | .hbm, ⟨32, _⟩ => ⟨S1x128, .f32⟩
  | .hbm, ⟨33, _⟩ => ⟨S128, .f32⟩
  | .hbm, ⟨34, _⟩ => ⟨S128x1, .f32⟩
  | .hbm, ⟨35, _⟩ => ⟨S1x128, .f32⟩
  | .hbm, ⟨36, _⟩ => ⟨S128, .f32⟩
  | .hbm, ⟨37, _⟩ => ⟨S128x1, .f32⟩
  | .hbm, ⟨38, _⟩ => ⟨S1x128, .f32⟩
  | .hbm, ⟨39, _⟩ => ⟨S128, .f32⟩
  | .hbm, ⟨40, _⟩ => ⟨S128x1, .f32⟩
  | .hbm, ⟨41, _⟩ => ⟨S1x128, .f32⟩
  | .hbm, ⟨42, _⟩ => ⟨S128, .f32⟩
  | .hbm, ⟨43, _⟩ => ⟨S128x1, .f32⟩
  | .hbm, ⟨44, _⟩ => ⟨S1x128, .f32⟩
  | .hbm, ⟨45, _⟩ => ⟨S128, .f32⟩
  | .hbm, ⟨46, _⟩ => ⟨S128x1, .f32⟩
  | .hbm, ⟨47, _⟩ => ⟨S4096x1024, .bf16⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S1x1024, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S128x1, .f32⟩
  | .local _ .vmem, ⟨20, _⟩ => ⟨S128x1024, .bf16⟩
  | .local _ .vmem, ⟨21, _⟩ => ⟨S128x1024, .bf16⟩
  | _, _ => ⟨S4352x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let v1 : BitVec 32 := Scalar.maxsi v0 c0_i32
  let c1_i32 : BitVec 32 := 1#32
  let c0_i32_0 : BitVec 32 := 0#32
  ![v1.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference16Ideal.lean ====
abbrev S4352x7168 : Shape := ⟨2, ![4352, 7168]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 81
  | .vmem => 0
  | .smem => 0
  | _ => 0

abbrev bufTy : (tb : Table) → Fin (tcTables nBuf tb) → BufTy
  | .hbm, ⟨0, _⟩ => ⟨S4352x7168, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S32x128x8x128, .f32⟩
  | .hbm, ⟨71, _⟩ => ⟨S8x32x128x128, .f32⟩
  | .hbm, ⟨72, _⟩ => ⟨S32x128x8x128, .f32⟩
  | .hbm, ⟨73, _⟩ => ⟨S128x8, .f32⟩
  | .hbm, ⟨74, _⟩ => ⟨S128x8x1, .f32⟩
  | .hbm, ⟨75, _⟩ => ⟨S1x128x8x1, .f32⟩
  | .hbm, ⟨76, _⟩ => ⟨S32x128x8x128, .f32⟩
  | .hbm, ⟨77, _⟩ => ⟨S32x128x8x128, .f32⟩
  | .hbm, ⟨78, _⟩ => ⟨S4096x1024, .f32⟩
  | .hbm, ⟨79, _⟩ => ⟨S4096x1024, .f32⟩
  | .hbm, ⟨80, _⟩ => ⟨S4096x1024, .bf16⟩
  | _, _ => ⟨S4352x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel17.lean ====
abbrev S4352x1024 : Shape := ⟨2, ![4352, 1024]⟩
abbrev S4352x1536 : Shape := ⟨2, ![4352, 1536]⟩
abbrev S4352x7168 : Shape := ⟨2, ![4352, 7168]⟩
abbrev S1024 : Shape := ⟨1, ![1024]⟩
abbrev S1x1024 : Shape := ⟨2, ![1, 1024]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1536, .f32⟩
  | .hbm, ⟨3, _⟩ => ⟨S4352x7168, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4352x1024 : Shape := ⟨2, ![4352, 1024]⟩
abbrev S4352x1536 : Shape := ⟨2, ![4352, 1536]⟩
abbrev S4352x7168 : Shape := ⟨2, ![4352, 7168]⟩
abbrev S1024 : Shape := ⟨1, ![1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1536, .f32⟩
  | .hbm, ⟨3, _⟩ => ⟨S4352x7168, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Proof.Gate.Array.lean ====
/- What the kernel of the gated unit's backward pass leaves in its two result arrays, entry by entry. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Gate

open Cert.KernelIdeal Cert.KernelIdeal.Gen

variable (m : (ℓ : Loc nD τ sig) → Buf (Elt Ideal) ℓ)

/-- The gradient of the gated activation at slab `s`, row `r`, column `c`: the row of the incoming gradient times
    the matching row of the second weight. -/
def dact (D : FVec Ideal S4096x1024 .bf16) (W : FVec Ideal S2816x1024 .bf16) (s : Fin 4) (r : Fin 4096) (c : Fin 704) : EReal :=
  ∑ k : Fin 1024, D (ix2 r k) * W (ix2 ⟨s.val * 704 + c.val, by omega⟩ k)

/-- The gradient with respect to the gate's pre-activation, in the form the kernel computes it. -/
def dgate (D : FVec Ideal S4096x1024 .bf16) (W : FVec Ideal S2816x1024 .bf16) (A B : FVec Ideal S4x4096x704 .bf16)
    (i : S4x4096x704.Idx) : EReal :=
  dact D W (i 0) (i 1) (i 2) * B i * (Ideal.logistic (A i) * (1 + A i * (1 - Ideal.logistic (A i))))

/-- The gradient with respect to the other factor, in the form the kernel computes it. -/
def dlin (D : FVec Ideal S4096x1024 .bf16) (W : FVec Ideal S2816x1024 .bf16) (A : FVec Ideal S4x4096x704 .bf16)
    (i : S4x4096x704.Idx) : EReal :=
  dact D W (i 0) (i 1) (i 2) * (A i * Ideal.logistic (A i))

/-- Where every window's block sits at grid point `t`: the row tile moves, the weight stays. -/
theorem idx : ∀ t : Fin cfg0.N, win0_0.index t = ![t.val, 0] ∧ win0_1.index t = ![0, 0] ∧ win0_2.index t = ![0, t.val, 0]
    ∧ win0_3.index t = ![0, t.val, 0] ∧ win0_4.index t = ![0, t.val, 0] ∧ win0_5.index t = ![0, t.val, 0] :=
  (by decide +kernel : ∀ t : Fin grid0.N, _)

/-- The gate's gradient array after the run. -/
theorem final4 (c : Dev nD) : (dats m 0 c).arrAt 4 (cfgs 0).N
    = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold_out out0_4
  canon_tiles x h
  all_goals (open_payloads; pointwise [dgate, dact]; blk_point [iblk, V, idx t])

/-- The other factor's gradient array after the run. -/
theorem final5 (c : Dev nD) : (dats m 0 c).arrAt 5 (cfgs 0).N
    = dlin (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold_out out0_5
  canon_tiles x h
  all_goals (open_payloads; pointwise [dlin, dact]; blk_point [iblk, V, idx t])

end Cert.KernelIdeal.Gate

end
-- ==== Proof.Gate.Ref.lean ====
/- The reference's two results, entry by entry. -/
module

public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Gate

open Cert.ReferenceIdeal Cert.ReferenceIdeal.Gen Cert.ReferenceIdeal.Read

/-- The reference's gradient with respect to the gate's pre-activation, at one entry: the derivative of `x · logistic x`
    spread over its two terms. -/
theorem gate_at (x0 : FVec Ideal S4096x1024 .bf16) (x1 : FVec Ideal S2816x1024 .bf16) (x2 x3 : FVec Ideal S4x4096x704 .bf16)
    (s : Fin 4) (r : Fin 4096) (c : Fin 704) : val_main_v19 (F := Ideal) x0 x1 x2 x3 (ix3 s r c)
    = (∑ k : Fin 1024, x0 (ix2 r k) * x1 (ix2 ⟨s.val * 704 + c.val, by omega⟩ k)) * x3 (ix3 s r c) * Ideal.logistic (x2 (ix3 s r c))
      + x2 (ix3 s r c) * ((∑ k : Fin 1024, x0 (ix2 r k) * x1 (ix2 ⟨s.val * 704 + c.val, by omega⟩ k)) * x3 (ix3 s r c))
        * (Ideal.logistic (x2 (ix3 s r c)) * (1 - Ideal.logistic (x2 (ix3 s r c)))) := by
  pointwise [val_main_v0, val_main_v1, val_main_v2, val_main_v3, val_main_call0_v0, val_main_call0_v1, val_main_call0_cst, val_main_call0_v2, val_main_call0_v3, val_main_call0_cst_0, val_main_call0_v4, val_main_v4_2, val_main_call0_cst_1, val_main_call0_v6, val_main_call0_v7, val_main_v4_1, val_main_v4_0, val_main_v5, val_main_v6, val_main_v7, val_main_v8, val_main_v9, val_main_v10, val_main_v11, val_main_v12, val_main_v13, val_main_v14, val_main_v15, val_main_call1_v0, val_main_call1_v1, val_main_call1_v2, val_main_v16, val_main_v17, val_main_v18, val_main_v19, val_main_v20]
  rfl

/-- The reference's gradient with respect to the other factor, at one entry. -/
theorem lin_at (x0 : FVec Ideal S4096x1024 .bf16) (x1 : FVec Ideal S2816x1024 .bf16) (x2 : FVec Ideal S4x4096x704 .bf16)
    (s : Fin 4) (r : Fin 4096) (c : Fin 704) : val_main_v20 (F := Ideal) x0 x1 x2 (ix3 s r c)
    = x2 (ix3 s r c) * Ideal.logistic (x2 (ix3 s r c)) * (∑ k : Fin 1024, x0 (ix2 r k) * x1 (ix2 ⟨s.val * 704 + c.val, by omega⟩ k)) := by
  pointwise [val_main_v0, val_main_v1, val_main_v2, val_main_v3, val_main_call0_v0, val_main_call0_v1, val_main_call0_cst, val_main_call0_v2, val_main_call0_v3, val_main_call0_cst_0, val_main_call0_v4, val_main_v4_2, val_main_call0_cst_1, val_main_call0_v6, val_main_call0_v7, val_main_v4_1, val_main_v4_0, val_main_v5, val_main_v6, val_main_v7, val_main_v8, val_main_v9, val_main_v10, val_main_v11, val_main_v12, val_main_v13, val_main_v14, val_main_v15, val_main_call1_v0, val_main_call1_v1, val_main_call1_v2, val_main_v16, val_main_v17, val_main_v18, val_main_v19, val_main_v20]
  rfl

end Cert.ReferenceIdeal.Gate

end
-- ==== Proof.Finite.lean ====
/- Finite extended reals: the ones that are a real number, closed under the arithmetic the programs do. -/
module

public import Idealize.ShloMosaic.Lib.Pointwise
public import Idealize.ShloMosaic.Lib.ReduceAll

@[expose] public section

noncomputable section

open Idealize.ShloMosaic

namespace Cert.Finite

/-- `x` is a real number: neither infinity. -/
def IsFin (x : EReal) : Prop := ∃ r : ℝ, x = (r : EReal)

/-- A real number is finite. -/
theorem coe (r : ℝ) : IsFin (r : EReal) := ⟨r, rfl⟩
/-- Zero is finite. -/
theorem zero : IsFin 0 := ⟨0, rfl⟩
/-- One is finite. -/
theorem one : IsFin 1 := ⟨1, rfl⟩
/-- Sums of two finite values are finite. -/
theorem IsFin.add {x y : EReal} : IsFin x → IsFin y → IsFin (x + y) := by
  rintro ⟨a, rfl⟩ ⟨b, rfl⟩; exact ⟨a + b, by norm_cast⟩
/-- Products of two finite values are finite. -/
theorem IsFin.mul {x y : EReal} : IsFin x → IsFin y → IsFin (x * y) := by
  rintro ⟨a, rfl⟩ ⟨b, rfl⟩; exact ⟨a * b, by norm_cast⟩
/-- Differences of two finite values are finite. -/
theorem IsFin.sub {x y : EReal} : IsFin x → IsFin y → IsFin (x - y) := by
  rintro ⟨a, rfl⟩ ⟨b, rfl⟩; exact ⟨a - b, by norm_cast⟩
/-- The negative of a finite value is finite. -/
theorem IsFin.neg {x : EReal} : IsFin x → IsFin (-x) := by
  rintro ⟨a, rfl⟩; exact ⟨-a, by norm_cast⟩
/-- A finite sum of reals, as extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih]; norm_cast
/-- A finite sum of finite values is finite. -/
theorem IsFin.sum {ι : Type} {s : Finset ι} {f : ι → EReal} (h : ∀ i ∈ s, IsFin (f i)) : IsFin (∑ i ∈ s, f i) := by
  classical
  induction s using Finset.induction_on with
  | empty => simpa using zero
  | insert a s hs ih =>
    rw [Finset.sum_insert hs]
    exact (h a (Finset.mem_insert_self a s)).add (ih fun i hi => h i (Finset.mem_insert_of_mem hi))
/-- A sum over a whole finite type of finite values is finite. -/
theorem IsFin.sum_univ {ι : Type} [Fintype ι] {f : ι → EReal} (h : ∀ i, IsFin (f i)) : IsFin (∑ i, f i) :=
  IsFin.sum fun i _ => h i
/-- The logistic function of a finite value is finite. -/
theorem IsFin.logistic {x : EReal} : IsFin x → IsFin (Ideal.logistic x) := by
  rintro ⟨a, rfl⟩; exact ⟨_, Ideal.logistic_coe a⟩

/-- A value whose absolute value lies below `+∞` is finite. -/
theorem of_abs_lt_top {x : EReal} (h : max x (-x) < ⊤) : IsFin x := by
  induction x with
  | bot => simp at h
  | top => simp at h
  | coe r => exact ⟨r, rfl⟩

/-- The pattern of `+∞` denotes the top element. -/
theorem ofBits_inf : Ideal.ofBits .f32 0x7F800000#32 = ⊤ := by simp [Ideal.ofBits, Ideal.ieee]

/-- The comparison the precondition makes of one entry: if it came out true, the entry is finite. -/
theorem of_cmp {x : EReal} (h : Ideal.cmp .olt (max x (-x)) (Ideal.ofBits .f32 0x7F800000#32) = 1#1) : IsFin x := by
  rw [ofBits_inf] at h
  by_contra hx
  have hn : ¬ max x (-x) < ⊤ := fun hl => hx (of_abs_lt_top hl)
  simp [Ideal.cmp, hn] at h

end Cert.Finite

end
-- ==== Proof.Gate.Pre.lean ====
/- The precondition read entry by entry: every argument is finite. -/
module

public import proofs.«01_k».proof.Defs
public import proofs.«01_k».proof.Proof.Gen.Pre_finite
public import proofs.«01_k».proof.Proof.Finite

@[expose] public section

set_option maxRecDepth 16384

noncomputable section

open Idealize.ShloMosaic Cert.Finite

namespace Cert.Pre_finite

/-- If the precondition holds of four arrays, every entry of each is finite. -/
theorem finite_of (x0 : FVec Ideal S4096x1024 .bf16) (x1 : FVec Ideal S2816x1024 .bf16) (x2 x3 : FVec Ideal S4x4096x704 .bf16)
    (h : fn (F := Ideal) x0 x1 x2 x3 = fun _ => 1#1) :
    (∀ i, IsFin (x0 i)) ∧ (∀ i, IsFin (x1 i)) ∧ (∀ i, IsFin (x2 i)) ∧ (∀ i, IsFin (x3 i)) := by
  haveI : Subsingleton S_.Idx := ⟨fun a b => funext fun i => i.elim0⟩
  have e := congrFun h (fun a => a.elim0)
  obtain ⟨e, e3⟩ := IntOp.andi_eq_one.1 e
  obtain ⟨e, e2⟩ := IntOp.andi_eq_one.1 e
  obtain ⟨e0, e1⟩ := IntOp.andi_eq_one.1 e
  exact ⟨fun i => of_cmp (Host.reduce_andi_all _ _ _ _ _ e0 i), fun i => of_cmp (Host.reduce_andi_all _ _ _ _ _ e1 i),
    fun i => of_cmp (Host.reduce_andi_all _ _ _ _ _ e2 i), fun i => of_cmp (Host.reduce_andi_all _ _ _ _ _ e3 i)⟩

end Cert.Pre_finite

end
-- ==== Proof.Gate.Eq.lean ====
/- The gated unit's backward pass: the kernel's two arrays are the reference's, for finite arguments. -/
module

public import proofs.«01_k».proof.Proof.Gate.Array
public import proofs.«01_k».proof.Proof.Gate.Ref
public import proofs.«01_k».proof.Proof.Gate.Pre

@[expose] public section

set_option maxRecDepth 16384

noncomputable section

open Idealize.ShloMosaic Idealize.ShloMosaic.TcCoe Cert.Finite

namespace Cert.Gate

open Cert.KernelIdeal.Gate Cert.ReferenceIdeal.Gate Cert.ReferenceIdeal.Read

/-- The derivative of `x · logistic x`, factored as the kernel has it and spread out as the reference has it. -/
theorem gate_real {d b a l : EReal} (hd : IsFin d) (hb : IsFin b) (ha : IsFin a) (hl : IsFin l) :
    d * b * (l * (1 + a * (1 - l))) = d * b * l + a * (d * b) * (l * (1 - l)) := by
  obtain ⟨d, rfl⟩ := hd
  obtain ⟨b, rfl⟩ := hb
  obtain ⟨a, rfl⟩ := ha
  obtain ⟨l, rfl⟩ := hl
  have h1 : (1 : EReal) = ((1 : ℝ) : EReal) := rfl
  rw [h1]
  norm_cast
  ring

/-- The gate's gradient array. -/
theorem gate_eq (x0 : FVec Ideal Cert.KernelIdeal.S4096x1024 .bf16) (x1 : FVec Ideal Cert.KernelIdeal.S2816x1024 .bf16)
    (x2 x3 : FVec Ideal Cert.KernelIdeal.S4x4096x704 .bf16) (h0 : ∀ i, IsFin (x0 i)) (h1 : ∀ i, IsFin (x1 i))
    (h2 : ∀ i, IsFin (x2 i)) (h3 : ∀ i, IsFin (x3 i)) :
    dgate x0 x1 x2 x3 = val_main_v19 (F := Ideal) x0 x1 x2 x3 := by
  funext i
  idx_vars i
  refine Eq.trans ?_ (gate_at x0 x1 x2 x3 i0 i1 i2).symm
  exact gate_real (IsFin.sum_univ fun k => (h0 _).mul (h1 _)) (h3 _) (h2 _) (h2 _).logistic

/-- The other factor's gradient array. -/
theorem lin_eq (x0 : FVec Ideal Cert.KernelIdeal.S4096x1024 .bf16) (x1 : FVec Ideal Cert.KernelIdeal.S2816x1024 .bf16)
    (x2 : FVec Ideal Cert.KernelIdeal.S4x4096x704 .bf16) :
    dlin x0 x1 x2 = val_main_v20 (F := Ideal) x0 x1 x2 := by
  funext i
  idx_vars i
  refine Eq.trans ?_ (lin_at x0 x1 x2 i0 i1 i2).symm
  exact mul_comm _ _

end Cert.Gate

end
-- ==== Proof.FfInX.Array.lean ====
/- What the kernel of the FFN's input products' backward pass with respect to the rows leaves in its result. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Final

open Cert.Kernel3Ideal Cert.Kernel3Ideal.Gen

variable (m : (ℓ : Loc nD τ sig) → Buf (Elt Ideal) ℓ)

/-- Slab `s` of a product of a slabbed gradient's row `r` with row `d` of a slabbed weight. -/
def part (D : FVec Ideal S4x4096x704 .bf16) (W : FVec Ideal S4x1024x704 .bf16) (s : Fin 4) (r : Fin 4096) (d : Fin 1024) : EReal :=
  ∑ k : Fin 704, D (ix3 s r k) * W (ix3 s d k)

/-- The four slabs of that product, added. -/
def prod (D : FVec Ideal S4x4096x704 .bf16) (W : FVec Ideal S4x1024x704 .bf16) (r : Fin 4096) (d : Fin 1024) : EReal :=
  part D W 0 r d + part D W 1 r d + part D W 2 r d + part D W 3 r d

/-- The gradient with respect to the rows: what comes back through either weight, added. -/
def dh (D1 D3 : FVec Ideal S4x4096x704 .bf16) (W1 W3 : FVec Ideal S4x1024x704 .bf16) (i : S4096x1024.Idx) : EReal :=
  prod D3 W3 (i 0) (i 1) + prod D1 W1 (i 0) (i 1)

/-- Where every window's block sits at grid point `t`: the row tiles move, the weights stay. -/
theorem idx : ∀ t : Fin cfg0.N, win0_0.index t = ![0, t.val, 0] ∧ win0_1.index t = ![0, t.val, 0] ∧ win0_2.index t = ![0, 0, 0]
    ∧ win0_3.index t = ![0, 0, 0] ∧ win0_4.index t = ![t.val, 0] :=
  (by decide +kernel : ∀ t : Fin grid0.N, _)

/-- The result array after the run. -/
theorem final (c : Dev nD) : (dats m 0 c).arrAt 4 (cfgs 0).N = dh (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  open_payloads
  pointwise [dh, prod, part]
  blk_point [iblk, V, idx t]

end Cert.Kernel3Ideal.Final

end
-- ==== Proof.FfInX.Ref.lean ====
/- The reference's gradient of the FFN's input products with respect to the rows is what the kernel leaves. -/
module

public import proofs.«01_k».proof.Proof.FfInX.Array
public import proofs.«01_k».proof.Proof.Gen.Reference3Ideal.Read

@[expose] public section

set_option maxRecDepth 16384

noncomputable section

open Idealize.ShloMosaic Idealize.ShloMosaic.TcCoe Idealize.SL.Sem

namespace Cert.Reference3Ideal.Final

open Cert.Reference3Ideal Cert.Reference3Ideal.Gen Cert.Reference3Ideal.Read

/-- A product over the whole width is the product over its four slabs. -/
theorem slabs (D : FVec Ideal S4x4096x704 .bf16) (W : FVec Ideal S4x1024x704 .bf16) (r : Fin 4096) (d : Fin 1024) :
    ∑ k : Fin 2816, D (ix3 ⟨k.val / 704, by omega⟩ r ⟨k.val % 704, by omega⟩) * W (ix3 ⟨k.val / 704, by omega⟩ d ⟨k.val % 704, by omega⟩)
      = Cert.Kernel3Ideal.Final.prod D W r d := by
  refine (Fin.sum_divmod_fin 704 fun (s : Fin 4) (k : Fin 704) => D (ix3 s r k) * W (ix3 s d k)).trans ?_
  rw [Fin.sum_univ_four]
  rfl

/-- The reference's result is the kernel's. -/
theorem eq (x0 x1 : FVec Ideal S4x4096x704 .bf16) (x2 x3 : FVec Ideal S4x1024x704 .bf16) :
    val_main_v17 (F := Ideal) x0 x1 x2 x3 = Cert.Kernel3Ideal.Final.dh x0 x1 x2 x3 := by
  funext i
  idx_vars i
  refine Eq.trans ?_ (congrArg₂ (· + ·) (slabs x1 x3 i0 i1) (slabs x0 x2 i0 i1))
  pointwise [val_main_v0, val_main_v1, val_main_v2, val_main_v3, val_main_v5, val_main_v6, val_main_v7, val_main_v9, val_main_v10, val_main_v11, val_main_v12, val_main_v13, val_main_v14, val_main_v15, val_main_v16, val_main_v17]

end Cert.Reference3Ideal.Final

end
-- ==== Proof.FfInX.Claim.lean ====
/- The claims about the call that computes the gradient of the FFN's input products with respect to the rows. -/
module

public import proofs.«01_k».proof.Defs
public import proofs.«01_k».proof.Proof.FfInX.Ref
public import proofs.«01_k».proof.Proof.Gen.Reference3Ideal.Run
public import Idealize.ShloMosaic.Adequacy
public import Idealize.ShloMosaic.Lib.Claim
public import Idealize.ShloMosaic.Lib.StableHlo.RunHlo

@[expose] public section

set_option maxRecDepth 16384

noncomputable section

namespace Cert.FfInX

open Idealize.ShloMosaic Idealize.SL.Sem

/-- The reference runs, leaves its arguments alone, and has no counter to leave off zero. -/
theorem frame_ref : Cert.quiescent_Reference3Ideal := fun m g _ => by
  refine (θ_run _ _ _).mono (fun r h => ⟨fun c => (h c).2, ?_⟩) (Cert.Reference3Ideal.Value.run m g)
  exact Idealize.ShloMosaic.sem_eq_zero_of_no_sems (by decide) r.2

/-- The call ends with the gradient of the FFN's input products with respect to the rows, as the reference does. -/
theorem value : Cert.algebraic_Kernel3Ideal_Reference3Ideal := by
  pair_intro
  · run_from Cert.Kernel3Ideal.Value.run_blocks m g
  · run_from Cert.Reference3Ideal.Value.run m' g'
    rw [Cert.Kernel3Ideal.Final.final, Cert.Reference3Ideal.Read.val_main_v17_eq]
    exact Cert.Reference3Ideal.Final.eq _ _ _ _

end Cert.FfInX

end
-- ==== Proof.FfInW.Array.lean ====
/- What the kernel of an FFN input product's backward pass with respect to the weight leaves in its result. -/
module

public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Final

open Cert.Kernel4Ideal Cert.Kernel4Ideal.Gen

variable (m : (ℓ : Loc nD τ sig) → Buf (Elt Ideal) ℓ)

/-- Slab `s`, row `d`, column `c` of the product of the transposed rows with a slabbed gradient. -/
def prod (X : FVec Ideal S4096x1024 .bf16) (Y : FVec Ideal S4x4096x704 .bf16) (i : S4x1024x704.Idx) : EReal :=
  ∑ k : Fin 4096, X (ix2 k (i 1)) * Y (ix3 (i 0) k (i 2))

/-- Where every window's block sits at grid point `t`. -/
theorem idx : ∀ t : Fin cfg0.N, win0_0.index t = ![t.val, 0] ∧ win0_1.index t = ![0, t.val, 0] ∧ win0_2.index t = ![0, 0, 0] :=
  (by decide +kernel : ∀ t : Fin grid0.N, _)

/-- The product of one point's two blocks. -/
def share (X : FVec Ideal S512x1024 .bf16) (Y : FVec Ideal S4x512x704 .bf16) (j : S4x1024x704.Idx) : EReal :=
  ∑ k : Fin 512, X (ix2 k (j 1)) * Y (ix3 (j 0) k (j 2))

/-- One point's share of the accumulator. -/
def shareAt (c : Dev nD) (t : Fin cfg0.N) (j : S4x1024x704.Idx) : EReal :=
  share (iblk m c 0 t) (iblk m c 1 t) j

/-- A step after the first adds its point's share to what the accumulator held. -/
theorem step (c : Dev nD) (t : Fin cfg0.N) (h : ¬t.val % 8 = 0) (j : S4x1024x704.Idx) :
    (outsAt0 m c t.val t.isLt).2 j = (outsAt0 m c (t.val - 1) (Nat.lt_of_le_of_lt (Nat.sub_le _ _) t.isLt)).2 j + shareAt m c t j := by
  by_cases h1 : t.val % 8 = 7
  · rw [outsAt0_C m c t h h1]
    frame_out
    simp only [read_unread_whole]
    canon_tiles x h
    all_goals (open_payloads; pointwise [shareAt, share]; blk_point)
  · rw [outsAt0_B m c t h h1]
    frame_out
    simp only [read_unread_whole]
    canon_tiles x h
    all_goals (open_payloads; pointwise [shareAt, share]; blk_point)

/-- The first step leaves its point's share: the fill with zeros is all that its loads read. -/
theorem start (c : Dev nD) (t : Fin cfg0.N) (h : t.val % 8 = 0) (j : S4x1024x704.Idx) :
    (outsAt0 m c t.val t.isLt).2 j = 0 + shareAt m c t j := by
  rw [outsAt0_A m c t h (by omega)]
  frame_open
  simp (disch := first | rfl | decide) only [↓View.readCov_skip, ↓View.readCov_fill]
  frame_out
  refine View.canon_append_of_piecesOf (s := S4x1024x704) (e := .f32) (Val := Elt Ideal) (fun j => 0 + shareAt m c t j) [_] [_, _, _, _]
    ⟨fun x => ?_, fun x => ?_, fun x => ?_, fun x => ?_, trivial⟩ j ?_
  rotate_right
  · exact View.cover_of_tiledL (s := S4x1024x704) _ S1x1024x704.size (by sl_kernel_rfl) j
  all_goals (idx_vars x; pointwise [k0_pay1, k0_pay2, k0_pay4, k0_pay5, k0_pay6, k0_pay7, shareAt, share]; blk_point)

/-- At the last point the block written back is what the accumulator holds. -/
theorem out_last (c : Dev nD) (t : Fin cfg0.N) (h0 : ¬t.val % 8 = 0) (h1 : t.val % 8 = 7) (j) :
    (outsAt0 m c t.val t.isLt).1 j = (outsAt0 m c t.val t.isLt).2 j := by
  rw [outsAt0_C m c t h0 h1]
  frame_out
  pointwise [k0_pay3]
  rw [View.readCov_eq_canon_ld, View.ld_unit_lit]
  · decide
  · exact fun y => View.cover_of_tiledL (s := S4x1024x704) _ S1x1024x704.size (by sl_kernel_rfl) y

/-- At the last point the accumulator holds every point's share, added. -/
theorem acc_last (c : Dev nD) (t : Fin cfg0.N) (h1 : t.val % 8 = 8 - 1) (j : S4x1024x704.Idx) :
    (outsAt0 m c t.val t.isLt).2 j
      = ∑ s : Fin 8, shareAt m c ⟨8 * (t.val / 8) + s.val, Pipeline.run_point_lt_of_flush t h1 s⟩ j := by
  rw [Pipeline.eq_sum_fin_of_reset_step_apply_of_flush (fun n h => (outsAt0 m c n h).2) 8 (fun _ => 0) (shareAt m c)
    (start m c) (step m c) t h1 j, zero_add]

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, out_last m c t (by omega) h1, acc_last m c t h1]
  unfold prod shareAt share
  idx_vars y
  refine Fin.sum_mul_add_congr fun s k hl => ?_
  have hi := idx ⟨_, Pipeline.run_point_lt_of_flush t h1 s⟩
  have ht := idx t
  blk_point [iblk, V, idx t, idx ⟨_, Pipeline.run_point_lt_of_flush t h1 s⟩]

end Cert.Kernel4Ideal.Final

end
-- ==== Proof.FfInW.Ref.lean ====
/- The reference's gradient of an FFN input product with respect to its weight is what the kernel leaves. -/
module

public import proofs.«01_k».proof.Proof.FfInW.Array
public import proofs.«01_k».proof.Proof.Gen.Reference4Ideal.Read

@[expose] public section

set_option maxRecDepth 16384

noncomputable section

open Idealize.ShloMosaic Idealize.ShloMosaic.TcCoe Idealize.SL.Sem

namespace Cert.Reference4Ideal.Final

open Cert.Reference4Ideal Cert.Reference4Ideal.Gen Cert.Reference4Ideal.Read

/-- The reference's result is the kernel's. -/
theorem eq (x0 : FVec Ideal S4096x1024 .bf16) (x1 : FVec Ideal S4x4096x704 .bf16) :
    val_main_v10 (F := Ideal) x0 x1 = Cert.Kernel4Ideal.Final.prod x0 x1 := by
  funext i
  idx_vars i
  pointwise [val_main_v1, val_main_v2, val_main_v3, val_main_v4, val_main_v5, val_main_v6, val_main_v7, val_main_v8, val_main_v9, val_main_v10, Cert.Kernel4Ideal.Final.prod]
  exact Finset.sum_congr rfl fun k _ => mul_comm _ _

end Cert.Reference4Ideal.Final

end
-- ==== Proof.FfInW.Claim.lean ====
/- The claims about the call that computes the gradient of an FFN input product with respect to its weight. -/
module

public import proofs.«01_k».proof.Defs
public import proofs.«01_k».proof.Proof.FfInW.Ref
public import proofs.«01_k».proof.Proof.Gen.Reference4Ideal.Run
public import Idealize.ShloMosaic.Adequacy
public import Idealize.ShloMosaic.Lib.Claim
public import Idealize.ShloMosaic.Lib.StableHlo.RunHlo

@[expose] public section

set_option maxRecDepth 16384

noncomputable section

namespace Cert.FfInW

open Idealize.ShloMosaic Idealize.SL.Sem

/-- The reference runs, leaves its arguments alone, and has no counter to leave off zero. -/
theorem frame_ref : Cert.quiescent_Reference4Ideal := fun m g _ => by
  refine (θ_run _ _ _).mono (fun r h => ⟨fun c => (h c).2, ?_⟩) (Cert.Reference4Ideal.Value.run m g)
  exact Idealize.ShloMosaic.sem_eq_zero_of_no_sems (by decide) r.2

/-- The call ends with the gradient of an FFN input product with respect to its weight, as the reference does. -/
theorem value : Cert.algebraic_Kernel4Ideal_Reference4Ideal := by
  pair_intro
  · run_from Cert.Kernel4Ideal.Value.run_blocks m g
  · run_from Cert.Reference4Ideal.Value.run m' g'
    rw [Cert.Kernel4Ideal.Final.final, Cert.Reference4Ideal.Read.val_main_v10_eq]
    exact Cert.Reference4Ideal.Final.eq _ _

end Cert.FfInW

end
-- ==== Proof.FfOutW.Array.lean ====
/- What the kernel of the FFN's output product's backward pass with respect to the weight leaves in its result. -/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Final

open Cert.Kernel5Ideal Cert.Kernel5Ideal.Gen

variable (m : (ℓ : Loc nD τ sig) → Buf (Elt Ideal) ℓ)

/-- Row `e`, column `d` of the product of the transposed gated rows with the gradient: row `e` lies in slab `e / 704`. -/
def prod (X : FVec Ideal S4x4096x704 .bf16) (Y : FVec Ideal S4096x1024 .bf16) (i : S2816x1024.Idx) : EReal :=
  ∑ k : Fin 4096, X (ix3 ⟨(i 0).val / 704, Nat.div_lt_of_lt_mul (i 0).isLt⟩ k ⟨(i 0).val % 704, Nat.mod_lt _ (by decide)⟩) * Y (ix2 k (i 1))

/-- Where every window's block sits at grid point `t`. -/
theorem idx : ∀ t : Fin cfg0.N, win0_0.index t = ![0, t.val, 0] ∧ win0_1.index t = ![t.val, 0] ∧ win0_2.index t = ![0, 0] :=
  (by decide +kernel : ∀ t : Fin grid0.N, _)

/-- The product of one point's two blocks. -/
def share (X : FVec Ideal S4x512x704 .bf16) (Y : FVec Ideal S512x1024 .bf16) (j : S2816x1024.Idx) : EReal :=
  ∑ k : Fin 512, X (ix3 ⟨(j 0).val / 704, Nat.div_lt_of_lt_mul (j 0).isLt⟩ k ⟨(j 0).val % 704, Nat.mod_lt _ (by decide)⟩) * Y (ix2 k (j 1))

/-- One point's share of the accumulator. -/
def shareAt (c : Dev nD) (t : Fin cfg0.N) (j : S2816x1024.Idx) : EReal :=
  share (iblk m c 0 t) (iblk m c 1 t) j

/-- A step after the first adds its point's share to what the accumulator held. -/
theorem step (c : Dev nD) (t : Fin cfg0.N) (h : ¬t.val % 8 = 0) (j : S2816x1024.Idx) :
    (outsAt0 m c t.val t.isLt).2 j = (outsAt0 m c (t.val - 1) (Nat.lt_of_le_of_lt (Nat.sub_le _ _) t.isLt)).2 j + shareAt m c t j := by
  by_cases h1 : t.val % 8 = 7
  · rw [outsAt0_C m c t h h1]
    frame_out
    simp only [read_unread_whole]
    canon_tiles x h
    all_goals (open_payloads; pointwise [shareAt, share]; blk_point)
  · rw [outsAt0_B m c t h h1]
    frame_out
    simp only [read_unread_whole]
    canon_tiles x h
    all_goals (open_payloads; pointwise [shareAt, share]; blk_point)

/-- The first step leaves its point's share: the fill with zeros is all that its loads read. -/
theorem start (c : Dev nD) (t : Fin cfg0.N) (h : t.val % 8 = 0) (j : S2816x1024.Idx) :
    (outsAt0 m c t.val t.isLt).2 j = 0 + shareAt m c t j := by
  rw [outsAt0_A m c t h (by omega)]
  frame_open
  simp (disch := first | rfl | decide) only [↓View.readCov_skip, ↓View.readCov_fill]
  frame_out
  refine View.canon_append_of_piecesOf (s := S2816x1024) (e := .f32) (Val := Elt Ideal) (fun j => 0 + shareAt m c t j) [_] [_, _, _, _]
    ⟨fun x => ?_, fun x => ?_, fun x => ?_, fun x => ?_, trivial⟩ j ?_
  rotate_right
  · exact View.cover_of_tiledL (s := S2816x1024) _ S704x1024.size (by sl_kernel_rfl) j
  all_goals (idx_vars x; pointwise [k0_pay1, k0_pay2, k0_pay4, k0_pay5, k0_pay6, k0_pay7, shareAt, share]; blk_point)

/-- At the last point the block written back is what the accumulator holds. -/
theorem out_last (c : Dev nD) (t : Fin cfg0.N) (h0 : ¬t.val % 8 = 0) (h1 : t.val % 8 = 7) (j) :
    (outsAt0 m c t.val t.isLt).1 j = (outsAt0 m c t.val t.isLt).2 j := by
  rw [outsAt0_C m c t h0 h1]
  frame_out
  pointwise [k0_pay3]
  rw [View.readCov_eq_canon_ld, View.ld_unit_lit]
  · decide
  · exact fun y => View.cover_of_tiledL (s := S2816x1024) _ S704x1024.size (by sl_kernel_rfl) y

/-- At the last point the accumulator holds every point's share, added. -/
theorem acc_last (c : Dev nD) (t : Fin cfg0.N) (h1 : t.val % 8 = 8 - 1) (j : S2816x1024.Idx) :
    (outsAt0 m c t.val t.isLt).2 j
      = ∑ s : Fin 8, shareAt m c ⟨8 * (t.val / 8) + s.val, Pipeline.run_point_lt_of_flush t h1 s⟩ j := by
  rw [Pipeline.eq_sum_fin_of_reset_step_apply_of_flush (fun n h => (outsAt0 m c n h).2) 8 (fun _ => 0) (shareAt m c)
    (start m c) (step m c) t h1 j, zero_add]

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, out_last m c t (by omega) h1, acc_last m c t h1]
  unfold prod shareAt share
  idx_vars y
  refine Fin.sum_mul_add_congr fun s k hl => ?_
  have hi := idx ⟨_, Pipeline.run_point_lt_of_flush t h1 s⟩
  have ht := idx t
  blk_point [iblk, V, idx t, idx ⟨_, Pipeline.run_point_lt_of_flush t h1 s⟩]

end Cert.Kernel5Ideal.Final

end
-- ==== Proof.FfOutW.Ref.lean ====
/- The reference's gradient of the FFN's output product with respect to its weight is what the kernel leaves. -/
module

public import proofs.«01_k».proof.Proof.FfOutW.Array
public import proofs.«01_k».proof.Proof.Gen.Reference5Ideal.Read

@[expose] public section

set_option maxRecDepth 16384

noncomputable section

open Idealize.ShloMosaic Idealize.ShloMosaic.TcCoe Idealize.SL.Sem

namespace Cert.Reference5Ideal.Final

open Cert.Reference5Ideal Cert.Reference5Ideal.Gen Cert.Reference5Ideal.Read

/-- The reference's result is the kernel's. -/
theorem eq (x0 : FVec Ideal S4x4096x704 .bf16) (x1 : FVec Ideal S4096x1024 .bf16) :
    val_main_v8 (F := Ideal) x0 x1 = Cert.Kernel5Ideal.Final.prod x0 x1 := by
  funext i
  idx_vars i
  pointwise [val_main_v1, val_main_v2, val_main_v3, val_main_v4, val_main_v5, val_main_v6, val_main_v7, val_main_v8, Cert.Kernel5Ideal.Final.prod]
  exact Finset.sum_congr rfl fun k _ => mul_comm _ _

end Cert.Reference5Ideal.Final

end
-- ==== Proof.FfOutW.Claim.lean ====
/- The claims about the call that computes the gradient of the FFN's output product with respect to its weight. -/
module

public import proofs.«01_k».proof.Defs
public import proofs.«01_k».proof.Proof.FfOutW.Ref
public import proofs.«01_k».proof.Proof.Gen.Reference5Ideal.Run
public import Idealize.ShloMosaic.Adequacy
public import Idealize.ShloMosaic.Lib.Claim
public import Idealize.ShloMosaic.Lib.StableHlo.RunHlo

@[expose] public section

set_option maxRecDepth 16384

noncomputable section

namespace Cert.FfOutW

open Idealize.ShloMosaic Idealize.SL.Sem

/-- The reference runs, leaves its arguments alone, and has no counter to leave off zero. -/
theorem frame_ref : Cert.quiescent_Reference5Ideal := fun m g _ => by
  refine (θ_run _ _ _).mono (fun r h => ⟨fun c => (h c).2, ?_⟩) (Cert.Reference5Ideal.Value.run m g)
  exact Idealize.ShloMosaic.sem_eq_zero_of_no_sems (by decide) r.2

/-- The call ends with the gradient of the FFN's output product with respect to its weight, as the reference does. -/
theorem value : Cert.algebraic_Kernel5Ideal_Reference5Ideal := by
  pair_intro
  · run_from Cert.Kernel5Ideal.Value.run_blocks m g
  · run_from Cert.Reference5Ideal.Value.run m' g'
    rw [Cert.Kernel5Ideal.Final.final, Cert.Reference5Ideal.Read.val_main_v8_eq]
    exact Cert.Reference5Ideal.Final.eq _ _

end Cert.FfOutW

end
-- ==== Proof.ProjW.Array.lean ====
/- What the kernel of the input projection's backward pass with respect to the weight leaves in its result. -/
module

public import proofs.«01_k».proof.Proof.Gen.Kernel6Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Final

open Cert.Kernel6Ideal Cert.Kernel6Ideal.Gen

variable (m : (ℓ : Loc nD τ sig) → Buf (Elt Ideal) ℓ)

/-- The product of the two arrays over `4352` terms. -/
def prod (X : FVec Ideal S4352x1024 .bf16) (Y : FVec Ideal S4352x7168 .bf16) (i : S1024x7168.Idx) : EReal :=
  ∑ k : Fin 4352, X (ix2 k (i 0)) * Y (ix2 k (i 1))

/-- Where every window's block sits at grid point `t`. -/
theorem idx : ∀ t : Fin cfg0.N, win0_0.index t = ![t.val % 17, 0] ∧ win0_1.index t = ![t.val % 17, t.val / 17] ∧ win0_2.index t = ![0, t.val / 17] :=
  (by decide +kernel : ∀ t : Fin grid0.N, _)

/-- The product of one point's two blocks. -/
def share (X : FVec Ideal S256x1024 .bf16) (Y : FVec Ideal S256x3584 .bf16) (j : S1024x3584.Idx) : EReal :=
  ∑ k : Fin 256, X (ix2 k (j 0)) * Y (ix2 k (j 1))

/-- One point's share of the accumulator. -/
def shareAt (c : Dev nD) (t : Fin cfg0.N) (j : S1024x3584.Idx) : EReal :=
  share (iblk m c 0 t) (iblk m c 1 t) j

/-- A step adds the product of its two blocks to what the accumulator held. -/
theorem step_apply (acc : FVec Ideal S1024x3584 .f32) (X : FVec Ideal S256x1024 .bf16) (Y : FVec Ideal S256x3584 .bf16) (j : S1024x3584.Idx) :
    k0_pay2 (F := Ideal) acc X Y j = acc j + share X Y j := by
  idx_vars j
  pointwise [k0_pay2, share]

/-- The accumulator starts at zero. -/
theorem start_apply (j : S1024x3584.Idx) : k0_pay1 (F := Ideal) j = 0 := by
  idx_vars j
  pointwise [k0_pay1]

/-- At a run's last point the block written back is what the accumulator holds. -/
theorem out_last (c : Dev nD) (t : Fin cfg0.N) (h0 : ¬t.val % 17 = 0) (h1 : t.val % 17 = 16) (j) :
    (outsAt0 m c t.val t.isLt).1 j = (outsAt0 m c t.val t.isLt).2 j := by
  rw [outsAt0_C m c t h0 h1]
  frame_out
  pointwise [k0_pay3]

/-- At a run's last point the accumulator holds the run's shares, added. -/
theorem acc_last (c : Dev nD) (t : Fin cfg0.N) (h1 : t.val % 17 = 17 - 1) (j : S1024x3584.Idx) :
    (outsAt0 m c t.val t.isLt).2 j
      = ∑ s : Fin 17, shareAt m c ⟨17 * (t.val / 17) + s.val, Pipeline.run_point_lt_of_flush t h1 s⟩ j := by
  rw [Pipeline.eq_sum_fin_of_reset_step_apply_of_flush (fun n h => (outsAt0 m c n h).2) 17 (fun _ => 0) (shareAt m c)
    (fun t h j => by
      rw [outsAt0_A m c t h (by omega)]
      frame_out
      rw [step_apply, start_apply]; rfl)
    (fun t h j => by
      by_cases h1 : t.val % 17 = 16
      · rw [outsAt0_C m c t h h1]
        frame_out
        rw [step_apply, (Memref.isWhole_whole _).read_unread]; rfl
      · rw [outsAt0_B m c t h h1]
        frame_out
        rw [step_apply, (Memref.isWhole_whole _).read_unread]; rfl) t h1 j, zero_add]

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, out_last m c t (by omega) h1, acc_last m c t h1]
  unfold prod shareAt share
  idx_vars y
  refine Fin.sum_mul_add_congr fun s k hl => ?_
  have hi := idx ⟨_, Pipeline.run_point_lt_of_flush t h1 s⟩
  have ht := idx t
  blk_point [iblk, V, idx t, idx ⟨_, Pipeline.run_point_lt_of_flush t h1 s⟩]

end Cert.Kernel6Ideal.Final

end
-- ==== Proof.ProjW.Ref.lean ====
/- The reference's gradient of the input projection with respect to its weight is what the kernel leaves. -/
module

public import proofs.«01_k».proof.Proof.ProjW.Array
public import proofs.«01_k».proof.Proof.Gen.Reference6Ideal.Read

@[expose] public section

set_option maxRecDepth 16384

noncomputable section

open Idealize.ShloMosaic Idealize.ShloMosaic.TcCoe Idealize.SL.Sem

namespace Cert.Reference6Ideal.Final

open Cert.Reference6Ideal Cert.Reference6Ideal.Gen Cert.Reference6Ideal.Read

/-- The reference's result is the kernel's. -/
theorem eq (x0 : FVec Ideal S4352x1024 .bf16) (x1 : FVec Ideal S4352x7168 .bf16) :
    val_main_v6 (F := Ideal) x0 x1 = Cert.Kernel6Ideal.Final.prod x0 x1 := by
  funext i
  idx_vars i
  pointwise [val_main_v1, val_main_v2, val_main_v3, val_main_v4, val_main_v5, val_main_v6, Cert.Kernel6Ideal.Final.prod]
  exact Finset.sum_congr rfl fun k _ => mul_comm _ _

end Cert.Reference6Ideal.Final

end
-- ==== Proof.ProjW.Claim.lean ====
/- The claims about the call that computes the gradient of the input projection with respect to its weight. -/
module

public import proofs.«01_k».proof.Defs
public import proofs.«01_k».proof.Proof.ProjW.Ref
public import proofs.«01_k».proof.Proof.Gen.Reference6Ideal.Run
public import Idealize.ShloMosaic.Adequacy
public import Idealize.ShloMosaic.Lib.Claim
public import Idealize.ShloMosaic.Lib.StableHlo.RunHlo

@[expose] public section

set_option maxRecDepth 16384

noncomputable section

namespace Cert.ProjW

open Idealize.ShloMosaic Idealize.SL.Sem

/-- The reference runs, leaves its arguments alone, and has no counter to leave off zero. -/
theorem frame_ref : Cert.quiescent_Reference6Ideal := fun m g _ => by
  refine (θ_run _ _ _).mono (fun r h => ⟨fun c => (h c).2, ?_⟩) (Cert.Reference6Ideal.Value.run m g)
  exact Idealize.ShloMosaic.sem_eq_zero_of_no_sems (by decide) r.2

/-- The call ends with the gradient of the input projection with respect to its weight, as the reference does. -/
theorem value : Cert.algebraic_Kernel6Ideal_Reference6Ideal := by
  pair_intro
  · run_from Cert.Kernel6Ideal.Value.run_blocks m g
  · run_from Cert.Reference6Ideal.Value.run m' g'
    rw [Cert.Kernel6Ideal.Final.final, Cert.Reference6Ideal.Read.val_main_v6_eq]
    exact Cert.Reference6Ideal.Final.eq _ _

end Cert.ProjW

end
-- ==== Proof.ProjX.Array.lean ====
/- What the kernel of the input projection's backward pass with respect to the rows leaves in its result. -/
module

public import proofs.«01_k».proof.Proof.Gen.Kernel7Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Final

open Cert.Kernel7Ideal Cert.Kernel7Ideal.Gen

variable (m : (ℓ : Loc nD τ sig) → Buf (Elt Ideal) ℓ)

/-- The product of the two arrays over `7168` terms. -/
def prod (X : FVec Ideal S4352x7168 .bf16) (Y : FVec Ideal S1024x7168 .bf16) (i : S4352x1024.Idx) : EReal :=
  ∑ k : Fin 7168, X (ix2 (i 0) k) * Y (ix2 (i 1) k)

/-- Where every window's block sits at grid point `t`. -/
theorem idx : ∀ t : Fin cfg0.N, win0_0.index t = ![t.val / 7, t.val % 7] ∧ win0_1.index t = ![0, t.val % 7] ∧ win0_2.index t = ![t.val / 7, 0] :=
  (by decide +kernel : ∀ t : Fin grid0.N, _)

/-- The product of one point's two blocks. -/
def share (X : FVec Ideal S2176x1024 .bf16) (Y : FVec Ideal S1024x1024 .bf16) (j : S2176x1024.Idx) : EReal :=
  ∑ k : Fin 1024, X (ix2 (j 0) k) * Y (ix2 (j 1) k)

/-- One point's share of the accumulator. -/
def shareAt (c : Dev nD) (t : Fin cfg0.N) (j : S2176x1024.Idx) : EReal :=
  share (iblk m c 0 t) (iblk m c 1 t) j

/-- A step adds the product of its two blocks to what the accumulator held. -/
theorem step_apply (acc : FVec Ideal S2176x1024 .f32) (X : FVec Ideal S2176x1024 .bf16) (Y : FVec Ideal S1024x1024 .bf16) (j : S2176x1024.Idx) :
    k0_pay2 (F := Ideal) acc X Y j = acc j + share X Y j := by
  idx_vars j
  pointwise [k0_pay2, share]

/-- The accumulator starts at zero. -/
theorem start_apply (j : S2176x1024.Idx) : k0_pay1 (F := Ideal) j = 0 := by
  idx_vars j
  pointwise [k0_pay1]

/-- At a run's last point the block written back is what the accumulator holds. -/
theorem out_last (c : Dev nD) (t : Fin cfg0.N) (h0 : ¬t.val % 7 = 0) (h1 : t.val % 7 = 6) (j) :
    (outsAt0 m c t.val t.isLt).1 j = (outsAt0 m c t.val t.isLt).2 j := by
  rw [outsAt0_C m c t h0 h1]
  frame_out

/-- At a run's last point the accumulator holds the run's shares, added. -/
theorem acc_last (c : Dev nD) (t : Fin cfg0.N) (h1 : t.val % 7 = 7 - 1) (j : S2176x1024.Idx) :
    (outsAt0 m c t.val t.isLt).2 j
      = ∑ s : Fin 7, shareAt m c ⟨7 * (t.val / 7) + s.val, Pipeline.run_point_lt_of_flush t h1 s⟩ j := by
  rw [Pipeline.eq_sum_fin_of_reset_step_apply_of_flush (fun n h => (outsAt0 m c n h).2) 7 (fun _ => 0) (shareAt m c)
    (fun t h j => by
      rw [outsAt0_A m c t h (by omega)]
      frame_out
      rw [step_apply, start_apply]; rfl)
    (fun t h j => by
      by_cases h1 : t.val % 7 = 6
      · rw [outsAt0_C m c t h h1]
        frame_out
        rw [step_apply, (Memref.isWhole_whole _).read_unread]; rfl
      · rw [outsAt0_B m c t h h1]
        frame_out
        rw [step_apply, (Memref.isWhole_whole _).read_unread]; rfl) t h1 j, zero_add]

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, out_last m c t (by omega) h1, acc_last m c t h1]
  unfold prod shareAt share
  idx_vars y
  refine Fin.sum_mul_add_congr fun s k hl => ?_
  have hi := idx ⟨_, Pipeline.run_point_lt_of_flush t h1 s⟩
  have ht := idx t
  blk_point [iblk, V, idx t, idx ⟨_, Pipeline.run_point_lt_of_flush t h1 s⟩]

end Cert.Kernel7Ideal.Final

end
-- ==== Proof.ProjX.Ref.lean ====
/- The reference's gradient of the input projection with respect to its rows is what the kernel leaves. -/
module

public import proofs.«01_k».proof.Proof.ProjX.Array
public import proofs.«01_k».proof.Proof.Gen.Reference7Ideal.Read

@[expose] public section

set_option maxRecDepth 16384

noncomputable section

open Idealize.ShloMosaic Idealize.ShloMosaic.TcCoe Idealize.SL.Sem

namespace Cert.Reference7Ideal.Final

open Cert.Reference7Ideal Cert.Reference7Ideal.Gen Cert.Reference7Ideal.Read

/-- The reference's result is the kernel's. -/
theorem eq (x0 : FVec Ideal S4352x7168 .bf16) (x1 : FVec Ideal S1024x7168 .bf16) :
    val_main_v4 (F := Ideal) x0 x1 = Cert.Kernel7Ideal.Final.prod x0 x1 := by
  funext i
  idx_vars i
  pointwise [val_main_v1, val_main_v2, val_main_v3, val_main_v4, Cert.Kernel7Ideal.Final.prod]

end Cert.Reference7Ideal.Final

end
-- ==== Proof.ProjX.Claim.lean ====
/- The claims about the call that computes the gradient of the input projection with respect to its rows. -/
module

public import proofs.«01_k».proof.Defs
public import proofs.«01_k».proof.Proof.ProjX.Ref
public import proofs.«01_k».proof.Proof.Gen.Reference7Ideal.Run
public import Idealize.ShloMosaic.Adequacy
public import Idealize.ShloMosaic.Lib.Claim
public import Idealize.ShloMosaic.Lib.StableHlo.RunHlo

@[expose] public section

set_option maxRecDepth 16384

noncomputable section

namespace Cert.ProjX

open Idealize.ShloMosaic Idealize.SL.Sem

/-- The reference runs, leaves its arguments alone, and has no counter to leave off zero. -/
theorem frame_ref : Cert.quiescent_Reference7Ideal := fun m g _ => by
  refine (θ_run _ _ _).mono (fun r h => ⟨fun c => (h c).2, ?_⟩) (Cert.Reference7Ideal.Value.run m g)
  exact Idealize.ShloMosaic.sem_eq_zero_of_no_sems (by decide) r.2

/-- The call ends with the gradient of the input projection with respect to its rows, as the reference does. -/
theorem value : Cert.algebraic_Kernel7Ideal_Reference7Ideal := by
  pair_intro
  · run_from Cert.Kernel7Ideal.Value.run_blocks m g
  · run_from Cert.Reference7Ideal.Value.run m' g'
    rw [Cert.Kernel7Ideal.Final.final]
    exact (Cert.Reference7Ideal.Read.val_main_v4_eq _ _).trans (Cert.Reference7Ideal.Final.eq _ _)

end Cert.ProjX

end
-- ==== Proof.BranchX.Array.lean ====
/- What the kernel of a branch output product's backward pass with respect to the rows leaves in its result. -/
module

public import proofs.«01_k».proof.Proof.Gen.Kernel8Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Final

open Cert.Kernel8Ideal Cert.Kernel8Ideal.Gen

variable (m : (ℓ : Loc nD τ sig) → Buf (Elt Ideal) ℓ)

/-- The product of the two arrays over `1024` terms. -/
def prod (X : FVec Ideal S4096x1024 .bf16) (Y : FVec Ideal S1024x1024 .bf16) (i : S4096x1024.Idx) : EReal :=
  ∑ k : Fin 1024, X (ix2 (i 0) k) * Y (ix2 (i 1) k)

/-- Where every window's block sits at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  pointwise [k0_pay1, prod]
  blk_point [iblk, V, idx t]

end Cert.Kernel8Ideal.Final

end
-- ==== Proof.BranchX.Ref.lean ====
/- The reference's gradient of a branch's output product with respect to its rows is what the kernel leaves. -/
module

public import proofs.«01_k».proof.Proof.BranchX.Array
public import proofs.«01_k».proof.Proof.Gen.Reference8Ideal.Read

@[expose] public section

set_option maxRecDepth 16384

noncomputable section

open Idealize.ShloMosaic Idealize.ShloMosaic.TcCoe Idealize.SL.Sem

namespace Cert.Reference8Ideal.Final

open Cert.Reference8Ideal Cert.Reference8Ideal.Gen Cert.Reference8Ideal.Read

/-- The reference's result is the kernel's. -/
theorem eq (x0 : FVec Ideal S4096x1024 .bf16) (x1 : FVec Ideal S1024x1024 .bf16) :
    val_main_v4 (F := Ideal) x0 x1 = Cert.Kernel8Ideal.Final.prod x0 x1 := by
  funext i
  idx_vars i
  pointwise [val_main_v1, val_main_v2, val_main_v3, val_main_v4, Cert.Kernel8Ideal.Final.prod]

end Cert.Reference8Ideal.Final

end
-- ==== Proof.BranchX.Claim.lean ====
/- The claims about the call that computes the gradient of a branch's output product with respect to its rows. -/
module

public import proofs.«01_k».proof.Defs
public import proofs.«01_k».proof.Proof.BranchX.Ref
public import proofs.«01_k».proof.Proof.Gen.Reference8Ideal.Run
public import Idealize.ShloMosaic.Adequacy
public import Idealize.ShloMosaic.Lib.Claim
public import Idealize.ShloMosaic.Lib.StableHlo.RunHlo

@[expose] public section

set_option maxRecDepth 16384

noncomputable section

namespace Cert.BranchX

open Idealize.ShloMosaic Idealize.SL.Sem

/-- The reference runs, leaves its arguments alone, and has no counter to leave off zero. -/
theorem frame_ref : Cert.quiescent_Reference8Ideal := fun m g _ => by
  refine (θ_run _ _ _).mono (fun r h => ⟨fun c => (h c).2, ?_⟩) (Cert.Reference8Ideal.Value.run m g)
  exact Idealize.ShloMosaic.sem_eq_zero_of_no_sems (by decide) r.2

/-- The call ends with the gradient of a branch's output product with respect to its rows, as the reference does. -/
theorem value : Cert.algebraic_Kernel8Ideal_Reference8Ideal := by
  pair_intro
  · run_from Cert.Kernel8Ideal.Value.run_blocks m g
  · run_from Cert.Reference8Ideal.Value.run m' g'
    rw [Cert.Kernel8Ideal.Final.final]
    exact (Cert.Reference8Ideal.Read.val_main_v4_eq _ _).trans (Cert.Reference8Ideal.Final.eq _ _)

end Cert.BranchX

end
-- ==== Proof.BranchW.Array.lean ====
/- What the kernel of a branch output product's backward pass with respect to the weight leaves in its result. -/
module

public import proofs.«01_k».proof.Proof.Gen.Kernel9Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Final

open Cert.Kernel9Ideal Cert.Kernel9Ideal.Gen

variable (m : (ℓ : Loc nD τ sig) → Buf (Elt Ideal) ℓ)

/-- The product of the two arrays over `4096` terms. -/
def prod (X : FVec Ideal S4096x1024 .bf16) (Y : FVec Ideal S4096x1024 .bf16) (i : S1024x1024.Idx) : EReal :=
  ∑ k : Fin 4096, X (ix2 k (i 0)) * Y (ix2 k (i 1))

/-- Where every window's block sits at grid point `t`. -/
theorem idx : ∀ t : Fin cfg0.N, win0_0.index t = ![t.val, 0] ∧ win0_1.index t = ![t.val, 0] ∧ win0_2.index t = ![0, 0] :=
  (by decide +kernel : ∀ t : Fin grid0.N, _)

/-- The product of one point's two blocks. -/
def share (X : FVec Ideal S512x1024 .bf16) (Y : FVec Ideal S512x1024 .bf16) (j : S1024x1024.Idx) : EReal :=
  ∑ k : Fin 512, X (ix2 k (j 0)) * Y (ix2 k (j 1))

/-- One point's share of the accumulator. -/
def shareAt (c : Dev nD) (t : Fin cfg0.N) (j : S1024x1024.Idx) : EReal :=
  share (iblk m c 0 t) (iblk m c 1 t) j

/-- A step adds the product of its two blocks to what the accumulator held. -/
theorem step_apply (acc : FVec Ideal S1024x1024 .f32) (X : FVec Ideal S512x1024 .bf16) (Y : FVec Ideal S512x1024 .bf16) (j : S1024x1024.Idx) :
    k0_pay2 (F := Ideal) acc X Y j = acc j + share X Y j := by
  idx_vars j
  pointwise [k0_pay2, share]

/-- The accumulator starts at zero. -/
theorem start_apply (j : S1024x1024.Idx) : k0_pay1 (F := Ideal) j = 0 := by
  idx_vars j
  pointwise [k0_pay1]

/-- At a run's last point the block written back is what the accumulator holds. -/
theorem out_last (c : Dev nD) (t : Fin cfg0.N) (h0 : ¬t.val % 8 = 0) (h1 : t.val % 8 = 7) (j) :
    (outsAt0 m c t.val t.isLt).1 j = (outsAt0 m c t.val t.isLt).2 j := by
  rw [outsAt0_C m c t h0 h1]
  frame_out
  pointwise [k0_pay3]

/-- At a run's last point the accumulator holds the run's shares, added. -/
theorem acc_last (c : Dev nD) (t : Fin cfg0.N) (h1 : t.val % 8 = 8 - 1) (j : S1024x1024.Idx) :
    (outsAt0 m c t.val t.isLt).2 j
      = ∑ s : Fin 8, shareAt m c ⟨8 * (t.val / 8) + s.val, Pipeline.run_point_lt_of_flush t h1 s⟩ j := by
  rw [Pipeline.eq_sum_fin_of_reset_step_apply_of_flush (fun n h => (outsAt0 m c n h).2) 8 (fun _ => 0) (shareAt m c)
    (fun t h j => by
      rw [outsAt0_A m c t h (by omega)]
      frame_out
      rw [step_apply, start_apply]; rfl)
    (fun t h j => by
      by_cases h1 : t.val % 8 = 7
      · rw [outsAt0_C m c t h h1]
        frame_out
        rw [step_apply, (Memref.isWhole_whole _).read_unread]; rfl
      · rw [outsAt0_B m c t h h1]
        frame_out
        rw [step_apply, (Memref.isWhole_whole _).read_unread]; rfl) t h1 j, zero_add]

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have h1 := (flush0_2 t).mp hf
  blk_simp
  rw [after0_2, out_last m c t (by omega) h1, acc_last m c t h1]
  unfold prod shareAt share
  idx_vars y
  refine Fin.sum_mul_add_congr fun s k hl => ?_
  have hi := idx ⟨_, Pipeline.run_point_lt_of_flush t h1 s⟩
  have ht := idx t
  blk_point [iblk, V, idx t, idx ⟨_, Pipeline.run_point_lt_of_flush t h1 s⟩]

end Cert.Kernel9Ideal.Final

end
-- ==== Proof.BranchW.Ref.lean ====
/- The reference's gradient of a branch's output product with respect to its weight is what the kernel leaves. -/
module

public import proofs.«01_k».proof.Proof.BranchW.Array
public import proofs.«01_k».proof.Proof.Gen.Reference9Ideal.Read

@[expose] public section

set_option maxRecDepth 16384

noncomputable section

open Idealize.ShloMosaic Idealize.ShloMosaic.TcCoe Idealize.SL.Sem

namespace Cert.Reference9Ideal.Final

open Cert.Reference9Ideal Cert.Reference9Ideal.Gen Cert.Reference9Ideal.Read

/-- The reference's result is the kernel's. -/
theorem eq (x0 : FVec Ideal S4096x1024 .bf16) (x1 : FVec Ideal S4096x1024 .bf16) :
    val_main_v6 (F := Ideal) x0 x1 = Cert.Kernel9Ideal.Final.prod x0 x1 := by
  funext i
  idx_vars i
  pointwise [val_main_v1, val_main_v2, val_main_v3, val_main_v4, val_main_v5, val_main_v6, Cert.Kernel9Ideal.Final.prod]
  exact Finset.sum_congr rfl fun k _ => mul_comm _ _

end Cert.Reference9Ideal.Final

end
-- ==== Proof.BranchW.Claim.lean ====
/- The claims about the call that computes the gradient of a branch's output product with respect to its weight. -/
module

public import proofs.«01_k».proof.Defs
public import proofs.«01_k».proof.Proof.BranchW.Ref
public import proofs.«01_k».proof.Proof.Gen.Reference9Ideal.Run
public import Idealize.ShloMosaic.Adequacy
public import Idealize.ShloMosaic.Lib.Claim
public import Idealize.ShloMosaic.Lib.StableHlo.RunHlo

@[expose] public section

set_option maxRecDepth 16384

noncomputable section

namespace Cert.BranchW

open Idealize.ShloMosaic Idealize.SL.Sem

/-- The reference runs, leaves its arguments alone, and has no counter to leave off zero. -/
theorem frame_ref : Cert.quiescent_Reference9Ideal := fun m g _ => by
  refine (θ_run _ _ _).mono (fun r h => ⟨fun c => (h c).2, ?_⟩) (Cert.Reference9Ideal.Value.run m g)
  exact Idealize.ShloMosaic.sem_eq_zero_of_no_sems (by decide) r.2

/-- The call ends with the gradient of a branch's output product with respect to its weight, as the reference does. -/
theorem value : Cert.algebraic_Kernel9Ideal_Reference9Ideal := by
  pair_intro
  · run_from Cert.Kernel9Ideal.Value.run_blocks m g
  · run_from Cert.Reference9Ideal.Value.run m' g'
    rw [Cert.Kernel9Ideal.Final.final, Cert.Reference9Ideal.Read.val_main_v6_eq]
    exact Cert.Reference9Ideal.Final.eq _ _

end Cert.BranchW

end
-- ==== Proof.FfnIn.Array.lean ====
/- What the kernel of the FFN's input products and gate leaves in its three results. -/
module

public import proofs.«01_k».proof.Proof.Gen.Kernel10Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Final

open Cert.Kernel10Ideal Cert.Kernel10Ideal.Gen

variable (m : (ℓ : Loc nD τ sig) → Buf (Elt Ideal) ℓ)

/-- Slab `s`, row `r`, column `c` of a product with a slabbed weight. -/
def prod (X : FVec Ideal S4096x1024 .bf16) (W : FVec Ideal S4x1024x704 .bf16) (i : S4x4096x704.Idx) : EReal :=
  ∑ k : Fin 1024, X (ix2 (i 1) k) * W (ix3 (i 0) k (i 2))

/-- The gated activation: the first product times its logistic, times the second product. -/
def gated (X : FVec Ideal S4096x1024 .bf16) (W1 W3 : FVec Ideal S4x1024x704 .bf16) (i : S4x4096x704.Idx) : EReal :=
  prod X W1 i * Ideal.logistic (prod X W1 i) * prod X W3 i

/-- Where every window's block sits at grid point `t`: the row tiles move, the weights stay. -/
theorem idx : ∀ t : Fin cfg0.N, win0_0.index t = ![t.val, 0] ∧ win0_1.index t = ![0, 0, 0] ∧ win0_2.index t = ![0, 0, 0]
    ∧ win0_3.index t = ![0, t.val, 0] ∧ win0_4.index t = ![0, t.val, 0] ∧ win0_5.index t = ![0, t.val, 0] :=
  (by decide +kernel : ∀ t : Fin grid0.N, _)

/-- The first product's array after the run. -/
theorem final3 (c : Dev nD) : (dats m 0 c).arrAt 3 (cfgs 0).N = prod (m ((c : Thread nD τ).loc main_arg0)) (m ((c : Thread nD τ).loc main_arg1)) := by
  refine (dats m 0 c).arrAt_eq_of_covers 3 _ (by decide +kernel) fun t _ y => ?_
  blk_simp
  rw [after0_3]
  unfold_out out0_3
  canon_tiles x h
  all_goals (open_payloads; pointwise [prod]; blk_point [iblk, V, idx t])

/-- The second product's array after the run. -/
theorem final4 (c : Dev nD) : (dats m 0 c).arrAt 4 (cfgs 0).N = prod (m ((c : Thread nD τ).loc main_arg0)) (m ((c : Thread nD τ).loc main_arg2)) := by
  refine (dats m 0 c).arrAt_eq_of_covers 4 _ (by decide +kernel) fun t _ y => ?_
  blk_simp
  rw [after0_4]
  unfold_out out0_4
  canon_tiles x h
  all_goals (open_payloads; pointwise [prod]; blk_point [iblk, V, idx t])

/-- The gated activation's array after the run. -/
theorem final5 (c : Dev nD) : (dats m 0 c).arrAt 5 (cfgs 0).N = gated (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold_out out0_5
  canon_tiles x h
  all_goals (open_payloads; pointwise [gated, prod]; blk_point [iblk, V, idx t])

end Cert.Kernel10Ideal.Final

end
-- ==== Proof.FfnIn.Ref.lean ====
/- The reference's input products of the FFN and its gated activation are what the kernel leaves. -/
module

public import proofs.«01_k».proof.Proof.FfnIn.Array
public import proofs.«01_k».proof.Proof.Gen.Reference10Ideal.Read

@[expose] public section

set_option maxRecDepth 16384

noncomputable section

open Idealize.ShloMosaic Idealize.ShloMosaic.TcCoe Idealize.SL.Sem

namespace Cert.Reference10Ideal.Final

open Cert.Reference10Ideal Cert.Reference10Ideal.Gen Cert.Reference10Ideal.Read

/-- The first product. -/
theorem eq1 (x0 : FVec Ideal S4096x1024 .bf16) (x1 : FVec Ideal S4x1024x704 .bf16) :
    val_main_v11 (F := Ideal) x0 x1 = Cert.Kernel10Ideal.Final.prod x0 x1 := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, Cert.Kernel10Ideal.Final.prod, Cert.Kernel10Ideal.Final.gated]

/-- The second product. -/
theorem eq3 (x0 : FVec Ideal S4096x1024 .bf16) (x2 : FVec Ideal S4x1024x704 .bf16) :
    val_main_v14 (F := Ideal) x0 x2 = Cert.Kernel10Ideal.Final.prod x0 x2 := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, Cert.Kernel10Ideal.Final.prod, Cert.Kernel10Ideal.Final.gated]

/-- The gated activation. -/
theorem eqAct (x0 : FVec Ideal S4096x1024 .bf16) (x1 x2 : FVec Ideal S4x1024x704 .bf16) :
    val_main_v19 (F := Ideal) x0 x1 x2 = Cert.Kernel10Ideal.Final.gated x0 x1 x2 := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_call0_v0, val_main_call0_v1, val_main_call0_v2, val_main_call0_v3, val_main_call0_v4, val_main_call0_v5, val_main_call0_cst, val_main_call0_cst_0, Cert.Kernel10Ideal.Final.prod, Cert.Kernel10Ideal.Final.gated]
  rfl

end Cert.Reference10Ideal.Final

end
-- ==== Proof.FfnIn.Claim.lean ====
/- The claims about the call that computes the FFN's two input products and its gated activation. -/
module

public import proofs.«01_k».proof.Defs
public import proofs.«01_k».proof.Proof.FfnIn.Ref
public import proofs.«01_k».proof.Proof.Gen.Reference10Ideal.Run
public import Idealize.ShloMosaic.Adequacy
public import Idealize.ShloMosaic.Lib.Claim
public import Idealize.ShloMosaic.Lib.StableHlo.RunHlo

@[expose] public section

set_option maxRecDepth 16384

noncomputable section

namespace Cert.FfnIn

open Idealize.ShloMosaic Idealize.SL.Sem

/-- The reference runs, leaves its arguments alone, and has no counter to leave off zero. -/
theorem frame_ref : Cert.quiescent_Reference10Ideal := fun m g _ => by
  refine (θ_run _ _ _).mono (fun r h => ⟨fun c => (h c).2.2.2, ?_⟩) (Cert.Reference10Ideal.Value.run m g)
  exact Idealize.ShloMosaic.sem_eq_zero_of_no_sems (by decide) r.2

/-- The call ends with the FFN's two input products and its gated activation, as the reference does. -/
theorem value : Cert.algebraic_Kernel10Ideal_Reference10Ideal := by
  pair_intro
  · run_from Cert.Kernel10Ideal.Value.run_blocks m g
  · run_from Cert.Reference10Ideal.Value.run m' g'
    · rw [Cert.Kernel10Ideal.Final.final3, Cert.Reference10Ideal.Read.val_main_v11_eq]
      exact Cert.Reference10Ideal.Final.eq1 _ _
    · rw [Cert.Kernel10Ideal.Final.final4, Cert.Reference10Ideal.Read.val_main_v14_eq]
      exact Cert.Reference10Ideal.Final.eq3 _ _
    · rw [Cert.Kernel10Ideal.Final.final5, Cert.Reference10Ideal.Read.val_main_v19_eq]
      exact Cert.Reference10Ideal.Final.eqAct _ _ _

end Cert.FfnIn

end
-- ==== Proof.FfnOut.Array.lean ====
/- What the kernel of the FFN's output product leaves in its result. -/
module

public import proofs.«01_k».proof.Proof.Gen.Kernel11Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Final

open Cert.Kernel11Ideal Cert.Kernel11Ideal.Gen

variable (m : (ℓ : Loc nD τ sig) → Buf (Elt Ideal) ℓ)

/-- Slab `s` of the gated rows times the matching rows of the output weight. -/
def part (X : FVec Ideal S4x4096x704 .bf16) (W : FVec Ideal S2816x1024 .bf16) (s : Fin 4) (r : Fin 4096) (d : Fin 1024) : EReal :=
  ∑ k : Fin 704, X (ix3 s r k) * W (ix2 ⟨s.val * 704 + k.val, by omega⟩ d)

/-- The four slabs of that product, added. -/
def prod (X : FVec Ideal S4x4096x704 .bf16) (W : FVec Ideal S2816x1024 .bf16) (i : S4096x1024.Idx) : EReal :=
  part X W 0 (i 0) (i 1) + part X W 1 (i 0) (i 1) + part X W 2 (i 0) (i 1) + part X W 3 (i 0) (i 1)

/-- Where every window's block sits at grid point `t`: the row tiles move, the weight stays. -/
theorem idx : ∀ t : Fin cfg0.N, win0_0.index t = ![0, t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  open_payloads
  pointwise [prod, part]
  blk_point [iblk, V, idx t]

end Cert.Kernel11Ideal.Final

end
-- ==== Proof.FfnOut.Ref.lean ====
/- The reference's output product of the FFN is what the kernel leaves. -/
module

public import proofs.«01_k».proof.Proof.FfnOut.Array
public import proofs.«01_k».proof.Proof.Gen.Reference11Ideal.Read

@[expose] public section

set_option maxRecDepth 16384

noncomputable section

open Idealize.ShloMosaic Idealize.ShloMosaic.TcCoe Idealize.SL.Sem

namespace Cert.Reference11Ideal.Final

open Cert.Reference11Ideal Cert.Reference11Ideal.Gen Cert.Reference11Ideal.Read

/-- A product over the whole width is the product over its four slabs. -/
theorem slabs (X : FVec Ideal S4x4096x704 .bf16) (W : FVec Ideal S2816x1024 .bf16) (i : S4096x1024.Idx) :
    ∑ k : Fin 2816, X (ix3 ⟨k.val / 704, by omega⟩ (i 0) ⟨k.val % 704, by omega⟩) * W (ix2 k (i 1))
      = Cert.Kernel11Ideal.Final.prod X W i := by
  refine (Finset.sum_congr rfl fun k _ => ?_).trans ((Fin.sum_divmod_fin 704 fun (s : Fin 4) (k : Fin 704) => X (ix3 s (i 0) k) * W (ix2 ⟨s.val * 704 + k.val, by omega⟩ (i 1))).trans ?_)
  · refine congrArg₂ (· * ·) rfl (congrArg W (congrArg (fun a => ix2 a (i 1)) (Fin.ext ?_)))
    show k.val = k.val / 704 * 704 + k.val % 704
    omega
  · rw [Fin.sum_univ_four]
    rfl

/-- The reference's result is the kernel's. -/
theorem eq (x0 : FVec Ideal S4x4096x704 .bf16) (x1 : FVec Ideal S2816x1024 .bf16) :
    val_main_v4 (F := Ideal) x0 x1 = Cert.Kernel11Ideal.Final.prod x0 x1 := by
  funext i
  idx_vars i
  refine Eq.trans ?_ (slabs x0 x1 (ix2 i0 i1))
  pointwise [val_main_v0, val_main_v1, val_main_v2, val_main_v3, val_main_v4]

end Cert.Reference11Ideal.Final

end
-- ==== Proof.FfnOut.Claim.lean ====
/- The claims about the call that computes the FFN's output product. -/
module

public import proofs.«01_k».proof.Defs
public import proofs.«01_k».proof.Proof.FfnOut.Ref
public import proofs.«01_k».proof.Proof.Gen.Reference11Ideal.Run
public import Idealize.ShloMosaic.Adequacy
public import Idealize.ShloMosaic.Lib.Claim
public import Idealize.ShloMosaic.Lib.StableHlo.RunHlo

@[expose] public section

set_option maxRecDepth 16384

noncomputable section

namespace Cert.FfnOut

open Idealize.ShloMosaic Idealize.SL.Sem

/-- The reference runs, leaves its arguments alone, and has no counter to leave off zero. -/
theorem frame_ref : Cert.quiescent_Reference11Ideal := fun m g _ => by
  refine (θ_run _ _ _).mono (fun r h => ⟨fun c => (h c).2, ?_⟩) (Cert.Reference11Ideal.Value.run m g)
  exact Idealize.ShloMosaic.sem_eq_zero_of_no_sems (by decide) r.2

/-- The call ends with the FFN's output product, as the reference does. -/
theorem value : Cert.algebraic_Kernel11Ideal_Reference11Ideal := by
  pair_intro
  · run_from Cert.Kernel11Ideal.Value.run_blocks m g
  · run_from Cert.Reference11Ideal.Value.run m' g'
    rw [Cert.Kernel11Ideal.Final.final]
    exact (Cert.Reference11Ideal.Read.val_main_v4_eq _ _).trans (Cert.Reference11Ideal.Final.eq _ _)

end Cert.FfnOut

end
-- ==== Proof.ProjFwd.Array.lean ====
/- What the kernel of the input projection leaves in its result. -/
module

public import proofs.«01_k».proof.Proof.Gen.Kernel12Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Final

open Cert.Kernel12Ideal Cert.Kernel12Ideal.Gen

variable (m : (ℓ : Loc nD τ sig) → Buf (Elt Ideal) ℓ)

/-- The product of the two arrays over `1024` terms. -/
def prod (X : FVec Ideal S4352x1024 .bf16) (Y : FVec Ideal S1024x7168 .bf16) (i : S4352x7168.Idx) : EReal :=
  ∑ k : Fin 1024, X (ix2 (i 0) k) * Y (ix2 k (i 1))

/-- Where every window's block sits at grid point `t`. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The result array after the run. -/
theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  pointwise [k0_pay1, prod]
  blk_point [iblk, V, idx t]

end Cert.Kernel12Ideal.Final

end
-- ==== Proof.ProjFwd.Ref.lean ====
/- The reference's input projection is what the kernel leaves. -/
module

public import proofs.«01_k».proof.Proof.ProjFwd.Array
public import proofs.«01_k».proof.Proof.Gen.Reference12Ideal.Read

@[expose] public section

set_option maxRecDepth 16384

noncomputable section

open Idealize.ShloMosaic Idealize.ShloMosaic.TcCoe Idealize.SL.Sem

namespace Cert.Reference12Ideal.Final

open Cert.Reference12Ideal Cert.Reference12Ideal.Gen Cert.Reference12Ideal.Read

/-- The reference's result is the kernel's. -/
theorem eq (x0 : FVec Ideal S4352x1024 .bf16) (x1 : FVec Ideal S1024x7168 .bf16) :
    val_main_v2 (F := Ideal) x0 x1 = Cert.Kernel12Ideal.Final.prod x0 x1 := by
  funext i
  idx_vars i
  pointwise [val_main_v0, val_main_v1, val_main_v2, Cert.Kernel12Ideal.Final.prod]

end Cert.Reference12Ideal.Final

end
-- ==== Proof.ProjFwd.Claim.lean ====
/- The claims about the call that computes the input projection. -/
module

public import proofs.«01_k».proof.Defs
public import proofs.«01_k».proof.Proof.ProjFwd.Ref
public import proofs.«01_k».proof.Proof.Gen.Reference12Ideal.Run
public import Idealize.ShloMosaic.Adequacy
public import Idealize.ShloMosaic.Lib.Claim
public import Idealize.ShloMosaic.Lib.StableHlo.RunHlo

@[expose] public section

set_option maxRecDepth 16384

noncomputable section

namespace Cert.ProjFwd

open Idealize.ShloMosaic Idealize.SL.Sem

/-- The reference runs, leaves its arguments alone, and has no counter to leave off zero. -/
theorem frame_ref : Cert.quiescent_Reference12Ideal := fun m g _ => by
  refine (θ_run _ _ _).mono (fun r h => ⟨fun c => (h c).2, ?_⟩) (Cert.Reference12Ideal.Value.run m g)
  exact Idealize.ShloMosaic.sem_eq_zero_of_no_sems (by decide) r.2

/-- The call ends with the input projection, as the reference does. -/
theorem value : Cert.algebraic_Kernel12Ideal_Reference12Ideal := by
  pair_intro
  · run_from Cert.Kernel12Ideal.Value.run_blocks m g
  · run_from Cert.Reference12Ideal.Value.run m' g'
    rw [Cert.Kernel12Ideal.Final.final]
    exact (Cert.Reference12Ideal.Read.val_main_v2_eq _ _).trans (Cert.Reference12Ideal.Final.eq _ _)

end Cert.ProjFwd

end
-- ==== Proof.MergeFwd.Array.lean ====
/- What the kernel of the branches' output products and their merge leaves in its three results. -/
module

public import proofs.«01_k».proof.Proof.Gen.Kernel14Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.Final

open Cert.Kernel14Ideal Cert.Kernel14Ideal.Gen

variable (m : (ℓ : Loc nD τ sig) → Buf (Elt Ideal) ℓ)

/-- A branch's rows times its weight. -/
def prod (Y : FVec Ideal S4096x1024 .bf16) (W : FVec Ideal S1024x1024 .bf16) (i : S4096x1024.Idx) : EReal :=
  ∑ k : Fin 1024, Y (ix2 (i 0) k) * W (ix2 k (i 1))

/-- Branch `o`'s gate at row `r` and column `d`: the logistic of the projection's latent row and the bias. -/
def gate (P : FVec Ideal S4352x7168 .f32) (b : FVec Ideal S2048 .f32) (o : Fin 2) (r : Fin 4096) (d : Fin 1024) : EReal :=
  Ideal.logistic (P (ix2 ⟨256 + r.val, by omega⟩ ⟨1024 * o.val + d.val, by omega⟩) + b (ix1 ⟨1024 * o.val + d.val, by omega⟩))

/-- Either branch's product times its half of the gates, added. -/
def merged (Y Z : FVec Ideal S4096x1024 .bf16) (P : FVec Ideal S4352x7168 .f32) (Wy Wz : FVec Ideal S1024x1024 .bf16)
    (b : FVec Ideal S2048 .f32) (i : S4096x1024.Idx) : EReal :=
  gate P b 0 (i 0) (i 1) * prod Y Wy i + gate P b 1 (i 0) (i 1) * prod Z Wz i

/-- Where every window's block sits at grid point `t`: the row tiles move, the weights stay, and the gates' rows begin after the context's. -/
theorem idx : ∀ t : Fin cfg0.N, win0_0.index t = ![t.val, 0] ∧ win0_1.index t = ![t.val, 0] ∧ win0_2.index t = ![t.val + 1, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ t.val < 16 :=
  (by decide +kernel : ∀ t : Fin grid0.N, _)

/-- A point's block of the gates, at an index: the projection's row after the context's rows. -/
theorem gates_at (c : Dev nD) (t : Fin cfg0.N) (p : Fin 256) (d : Fin 2048) :
    (show FVec Ideal S256x2048 .f32 from X0_2 m c t) (ix2 p d)
      = (show FVec Ideal S4352x7168 .f32 from (m ((c : Thread nD τ).loc main_arg2))) (ix2 ⟨256 * (t.val + 1) + p.val, by have := (idx t).2.2.2.2.2.2.2.2.2; omega⟩ ⟨d.val, by omega⟩) := by
  have ht := (idx t).2.2.2.2.2.2.2.2.2
  show X0_2 m c t (ix2 p d) = _
  unfold X0_2 Pipeline.Window.fill
  rw [dif_pos (moved0_2 t _)]
  blk_point [iblk, V, idx t]

/-- The first product's array after the run. -/
theorem final7 (c : Dev nD) : (dats m 0 c).arrAt 7 (cfgs 0).N = prod (m ((c : Thread nD τ).loc main_arg0)) (m ((c : Thread nD τ).loc main_arg3)) := by
  refine (dats m 0 c).arrAt_eq_of_covers 7 _ (by decide +kernel) fun t _ y => ?_
  blk_simp
  rw [after0_7]
  unfold outsAt0
  frame_out
  pointwise [k0_pay1, prod]
  blk_point [iblk, V, idx t]

/-- The second product's array after the run. -/
theorem final8 (c : Dev nD) : (dats m 0 c).arrAt 8 (cfgs 0).N = prod (m ((c : Thread nD τ).loc main_arg1)) (m ((c : Thread nD τ).loc main_arg4)) := by
  refine (dats m 0 c).arrAt_eq_of_covers 8 _ (by decide +kernel) fun t _ y => ?_
  blk_simp
  rw [after0_8]
  unfold outsAt0
  frame_out
  pointwise [k0_pay2, prod]
  blk_point [iblk, V, idx t]

/-- The merge's array after the run. -/
theorem final6 (c : Dev nD) : (dats m 0 c).arrAt 6 (cfgs 0).N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht := (idx t).2.2.2.2.2.2.2.2.2
  blk_simp
  rw [after0_6]
  unfold outsAt0
  frame_out
  idx_vars y
  pointwise [k0_pay3, k0_pay1, k0_pay2, merged, gate, prod]
  simp only [gates_at]
  blk_point [iblk, V, idx t]

end Cert.Kernel14Ideal.Final

end
-- ==== Proof.MergeFwd.Ref.lean ====
/- The reference's output products of the branches and their merge are what the kernel leaves. -/
module

public import proofs.«01_k».proof.Proof.MergeFwd.Array
public import proofs.«01_k».proof.Proof.Gen.Reference14Ideal.Read

@[expose] public section

set_option maxRecDepth 16384

noncomputable section

open Idealize.ShloMosaic Idealize.ShloMosaic.TcCoe Idealize.SL.Sem

namespace Cert.Reference14Ideal.Final

open Cert.Reference14Ideal Cert.Reference14Ideal.Gen Cert.Reference14Ideal.Read

/-- The first product. -/
theorem eq7 (x0 : FVec Ideal S4096x1024 .bf16) (x3 : FVec Ideal S1024x1024 .bf16) :
    val_main_v12 (F := Ideal) x0 x3 = Cert.Kernel14Ideal.Final.prod x0 x3 := by
  funext i
  idx_vars i
  pointwise [val_main_v10, val_main_v11, val_main_v12, Cert.Kernel14Ideal.Final.prod]

/-- The second product. -/
theorem eq8 (x1 : FVec Ideal S4096x1024 .bf16) (x4 : FVec Ideal S1024x1024 .bf16) :
    val_main_v15 (F := Ideal) x1 x4 = Cert.Kernel14Ideal.Final.prod x1 x4 := by
  funext i
  idx_vars i
  pointwise [val_main_v13, val_main_v14, val_main_v15, Cert.Kernel14Ideal.Final.prod]

/-- The merge. -/
theorem eq6 (x0 x1 : FVec Ideal S4096x1024 .bf16) (x2 : FVec Ideal S4352x7168 .f32) (x3 x4 : FVec Ideal S1024x1024 .bf16) (x5 : FVec Ideal S2048 .f32) :
    val_main_v21 (F := Ideal) x0 x1 x2 x3 x4 x5 = Cert.Kernel14Ideal.Final.merged x0 x1 x2 x3 x4 x5 := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, Cert.Kernel14Ideal.Final.merged, Cert.Kernel14Ideal.Final.gate, Cert.Kernel14Ideal.Final.prod]
  rfl

end Cert.Reference14Ideal.Final

end
-- ==== Proof.MergeFwd.Claim.lean ====
/- The claims about the call that computes the branches' output products and their merge. -/
module

public import proofs.«01_k».proof.Defs
public import proofs.«01_k».proof.Proof.MergeFwd.Ref
public import proofs.«01_k».proof.Proof.Gen.Reference14Ideal.Run
public import Idealize.ShloMosaic.Adequacy
public import Idealize.ShloMosaic.Lib.Claim
public import Idealize.ShloMosaic.Lib.StableHlo.RunHlo

@[expose] public section

set_option maxRecDepth 16384

noncomputable section

namespace Cert.MergeFwd

open Idealize.ShloMosaic Idealize.SL.Sem

/-- The reference runs, leaves its arguments alone, and has no counter to leave off zero. -/
theorem frame_ref : Cert.quiescent_Reference14Ideal := fun m g _ => by
  refine (θ_run _ _ _).mono (fun r h => ⟨fun c => (h c).2.2.2, ?_⟩) (Cert.Reference14Ideal.Value.run m g)
  exact Idealize.ShloMosaic.sem_eq_zero_of_no_sems (by decide) r.2

/-- The call ends with the branches' output products and their merge, as the reference does. -/
theorem value : Cert.algebraic_Kernel14Ideal_Reference14Ideal := by
  pair_intro
  · run_from Cert.Kernel14Ideal.Value.run_blocks m g
  · run_from Cert.Reference14Ideal.Value.run m' g'
    · rw [Cert.Kernel14Ideal.Final.final6, Cert.Reference14Ideal.Read.val_main_v21_eq]
      exact Cert.Reference14Ideal.Final.eq6 _ _ _ _ _ _
    · rw [Cert.Kernel14Ideal.Final.final7]
      exact (Cert.Reference14Ideal.Read.val_main_v12_eq _ _).trans (Cert.Reference14Ideal.Final.eq7 _ _)
    · rw [Cert.Kernel14Ideal.Final.final8]
      exact (Cert.Reference14Ideal.Read.val_main_v15_eq _ _).trans (Cert.Reference14Ideal.Final.eq8 _ _)

end Cert.MergeFwd

end
-- ==== Proof.Res1Fwd.Array.lean ====
/- What the kernel of the output product and the first residual leaves in its three results. -/
module

public import proofs.«01_k».proof.Proof.Gen.Kernel15Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.Final

open Cert.Kernel15Ideal Cert.Kernel15Ideal.Gen

variable (m : (ℓ : Loc nD τ sig) → Buf (Elt Ideal) ℓ)

/-- The merged rows times the output weight. -/
def prod (M : FVec Ideal S4096x1024 .bf16) (W : FVec Ideal S1024x1024 .bf16) (r : Fin 4096) (d : Fin 1024) : EReal :=
  ∑ k : Fin 1024, M (ix2 r k) * W (ix2 k d)

/-- The residual before it is normalised: the scaled input row after the context's rows, and the gated product. -/
def preAt (X : FVec Ideal S4352x1024 .f32) (M : FVec Ideal S4096x1024 .bf16) (W : FVec Ideal S1024x1024 .bf16) (g : FVec Ideal S1024 .f32) (r : Fin 4096) (d : Fin 1024) : EReal :=
  Ideal.ofBits .f32 0x3F9837F0#32 * X (ix2 ⟨256 + r.val, by omega⟩ d) + g (ix1 d) * prod M W r d

/-- The same, as an array. -/
def pre (X : FVec Ideal S4352x1024 .f32) (M : FVec Ideal S4096x1024 .bf16) (W : FVec Ideal S1024x1024 .bf16) (g : FVec Ideal S1024 .f32) : FVec Ideal S4096x1024 .f32 := fun i => preAt X M W g (i 0) (i 1)

/-- A row's mean. -/
def mean (z : Fin 1024 → EReal) : EReal :=
  Ideal.div (∑ d : Fin 1024, z d) (Ideal.ofBits .f32 0x44800000#32)

/-- A row's variance. -/
def vari (z : Fin 1024 → EReal) : EReal :=
  Ideal.div (∑ d : Fin 1024, (z d - mean z) * (z d - mean z)) (Ideal.ofBits .f32 0x44800000#32)

/-- A row's entry with the mean taken off, over the deviation. -/
def nrm (z : Fin 1024 → EReal) (d : Fin 1024) : EReal :=
  (z d - mean z) * Ideal.rsqrt (vari z + Ideal.ofBits .f32 0x3727C5AC#32)

/-- The block's first residual. -/
def resid (X : FVec Ideal S4352x1024 .f32) (M : FVec Ideal S4096x1024 .bf16) (W : FVec Ideal S1024x1024 .bf16) (g : FVec Ideal S1024 .f32) (lg lb : FVec Ideal S1024 .f32) (i : S4096x1024.Idx) : EReal :=
  nrm (fun d => pre X M W g (ix2 (i 0) d)) (i 1) * lg (ix1 (i 1)) + lb (ix1 (i 1))

/-- The residual scaled and shifted for the channel mixer. -/
def modul (X : FVec Ideal S4352x1024 .f32) (M : FVec Ideal S4096x1024 .bf16) (W : FVec Ideal S1024x1024 .bf16) (g : FVec Ideal S1024 .f32) (lg lb s h : FVec Ideal S1024 .f32) (i : S4096x1024.Idx) : EReal :=
  (nrm (fun d => pre X M W g (ix2 (i 0) d)) (i 1) * lg (ix1 (i 1)) + lb (ix1 (i 1))) * (Ideal.ofBits .f32 0x3F800000#32 + s (ix1 (i 1))) + h (ix1 (i 1))

/-- The output product as an array. -/
def prodA (M : FVec Ideal S4096x1024 .bf16) (W : FVec Ideal S1024x1024 .bf16) (i : S4096x1024.Idx) : EReal :=
  prod M W (i 0) (i 1)

/-- Where every window's block sits at grid point `t`. -/
theorem idx : ∀ t : Fin cfg0.N, win0_0.index t = ![t.val + 1, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ t.val < 16 :=
  (by decide +kernel : ∀ t : Fin grid0.N, _)

/-- The output product's array after the run. -/
theorem final10 (c : Dev nD) : (dats m 0 c).arrAt 10 (cfgs 0).N = prodA (m ((c : Thread nD τ).loc main_arg1)) (m ((c : Thread nD τ).loc main_arg2)) := by
  refine (dats m 0 c).arrAt_eq_of_covers 10 _ (by decide +kernel) fun t _ y => ?_
  blk_simp
  rw [after0_10]
  frame_out
  pointwise [k0_pay6, prodA, prod]
  blk_point [iblk, V, idx t]

/-- A tile's row before it is normalised, from the tile's blocks. -/
def tileRow (v0 : Vec Ideal S1024x1024 .bf16) (v1 : Vec Ideal S1x1024 .f32) (v11 : Vec Ideal S256x1024 .f32) (v12 : Vec Ideal S256x1024 .bf16)
    (p : Fin 256) (d : Fin 1024) : EReal :=
  Ideal.ofBits .f32 0x3F9837F0#32 * v11 (ix2 p d) + v1 (ix2 0 d) * k0_pay6 (F := Ideal) v0 v12 (ix2 p d)

/-- The normalised row of a tile, at an index. -/
theorem pay7_at (v0 : Vec Ideal S1024x1024 .bf16) (v1 : Vec Ideal S1x1024 .f32) (v11 : Vec Ideal S256x1024 .f32) (v12 : Vec Ideal S256x1024 .bf16)
    (p : Fin 256) (d : Fin 1024) :
    k0_pay7 (F := Ideal) v0 v1 v11 v12 (ix2 p d) = nrm (tileRow v0 v1 v11 v12 p) d := by
  pointwise [k0_pay7, nrm, vari, mean, tileRow]

/-- At a grid point the tile's row is the residual's row. -/
theorem row_at (c : Dev nD) (t : Fin cfg0.N) (p : Fin 256) (ht : t.val < 16) :
    tileRow (View.ld (iblk m c 2 t) r0_0) (View.ld (iblk m c 3 t) r0_1) (View.ld (iblk m c 0 t) r0_2) (View.ld (iblk m c 1 t) r0_2) p
      = fun d => pre (m ((c : Thread nD τ).loc main_arg0)) (m ((c : Thread nD τ).loc main_arg1)) (m ((c : Thread nD τ).loc main_arg2)) (m ((c : Thread nD τ).loc main_arg3)) (ix2 ⟨256 * t.val + p.val, by omega⟩ d) := by
  funext d
  pointwise [tileRow, k0_pay6, pre, preAt, prod]
  blk_point [iblk, V, idx t]

/-- The first residual's array after the run. -/
theorem final8 (c : Dev nD) : (dats m 0 c).arrAt 8 (cfgs 0).N = resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  frame_out
  idx_vars y
  pointwise [k0_pay1, k0_pay3, k0_pay8, k0_pay9, k0_pay10, k0_pay11, resid]
  rw [pay7_at]
  refine Eq.trans (congrArg (fun z => nrm z y1 * _ + _) (row_at m c t y0 (idx t).2.2.2.2.2.2.2.2.2.2.2)) ?_
  generalize pre _ _ _ _ = P
  simp only [nrm, vari, mean]
  blk_point [iblk, V, idx t]

/-- The scaled and shifted residual's array after the run. -/
theorem final9 (c : Dev nD) : (dats m 0 c).arrAt 9 (cfgs 0).N = modul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  frame_out
  idx_vars y
  pointwise [k0_pay1, k0_pay2, k0_pay3, k0_pay4, k0_pay5, k0_pay8, k0_pay9, k0_pay10, k0_pay11, modul]
  rw [pay7_at]
  refine Eq.trans (congrArg (fun z => (nrm z y1 * _ + _) * _ + _) (row_at m c t y0 (idx t).2.2.2.2.2.2.2.2.2.2.2)) ?_
  generalize pre _ _ _ _ = P
  simp only [nrm, vari, mean]
  blk_point [iblk, V, idx t]

end Cert.Kernel15Ideal.Final

end
-- ==== Proof.Res1Fwd.Ref.lean ====
/- The reference's output product, residual and scaled residual are what the kernel leaves. -/
module

public import proofs.«01_k».proof.Proof.Res1Fwd.Array
public import proofs.«01_k».proof.Proof.Gen.Reference15Ideal.Read

@[expose] public section

set_option maxRecDepth 16384

noncomputable section

open Idealize.ShloMosaic Idealize.ShloMosaic.TcCoe Idealize.SL.Sem

namespace Cert.Reference15Ideal.Final

open Cert.Reference15Ideal Cert.Reference15Ideal.Gen Cert.Reference15Ideal.Read

/-- The output product. -/
theorem eq10 (x1 : FVec Ideal S4096x1024 .bf16) (x2 : FVec Ideal S1024x1024 .bf16) :
    val_main_v2 (F := Ideal) x1 x2 = Cert.Kernel15Ideal.Final.prodA x1 x2 := by
  funext i
  idx_vars i
  pointwise [val_main_v0, val_main_v1, val_main_v2, Cert.Kernel15Ideal.Final.prodA, Cert.Kernel15Ideal.Final.prod]

/-- The residual before it is normalised. -/
theorem pre_eq (x0 : FVec Ideal S4352x1024 .f32) (x1 : FVec Ideal S4096x1024 .bf16) (x2 : FVec Ideal S1024x1024 .bf16) (x3 : FVec Ideal S1024 .f32) :
    val_main_v9 (F := Ideal) x0 x1 x2 x3 = Cert.Kernel15Ideal.Final.pre x0 x1 x2 x3 := by
  funext i
  idx_vars i
  pointwise [val_main_v0, val_main_v1, val_main_v2, val_main_v3, val_main_v4, val_main_v5, val_main_v6, val_main_v7, val_main_v8, val_main_v9, val_main_cst, Cert.Kernel15Ideal.Final.pre, Cert.Kernel15Ideal.Final.preAt, Cert.Kernel15Ideal.Final.prod]

/-- The reference's row normalised, with gain and shift: the residual. -/
theorem eq8 (x0 : FVec Ideal S4352x1024 .f32) (x1 : FVec Ideal S4096x1024 .bf16) (x2 : FVec Ideal S1024x1024 .bf16) (x3 : FVec Ideal S1024 .f32) (x4 x5 : FVec Ideal S1024 .f32) :
    val_main_v33 (F := Ideal) x0 x1 x2 x3 x4 x5 = Cert.Kernel15Ideal.Final.resid x0 x1 x2 x3 x4 x5 := by
  funext i
  idx_vars i
  rw [Cert.Kernel15Ideal.Final.resid, ← pre_eq]
  pointwise [val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, Cert.Kernel15Ideal.Final.nrm, Cert.Kernel15Ideal.Final.vari, Cert.Kernel15Ideal.Final.mean]

/-- The residual scaled and shifted. -/
theorem eq9 (x0 : FVec Ideal S4352x1024 .f32) (x1 : FVec Ideal S4096x1024 .bf16) (x2 : FVec Ideal S1024x1024 .bf16) (x3 : FVec Ideal S1024 .f32) (x4 x5 x6 x7 : FVec Ideal S1024 .f32) :
    val_main_v42 (F := Ideal) x0 x1 x2 x3 x4 x5 x6 x7 = Cert.Kernel15Ideal.Final.modul x0 x1 x2 x3 x4 x5 x6 x7 := by
  funext i
  idx_vars i
  pointwise [val_main_v34, val_main_v35, val_main_v36, val_main_v37, val_main_v38, val_main_v39, val_main_v40, val_main_v41, val_main_v42, val_main_cst_5]
  rw [eq8]
  pointwise [Cert.Kernel15Ideal.Final.resid, Cert.Kernel15Ideal.Final.modul]

end Cert.Reference15Ideal.Final

end
-- ==== Proof.Res1Fwd.Claim.lean ====
/- The claims about the call that computes the output product, the residual and the scaled residual. -/
module

public import proofs.«01_k».proof.Defs
public import proofs.«01_k».proof.Proof.Res1Fwd.Ref
public import proofs.«01_k».proof.Proof.Gen.Reference15Ideal.Run
public import Idealize.ShloMosaic.Adequacy
public import Idealize.ShloMosaic.Lib.Claim
public import Idealize.ShloMosaic.Lib.StableHlo.RunHlo

@[expose] public section

set_option maxRecDepth 16384

noncomputable section

namespace Cert.Res1Fwd

open Idealize.ShloMosaic Idealize.SL.Sem

/-- The reference runs, leaves its arguments alone, and has no counter to leave off zero. -/
theorem frame_ref : Cert.quiescent_Reference15Ideal := fun m g _ => by
  refine (θ_run _ _ _).mono (fun r h => ⟨fun c => (h c).2.2.2, ?_⟩) (Cert.Reference15Ideal.Value.run m g)
  exact Idealize.ShloMosaic.sem_eq_zero_of_no_sems (by decide) r.2

/-- The call ends with the output product, the residual and the scaled residual, as the reference does. -/
theorem value : Cert.algebraic_Kernel15Ideal_Reference15Ideal := by
  pair_intro
  · run_from Cert.Kernel15Ideal.Value.run_blocks m g
  · run_from Cert.Reference15Ideal.Value.run m' g'
    · rw [Cert.Kernel15Ideal.Final.final8, Cert.Reference15Ideal.Read.val_main_v33_eq]
      have h := hagree c
      rw [h.1, h.2.1, h.2.2.1, h.2.2.2.1, h.2.2.2.2.1, h.2.2.2.2.2.1]
      exact Cert.Reference15Ideal.Final.eq8 _ _ _ _ _ _
    · rw [Cert.Kernel15Ideal.Final.final9, Cert.Reference15Ideal.Read.val_main_v42_eq]
      have h := hagree c
      rw [h.1, h.2.1, h.2.2.1, h.2.2.2.1, h.2.2.2.2.1, h.2.2.2.2.2.1, h.2.2.2.2.2.2.1, h.2.2.2.2.2.2.2]
      exact Cert.Reference15Ideal.Final.eq9 _ _ _ _ _ _ _ _
    · rw [Cert.Kernel15Ideal.Final.final10]
      exact (Cert.Reference15Ideal.Read.val_main_v2_eq _ _).trans (Cert.Reference15Ideal.Final.eq10 _ _)

end Cert.Res1Fwd

end
-- ==== Proof.MergeBwd.Point.lean ====
/- What the kernel of the merge's backward pass computes at one grid point. -/
module

public import proofs.«01_k».proof.Proof.Gen.Kernel13Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Final

open Cert.Kernel13Ideal Cert.Kernel13Ideal.Gen

/-- The factor on a point's cotangent rows: nothing at the context's point, and one at a latent point. -/
def live (i : grid0.Coords) : EReal :=
  Scalar.sitofp (F := Ideal) .f32 (Scalar.extui (Scalar.cmpi .sge (Scalar.addi (BitVec.ofNat 32 (i 0).val) 4294967295#32) 0#32) : BitVec 32)

/-- At a latent point the factor is one. -/
theorem live_pos (i : grid0.Coords) (h : 1 ≤ (i 0).val) : live i = 1 := by
  have hb : (Scalar.extui (Scalar.cmpi .sge (Scalar.addi (BitVec.ofNat 32 (i 0).val) 4294967295#32) 0#32) : BitVec 32) = 1#32 :=
    (by decide +kernel : ∀ n : Fin 17, 1 ≤ n.val → (Scalar.extui (Scalar.cmpi .sge (Scalar.addi (BitVec.ofNat 32 n.val) 4294967295#32) 0#32) : BitVec 32) = 1#32) (i 0) h
  unfold live
  rw [hb, Ideal.scalar_sitofp_def]
  norm_num

/-- At the context's point the factor is nothing. -/
theorem live_zero (i : grid0.Coords) (h : (i 0).val = 0) : live i = 0 := by
  unfold live
  rw [h, Ideal.scalar_sitofp_def]
  have hb : (Scalar.extui (Scalar.cmpi .sge (Scalar.addi (BitVec.ofNat 32 0) 4294967295#32) 0#32) : BitVec 32) = 0#32 := by decide +kernel
  rw [hb]
  norm_num

/-- A point's cotangent rows. -/
theorem rows_at (i : grid0.Coords) (C : FVec Ideal S256x1024 .bf16) (p : Fin 256) (k : Fin 1024) :
    k0_pay8 (F := Ideal) i C (ix2 p k) = C (ix2 p k) * live i := by
  pointwise [k0_pay8, live]

/-- A point's rows of the merge's gradient. -/
theorem merge_at (i : grid0.Coords) (W : FVec Ideal S1024x1024 .bf16) (C : FVec Ideal S256x1024 .bf16) (p : Fin 256) (d : Fin 1024) :
    k0_pay9 (F := Ideal) i W C (ix2 p d) = ∑ k : Fin 1024, (C (ix2 p k) * live i) * W (ix2 d k) := by
  pointwise [k0_pay9]
  simp only [rows_at]

/-- A point's gates. -/
theorem gate_at (b : FVec Ideal S1x2048 .f32) (P : FVec Ideal S256x2048 .f32) (p : Fin 256) (e : Fin 2048) :
    k0_pay5 (F := Ideal) b P (ix2 p e) = Ideal.logistic (P (ix2 p e) + b (ix2 0 e)) := by
  pointwise [k0_pay5]

/-- The first branch's gates. -/
theorem gate0_at (b : FVec Ideal S1x2048 .f32) (P : FVec Ideal S256x2048 .f32) (p : Fin 256) (d : Fin 1024) :
    k0_pay6 (F := Ideal) b P (ix2 p d) = Ideal.logistic (P (ix2 p ⟨d.val, by omega⟩) + b (ix2 0 ⟨d.val, by omega⟩)) := by
  pointwise [k0_pay6, k0_pay5]

/-- The second branch's gates. -/
theorem gate1_at (b : FVec Ideal S1x2048 .f32) (P : FVec Ideal S256x2048 .f32) (p : Fin 256) (d : Fin 1024) :
    k0_pay7 (F := Ideal) b P (ix2 p d) = Ideal.logistic (P (ix2 p ⟨1024 + d.val, by omega⟩) + b (ix2 0 ⟨1024 + d.val, by omega⟩)) := by
  pointwise [k0_pay7, k0_pay5]

/-- A point's gradient of the gates' inputs: either branch's columns take that branch's product. -/
theorem grad_at (i : grid0.Coords) (b : FVec Ideal S1x2048 .f32) (W : FVec Ideal S1024x1024 .bf16) (Y Z : FVec Ideal S256x1024 .f32) (P : FVec Ideal S256x2048 .f32)
    (C : FVec Ideal S256x1024 .bf16) (p : Fin 256) (e : Fin 2048) :
    k0_pay12 (F := Ideal) i b W Y Z P C (ix2 p e) = (if h : e.val < 1024 then k0_pay9 (F := Ideal) i W C (ix2 p ⟨e.val, h⟩) * Y (ix2 p ⟨e.val, h⟩)
        else k0_pay9 (F := Ideal) i W C (ix2 p ⟨e.val - 1024, by omega⟩) * Z (ix2 p ⟨e.val - 1024, by omega⟩))
      * (k0_pay5 (F := Ideal) b P (ix2 p e) * (1 - k0_pay5 (F := Ideal) b P (ix2 p e))) := by
  pointwise [k0_pay12]

/-- At the context's point the merge's gradient is nothing. -/
theorem merge_zero (i : grid0.Coords) (h : (i 0).val = 0) (W : FVec Ideal S1024x1024 .bf16) (C : FVec Ideal S256x1024 .bf16) (p : Fin 256) (d : Fin 1024) :
    k0_pay9 (F := Ideal) i W C (ix2 p d) = 0 := by
  rw [merge_at, live_zero i h]
  simp only [mul_zero, zero_mul, Finset.sum_const_zero]

/-- At the context's point the gates' gradient is nothing. -/
theorem grad_zero (i : grid0.Coords) (h : (i 0).val = 0) (b : FVec Ideal S1x2048 .f32) (W : FVec Ideal S1024x1024 .bf16) (Y Z : FVec Ideal S256x1024 .f32)
    (P : FVec Ideal S256x2048 .f32) (C : FVec Ideal S256x1024 .bf16) (p : Fin 256) (e : Fin 2048) :
    k0_pay12 (F := Ideal) i b W Y Z P C (ix2 p e) = 0 := by
  rw [grad_at]
  simp only [merge_zero i h, zero_mul, dite_eq_ite, ite_self]

/-- A point's share of the bias's gradient: the gates' gradient, summed over the point's rows. -/
theorem bias_at (i : grid0.Coords) (b : FVec Ideal S1x2048 .f32) (W : FVec Ideal S1024x1024 .bf16) (Y Z : FVec Ideal S256x1024 .f32)
    (P : FVec Ideal S256x2048 .f32) (C : FVec Ideal S256x1024 .bf16) (a : Fin 1) (e : Fin 2048) :
    k0_pay13 (F := Ideal) i b W Y Z P C (ix2 a e) = ∑ p : Fin 256, k0_pay12 (F := Ideal) i b W Y Z P C (ix2 p e) := by
  pointwise [k0_pay13]

/-- A point's share of the weight's gradient: the merged rows against the cotangent's. -/
theorem weight_at (i : grid0.Coords) (b : FVec Ideal S1x2048 .f32) (Y Z : FVec Ideal S256x1024 .f32)
    (P : FVec Ideal S256x2048 .f32) (C : FVec Ideal S256x1024 .bf16) (k d : Fin 1024) :
    k0_pay10 (F := Ideal) i b Y Z P C (ix2 k d) = ∑ p : Fin 256, (k0_pay6 (F := Ideal) b P (ix2 p k) * Y (ix2 p k) + k0_pay7 (F := Ideal) b P (ix2 p k) * Z (ix2 p k))
      * (C (ix2 p d) * live i) := by
  pointwise [k0_pay10]
  simp only [rows_at]

/-- A point's gradient of the first branch's rows. -/
theorem branch0_at (i : grid0.Coords) (b : FVec Ideal S1x2048 .f32) (W : FVec Ideal S1024x1024 .bf16) (P : FVec Ideal S256x2048 .f32) (C : FVec Ideal S256x1024 .bf16)
    (p : Fin 256) (d : Fin 1024) :
    k0_pay14 (F := Ideal) i b W P C (ix2 p d) = k0_pay6 (F := Ideal) b P (ix2 p d) * k0_pay9 (F := Ideal) i W C (ix2 p d) := by
  pointwise [k0_pay14]

/-- A point's gradient of the second branch's rows. -/
theorem branch1_at (i : grid0.Coords) (b : FVec Ideal S1x2048 .f32) (W : FVec Ideal S1024x1024 .bf16) (P : FVec Ideal S256x2048 .f32) (C : FVec Ideal S256x1024 .bf16)
    (p : Fin 256) (d : Fin 1024) :
    k0_pay1 (F := Ideal) (k0_pay11 (F := Ideal) i b W P C) (ix2 p d) = k0_pay7 (F := Ideal) b P (ix2 p d) * k0_pay9 (F := Ideal) i W C (ix2 p d) := by
  pointwise [k0_pay1, k0_pay11]

/-- The gates' gradient as it is stored. -/
theorem store_at (v : FVec Ideal S256x2048 .f32) (j : S256x2048.Idx) : k0_pay2 (F := Ideal) v j = v j := by
  idx_vars j
  pointwise [k0_pay2]

/-- Adding to the bias's accumulator. -/
theorem bias_step (v : FVec Ideal S1x2048 .f32) (acc : FVec Ideal S1x2048 .f32) (j : S1x2048.Idx) : k0_pay3 (F := Ideal) v acc j = acc j + v j := by
  idx_vars j
  pointwise [k0_pay3]

/-- Adding to the weight's accumulator. -/
theorem weight_step (v : FVec Ideal S1024x1024 .f32) (acc : FVec Ideal S1024x1024 .f32) (j : S1024x1024.Idx) : k0_pay4 (F := Ideal) v acc j = acc j + v j := by
  idx_vars j
  pointwise [k0_pay4]

end Cert.Kernel13Ideal.Final

end
-- ==== Proof.MergeBwd.Array.lean ====
/- What the kernel of the merge's backward pass leaves in its five results. -/
module

public import proofs.«01_k».proof.Proof.MergeBwd.Point

@[expose] public section

set_option maxRecDepth 16384

noncomputable section

open Idealize.ShloMosaic Idealize.ShloMosaic.TcCoe Idealize.SL.Sem
open Idealize.ShloMosaic.Pipeline (Dat)

namespace Cert.Kernel13Ideal.Final

open Cert.Kernel13Ideal Cert.Kernel13Ideal.Gen

variable (m : (ℓ : Loc nD τ sig) → Buf (Elt Ideal) ℓ)

/-- The gate of latent row `r` in column `e`. -/
def gate (P : FVec Ideal S4352x7168 .f32) (b : FVec Ideal S2048 .f32) (r : Fin 4096) (e : Fin 2048) : EReal :=
  Ideal.logistic (P (ix2 ⟨256 + r.val, by omega⟩ ⟨e.val, by omega⟩) + b (ix1 e))

/-- The merge's gradient: the cotangent times the weight's transpose. -/
def dmerge (W : FVec Ideal S1024x1024 .bf16) (C : FVec Ideal S4096x1024 .bf16) (r : Fin 4096) (d : Fin 1024) : EReal :=
  ∑ k : Fin 1024, C (ix2 r k) * W (ix2 d k)

/-- The gradient of branch `o`'s rows: the merge's gradient times the branch's gate. -/
def dbranch (o : Fin 2) (P : FVec Ideal S4352x7168 .f32) (b : FVec Ideal S2048 .f32) (W : FVec Ideal S1024x1024 .bf16) (C : FVec Ideal S4096x1024 .bf16)
    (i : S4096x1024.Idx) : EReal :=
  gate P b (i 0) ⟨1024 * o.val + (i 1).val, by have h : (i 1).val < 1024 := (i 1).isLt; omega⟩ * dmerge W C (i 0) (i 1)

/-- The gradient of the gates' inputs at a latent row. -/
def dgate (Y Z : FVec Ideal S4096x1024 .f32) (P : FVec Ideal S4352x7168 .f32) (b : FVec Ideal S2048 .f32) (W : FVec Ideal S1024x1024 .bf16)
    (C : FVec Ideal S4096x1024 .bf16) (r : Fin 4096) (e : Fin 2048) : EReal :=
  (if h : e.val < 1024 then dmerge W C r ⟨e.val, h⟩ * Y (ix2 r ⟨e.val, h⟩) else dmerge W C r ⟨e.val - 1024, by omega⟩ * Z (ix2 r ⟨e.val - 1024, by omega⟩))
    * (gate P b r e * (1 - gate P b r e))

/-- The gradient of the projection: the gates' columns have nothing at the context's rows and the gates' gradient at the others, and the
other columns keep what they held. -/
def dproj (Y Z : FVec Ideal S4096x1024 .f32) (P : FVec Ideal S4352x7168 .f32) (b : FVec Ideal S2048 .f32) (W : FVec Ideal S1024x1024 .bf16)
    (C : FVec Ideal S4096x1024 .bf16) (D : FVec Ideal S4352x7168 .bf16) (i : S4352x7168.Idx) : EReal :=
  if h : (i 1).val < 2048 then
    (if h' : (i 0).val < 256 then 0 else dgate Y Z P b W C ⟨(i 0).val - 256, by have := (i 0).isLt; change (i 0).val < 4352 at this; omega⟩ ⟨(i 1).val, h⟩)
  else D i

/-- The gradient of the gates' bias. -/
def dbias (Y Z : FVec Ideal S4096x1024 .f32) (P : FVec Ideal S4352x7168 .f32) (b : FVec Ideal S2048 .f32) (W : FVec Ideal S1024x1024 .bf16)
    (C : FVec Ideal S4096x1024 .bf16) (i : S1x2048.Idx) : EReal :=
  ∑ r : Fin 4096, dgate Y Z P b W C r (i 1)

/-- The merged row `r` in column `k`. -/
def merged (Y Z : FVec Ideal S4096x1024 .f32) (P : FVec Ideal S4352x7168 .f32) (b : FVec Ideal S2048 .f32) (r : Fin 4096) (k : Fin 1024) : EReal :=
  gate P b r ⟨k.val, by omega⟩ * Y (ix2 r k) + gate P b r ⟨1024 + k.val, by omega⟩ * Z (ix2 r k)

/-- The gradient of the weight. -/
def dweight (Y Z : FVec Ideal S4096x1024 .f32) (P : FVec Ideal S4352x7168 .f32) (b : FVec Ideal S2048 .f32)
    (C : FVec Ideal S4096x1024 .bf16) (i : S1024x1024.Idx) : EReal :=
  ∑ r : Fin 4096, merged Y Z P b r (i 0) * C (ix2 r (i 1))

/-- Where every window's block sits at grid point `t`: the latent rows begin one point after the context's. -/
theorem idx : ∀ t : Fin cfg0.N, win0_0.index t = ![t.val - 1, 0] ∧ win0_1.index t = ![t.val - 1, 0] ∧ win0_2.index t = ![t.val, 0]
    ∧ win0_3.index t = ![0, 0] ∧ win0_4.index t = ![0, 0] ∧ win0_5.index t = ![t.val - 1, 0]
    ∧ win0_6.index t = ![t.val - 1, 0] ∧ win0_7.index t = ![t.val - 1, 0] ∧ win0_8.index t = ![t.val, 0]
    ∧ win0_9.index t = ![0, 0] ∧ win0_10.index t = ![0, 0] ∧ t.val < 17 ∧ (grid0.coords t 0).val = t.val :=
  (by decide +kernel : ∀ t : Fin grid0.N, _)

/-- A grid point's number. -/
theorem lt (t : Fin cfg0.N) : t.val < 17 := (idx t).2.2.2.2.2.2.2.2.2.2.2.1

/-- A grid point's coordinate is its number. -/
theorem coord (t : Fin cfg0.N) : (grid0.coords t 0).val = t.val := (idx t).2.2.2.2.2.2.2.2.2.2.2.2

/-- The latent rows' results are not written back at the context's point. -/
theorem flush6 : ∀ t : Fin cfg0.N, (cfg0.win 6).flush t = true → 1 ≤ t.val :=
  (by decide +kernel : ∀ t : Fin grid0.N, win0_6.flush t = true → 1 ≤ t.val)

/-- The latent rows' results are not written back at the context's point. -/
theorem flush7 : ∀ t : Fin cfg0.N, (cfg0.win 7).flush t = true → 1 ≤ t.val :=
  (by decide +kernel : ∀ t : Fin grid0.N, win0_7.flush t = true → 1 ≤ t.val)

/-- A point's rows of the projection. -/
theorem proj_at (c : Dev nD) (t : Fin cfg0.N) (p : Fin 256) (e : Fin 2048) :
    (show FVec Ideal S256x2048 .f32 from X0_2 m c t) (ix2 p e)
      = (show FVec Ideal S4352x7168 .f32 from (m ((c : Thread nD τ).loc main_arg2))) (ix2 ⟨256 * t.val + p.val, by have := lt t; omega⟩ ⟨e.val, by omega⟩) := by
  have ht := lt t
  show X0_2 m c t (ix2 p e) = _
  unfold X0_2 Pipeline.Window.fill
  rw [dif_pos (moved0_2 t _)]
  blk_point [iblk, V, idx t]

/-- The latent row that is row `p` of point `t`'s tile. -/
def row (t : Fin cfg0.N) (p : Fin 256) : Fin 4096 := ⟨256 * (t.val - 1) + p.val, by have := lt t; omega⟩

/-- A point's gates, at a latent point. -/
theorem pgate (c : Dev nD) (t : Fin cfg0.N) (h : 1 ≤ t.val) (p : Fin 256) (e : Fin 2048) :
    Ideal.logistic ((show FVec Ideal S256x2048 .f32 from X0_2 m c t) (ix2 p e) + (show FVec Ideal S1x2048 .f32 from iblk m c 3 t) (ix2 0 e))
      = gate (m ((c : Thread nD τ).loc main_arg2)) (m ((c : Thread nD τ).loc main_arg3)) (row t p) e := by
  have ht := lt t
  rw [proj_at]
  unfold gate row
  blk_point [iblk, V, idx t]

/-- A point's merge gradient, at a latent point. -/
theorem pmerge (c : Dev nD) (t : Fin cfg0.N) (h : 1 ≤ t.val) (p : Fin 256) (d : Fin 1024) :
    k0_pay9 (F := Ideal) (grid0.coords t) (iblk m c 4 t) (iblk m c 5 t) (ix2 p d)
      = dmerge (m ((c : Thread nD τ).loc main_arg4)) (m ((c : Thread nD τ).loc main_arg5)) (row t p) d := by
  have ht := lt t
  rw [merge_at, live_pos _ (by rw [coord]; exact h)]
  simp only [mul_one]
  unfold dmerge row
  blk_point [iblk, V, idx t]

/-- A point's rows of the first branch. -/
theorem py (c : Dev nD) (t : Fin cfg0.N) (p : Fin 256) (d : Fin 1024) :
    (show FVec Ideal S256x1024 .f32 from iblk m c 0 t) (ix2 p d) = (show FVec Ideal S4096x1024 .f32 from m ((c : Thread nD τ).loc main_arg0)) (ix2 (row t p) d) := by
  have ht := lt t
  unfold row
  blk_point [iblk, V, idx t]

/-- A point's rows of the second branch. -/
theorem pz (c : Dev nD) (t : Fin cfg0.N) (p : Fin 256) (d : Fin 1024) :
    (show FVec Ideal S256x1024 .f32 from iblk m c 1 t) (ix2 p d) = (show FVec Ideal S4096x1024 .f32 from m ((c : Thread nD τ).loc main_arg1)) (ix2 (row t p) d) := by
  have ht := lt t
  unfold row
  blk_point [iblk, V, idx t]

/-- A point's rows of the cotangent. -/
theorem pc (c : Dev nD) (t : Fin cfg0.N) (p : Fin 256) (d : Fin 1024) :
    (show FVec Ideal S256x1024 .bf16 from iblk m c 5 t) (ix2 p d) = (show FVec Ideal S4096x1024 .bf16 from m ((c : Thread nD τ).loc main_arg5)) (ix2 (row t p) d) := by
  have ht := lt t
  unfold row
  blk_point [iblk, V, idx t]

/-- A point's gradient of the gates' inputs, at a latent point. -/
theorem pgrad (c : Dev nD) (t : Fin cfg0.N) (h : 1 ≤ t.val) (p : Fin 256) (e : Fin 2048) :
    k0_pay12 (F := Ideal) (grid0.coords t) (iblk m c 3 t) (iblk m c 4 t) (iblk m c 0 t) (iblk m c 1 t) (X0_2 m c t) (iblk m c 5 t) (ix2 p e)
      = dgate (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (row t p) e := by
  refine (grad_at _ _ _ _ _ _ _ _ _).trans ?_
  rw [gate_at]
  unfold dgate
  refine congrArg₂ (· * ·) ?_ ?_
  · split_ifs with he
    · exact congrArg₂ (· * ·) (pmerge m c t h p _) (py m c t p _)
    · exact congrArg₂ (· * ·) (pmerge m c t h p _) (pz m c t p _)
  · exact congrArg₂ (· * ·) (pgate m c t h p e) (congrArg (1 - ·) (pgate m c t h p e))

end Cert.Kernel13Ideal.Final

end
-- ==== Proof.MergeBwd.Final.lean ====
/- What the kernel of the merge's backward pass leaves in its five results, from what it computes at each point. -/
module

public import proofs.«01_k».proof.Proof.MergeBwd.Array

@[expose] public section

set_option maxRecDepth 16384

noncomputable section

open Idealize.ShloMosaic Idealize.ShloMosaic.TcCoe Idealize.SL.Sem
open Idealize.ShloMosaic.Pipeline (Dat)

namespace Cert.Kernel13Ideal.Final

open Cert.Kernel13Ideal Cert.Kernel13Ideal.Gen

variable (m : (ℓ : Loc nD τ sig) → Buf (Elt Ideal) ℓ)

/-- The gradient of the first branch's rows after the run. -/
theorem final6 (c : Dev nD) : (dats m 0 c).arrAt 6 (cfgs 0).N = dbranch 0 (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h1 := flush6 t hf
  have ht := lt t
  blk_simp
  rw [after0_6, outsAt0_B m c t (by omega) h1 (by omega) h1]
  frame_out
  idx_vars y
  refine (branch0_at _ _ _ _ _ _ _).trans ?_
  rw [gate0_at]
  refine (congrArg₂ (· * ·) (pgate m c t h1 _ _) (pmerge m c t h1 _ _)).trans ?_
  unfold dbranch gate dmerge row
  blk_point [iblk, V, idx t]

/-- The gradient of the second branch's rows after the run. -/
theorem final7 (c : Dev nD) : (dats m 0 c).arrAt 7 (cfgs 0).N = dbranch 1 (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h1 := flush7 t hf
  have ht := lt t
  blk_simp
  rw [after0_7, outsAt0_B m c t (by omega) h1 (by omega) h1]
  frame_out
  idx_vars y
  refine (branch1_at _ _ _ _ _ _ _).trans ?_
  rw [gate1_at]
  refine (congrArg₂ (· * ·) (pgate m c t h1 _ _) (pmerge m c t h1 _ _)).trans ?_
  unfold dbranch gate dmerge row
  blk_point [iblk, V, idx t]

/-- The projection's gradient at a context row, in the gates' columns. -/
theorem dproj_lo (Y Z : FVec Ideal S4096x1024 .f32) (P : FVec Ideal S4352x7168 .f32) (b : FVec Ideal S2048 .f32) (W : FVec Ideal S1024x1024 .bf16)
    (C : FVec Ideal S4096x1024 .bf16) (D : FVec Ideal S4352x7168 .bf16) (i : S4352x7168.Idx) (h0 : (i 0).val < 256) (h1 : (i 1).val < 2048) :
    dproj Y Z P b W C D i = 0 := by
  unfold dproj
  rw [dif_pos h1, dif_pos h0]

/-- The projection's gradient at a latent row, in the gates' columns. -/
theorem dproj_hi (Y Z : FVec Ideal S4096x1024 .f32) (P : FVec Ideal S4352x7168 .f32) (b : FVec Ideal S2048 .f32) (W : FVec Ideal S1024x1024 .bf16)
    (C : FVec Ideal S4096x1024 .bf16) (D : FVec Ideal S4352x7168 .bf16) (i : S4352x7168.Idx) (r : Fin 4096) (e : Fin 2048)
    (h0 : (i 0).val = 256 + r.val) (h1 : (i 1).val = e.val) :
    dproj Y Z P b W C D i = dgate Y Z P b W C r e := by
  unfold dproj
  rw [dif_pos (by omega), dif_neg (by omega)]
  exact congrArg₂ (dgate Y Z P b W C) (Fin.ext (by show (i 0).val - 256 = r.val; omega)) (Fin.ext h1)

/-- The projection's gradient before the run is the array given. -/
theorem entry8 (c : Dev nD) (i : S4352x7168.Idx) : (dats m 0 c).A 8 i = m ((c : Thread nD τ).loc main_arg6) i := by
  rw [A_eq]
  show V m c main_v1_2 i = _
  entry_read
  rfl

/-- A block index is its two coordinates. -/
theorem block8 (z : S256x2048.Idx) (p : Fin 256) (e : Fin 2048) (h0 : (z 0).val = p.val) (h1 : (z 1).val = e.val) : z = ix2 p e := by
  funext a
  match a with
  | ⟨0, _⟩ => exact Fin.ext h0
  | ⟨1, _⟩ => exact Fin.ext h1

/-- Where an element of a point's block of the projection's gradient sits. -/
theorem emb8 (t : Fin cfg0.N) (y : ((cfg0.win 8).xblock (cfg0.grid.coords t)).Idx) :
    ((((cfg0.win 8).blk t).view.emb y) 0).val = 256 * t.val + (y 0).val ∧ ((((cfg0.win 8).blk t).view.emb y) 1).val = (y 1).val := by
  have hi : win0_8.index t = ![t.val, 0] := (idx t).2.2.2.2.2.2.2.2.1
  constructor
  · refine (Pipeline.Window.rect_emb_val (cfg0.win 8) t y 0).trans ?_
    show win0_8.index t 0 * 256 + (y 0).val = _
    rw [hi]
    show t.val * 256 + (y 0).val = _
    omega
  · refine (Pipeline.Window.rect_emb_val (cfg0.win 8) t y 1).trans ?_
    show win0_8.index t 1 * 2048 + (y 1).val = _
    rw [hi]
    show 0 * 2048 + (y 1).val = _
    omega

/-- The gradient of the projection after the run. -/
theorem final8 (c : Dev nD) : (dats m 0 c).arrAt 8 (cfgs 0).N = dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((dats m 0 c).arrAt_eq_of_coversWhere 8 (P := fun i => (i 1).val < 2048) (dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun β => β 1 = 0) (by decide +kernel) (fun t hf y => ?_)
    (fun j => by blk_simp [Pipeline.Window.cell_apply]; omega)).trans ?_
  · have ht := lt t
    have hy0 : (y 0).val < 256 := ((cfg0.win 8).xinj (cfg0.grid.coords t) y 0).isLt
    have hy1 : (y 1).val < 2048 := ((cfg0.win 8).xinj (cfg0.grid.coords t) y 1).isLt
    have hz : (cfg0.win 8).xinj (cfg0.grid.coords t) y = (ix2 (⟨(y 0).val, hy0⟩ : Fin 256) (⟨(y 1).val, hy1⟩ : Fin 2048) : S256x2048.Idx) :=
      block8 _ _ _ rfl rfl
    obtain ⟨e0, e1⟩ := emb8 t y
    by_cases h1 : 1 ≤ t.val
    · refine Eq.trans ?_ (dproj_hi _ _ _ _ _ _ _ _ (row t ⟨_, hy0⟩) ⟨_, hy1⟩ (by rw [e0]; unfold row; show _ = 256 + (256 * (t.val - 1) + (y 0).val); omega) e1).symm
      blk_simp
      rw [hz, after0_8, outsAt0_B m c t (by omega) h1 (by omega) h1]
      frame_out
      exact (store_at _ _).trans (pgrad m c t h1 _ _)
    · refine Eq.trans ?_ (dproj_lo _ _ _ _ _ _ _ _ (by rw [e0]; omega) (by rw [e1]; exact hy1)).symm
      blk_simp
      rw [hz, after0_8, outsAt0_A m c t (by omega) h1 (by omega) h1]
      frame_out
      exact (store_at _ _).trans (grad_zero _ (by rw [coord]; omega) _ _ _ _ _ _ _ _)
  · funext i
    by_cases h : (i 1).val < 2048
    · exact if_pos h
    · refine (if_neg h).trans ((entry8 m c i).trans ?_)
      unfold dproj
      rw [dif_neg h]

/-- One point's share of the bias's gradient. -/
def shareB (c : Dev nD) (t : Fin cfg0.N) (j : S1x2048.Idx) : EReal :=
  k0_pay13 (F := Ideal) (grid0.coords t) (iblk m c 3 t) (iblk m c 4 t) (iblk m c 0 t) (iblk m c 1 t) (X0_2 m c t) (iblk m c 5 t) j

/-- The context's point has no share of the bias's gradient. -/
theorem shareB_zero (c : Dev nD) (t : Fin cfg0.N) (h : t.val = 0) (a : Fin 1) (e : Fin 2048) : shareB m c t (ix2 a e) = 0 := by
  refine (bias_at _ _ _ _ _ _ _ _ _).trans ?_
  simp only [grad_zero (grid0.coords t) (by rw [coord]; exact h), Finset.sum_const_zero]

/-- A latent point's share of the bias's gradient. -/
theorem shareB_pos (c : Dev nD) (t : Fin cfg0.N) (h : 1 ≤ t.val) (a : Fin 1) (e : Fin 2048) : shareB m c t (ix2 a e)
      = ∑ p : Fin 256, dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t p) e :=
  (bias_at _ _ _ _ _ _ _ _ _).trans (Finset.sum_congr rfl fun p _ => pgrad m c t h p e)

/-- At the last point the bias's accumulator holds the points' shares, added. -/
theorem accB (c : Dev nD) (t : Fin cfg0.N) (h1 : t.val % 17 = 17 - 1) (j : S1x2048.Idx) :
    (outsAt0 m c t.val t.isLt).2.2.2.1 j
      = ∑ s : Fin 17, shareB m c ⟨17 * (t.val / 17) + s.val, Pipeline.run_point_lt_of_flush t h1 s⟩ j := by
  rw [Pipeline.eq_sum_fin_of_reset_step_apply_of_flush (fun n h => (outsAt0 m c n h).2.2.2.1) 17 (fun _ => 0) (shareB m c)
    (fun t h j => by
      have ht := lt t
      rw [outsAt0_A m c t h (by omega) h (by omega)]
      frame_out
      exact (zero_add _).symm)
    (fun t h j => by
      rw [outsAt0_B m c t h (by omega) h (by omega)]
      frame_out
      rw [bias_step]; rfl) t h1 j, zero_add]

/-- The gradient of the gates' bias after the run. -/
theorem final9 (c : Dev nD) : (dats m 0 c).arrAt 9 (cfgs 0).N = dbias (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have h1 := (flush0_9 t).mp hf
  have ht := lt t
  blk_simp
  rw [after0_9, accB m c t h1]
  idx_vars y
  rw [Fin.sum_univ_succ, shareB_zero m c _ (by show 17 * (t.val / 17) + 0 = 0; omega), zero_add]
  have hs : ∀ s : Fin 16, shareB m c ⟨17 * (t.val / 17) + s.succ.val, Pipeline.run_point_lt_of_flush t h1 s.succ⟩ (ix2 y0 y1) = _ :=
    fun s => shareB_pos m c _ (by show 1 ≤ 17 * (t.val / 17) + (s.val + 1); omega) y0 y1
  refine (Finset.sum_congr rfl fun s _ => hs s).trans ?_
  unfold dbias
  refine Fin.sum_mul_add_congr fun s k hl => ?_
  refine congrArg₂ (dgate _ _ _ _ _ _) (Fin.ext ?_) (Fin.ext ?_)
  · show 256 * (17 * (t.val / 17) + (s.val + 1) - 1) + k.val = s.val * 256 + k.val
    omega
  · blk_simp [idx t]

/-- One point's share of the weight's gradient. -/
def shareW (c : Dev nD) (t : Fin cfg0.N) (j : S1024x1024.Idx) : EReal :=
  k0_pay10 (F := Ideal) (grid0.coords t) (iblk m c 3 t) (iblk m c 0 t) (iblk m c 1 t) (X0_2 m c t) (iblk m c 5 t) j

/-- The context's point has no share of the weight's gradient. -/
theorem shareW_zero (c : Dev nD) (t : Fin cfg0.N) (h : t.val = 0) (k d : Fin 1024) : shareW m c t (ix2 k d) = 0 := by
  refine (weight_at _ _ _ _ _ _ _ _).trans ?_
  simp only [live_zero (grid0.coords t) (by rw [coord]; exact h), mul_zero, Finset.sum_const_zero]

/-- A latent point's share of the weight's gradient. -/
theorem shareW_pos (c : Dev nD) (t : Fin cfg0.N) (h : 1 ≤ t.val) (k d : Fin 1024) : shareW m c t (ix2 k d)
      = ∑ p : Fin 256, merged (m ((c : Thread nD τ).loc main_arg0)) (m ((c : Thread nD τ).loc main_arg1)) (m ((c : Thread nD τ).loc main_arg2)) (m ((c : Thread nD τ).loc main_arg3)) (row t p) k * (show FVec Ideal S4096x1024 .bf16 from (m ((c : Thread nD τ).loc main_arg5))) (ix2 (row t p) d) := by
  refine (weight_at _ _ _ _ _ _ _ _).trans (Finset.sum_congr rfl fun p _ => ?_)
  rw [live_pos (grid0.coords t) (by rw [coord]; exact h), mul_one]
  refine congrArg₂ (· * ·) (congrArg₂ (· + ·) (congrArg₂ (· * ·) ?_ (py m c t p k)) (congrArg₂ (· * ·) ?_ (pz m c t p k))) (pc m c t p d)
  · exact (gate0_at _ _ _ _).trans (pgate m c t h p _)
  · exact (gate1_at _ _ _ _).trans (pgate m c t h p _)

/-- At the last point the weight's accumulator holds the points' shares, added. -/
theorem accW (c : Dev nD) (t : Fin cfg0.N) (h1 : t.val % 17 = 17 - 1) (j : S1024x1024.Idx) :
    (outsAt0 m c t.val t.isLt).2.2.2.2 j
      = ∑ s : Fin 17, shareW m c ⟨17 * (t.val / 17) + s.val, Pipeline.run_point_lt_of_flush t h1 s⟩ j := by
  rw [Pipeline.eq_sum_fin_of_reset_step_apply_of_flush (fun n h => (outsAt0 m c n h).2.2.2.2) 17 (fun _ => 0) (shareW m c)
    (fun t h j => by
      have ht := lt t
      rw [outsAt0_A m c t h (by omega) h (by omega)]
      frame_out
      exact (zero_add _).symm)
    (fun t h j => by
      rw [outsAt0_B m c t h (by omega) h (by omega)]
      frame_out
      rw [weight_step]; rfl) t h1 j, zero_add]

/-- The gradient of the weight after the run. -/
theorem final10 (c : Dev nD) : (dats m 0 c).arrAt 10 (cfgs 0).N = dweight (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 10 _ (by decide +kernel) fun t hf y => ?_
  have h1 := (flush0_10 t).mp hf
  have ht := lt t
  blk_simp
  rw [after0_10, accW m c t h1]
  idx_vars y
  rw [Fin.sum_univ_succ, shareW_zero m c _ (by show 17 * (t.val / 17) + 0 = 0; omega), zero_add]
  have hs : ∀ s : Fin 16, shareW m c ⟨17 * (t.val / 17) + s.succ.val, Pipeline.run_point_lt_of_flush t h1 s.succ⟩ (ix2 y0 y1) = _ :=
    fun s => shareW_pos m c _ (by show 1 ≤ 17 * (t.val / 17) + (s.val + 1); omega) y0 y1
  refine (Finset.sum_congr rfl fun s _ => hs s).trans ?_
  unfold dweight
  refine Fin.sum_mul_add_congr fun s k hl => ?_
  have hr : row ⟨17 * (t.val / 17) + s.succ.val, Pipeline.run_point_lt_of_flush t h1 s.succ⟩ k = ⟨s.val * 256 + k.val, hl⟩ := by
    refine Fin.ext ?_
    show 256 * (17 * (t.val / 17) + (s.val + 1) - 1) + k.val = s.val * 256 + k.val
    omega
  rw [hr]
  unfold merged gate
  blk_point [iblk, V, idx t]

end Cert.Kernel13Ideal.Final

end
-- ==== Proof.MergeBwd.Ref.lean ====
/- The reference's gradients of the merge and of the output projection are what the kernel leaves. -/
module

public import proofs.«01_k».proof.Proof.MergeBwd.Final
public import proofs.«01_k».proof.Proof.Gen.Reference13Ideal.Read

@[expose] public section

set_option maxRecDepth 16384

noncomputable section

open Idealize.ShloMosaic Idealize.ShloMosaic.TcCoe Idealize.SL.Sem

namespace Cert.Reference13Ideal.Final

open Cert.Reference13Ideal Cert.Reference13Ideal.Gen Cert.Reference13Ideal.Read

variable (x0 x1 : FVec Ideal S4096x1024 .f32) (x2 : FVec Ideal S4352x7168 .f32) (x3 : FVec Ideal S2048 .f32) (x4 : FVec Ideal S1024x1024 .bf16)
  (x5 : FVec Ideal S4096x1024 .bf16) (x6 : FVec Ideal S4352x7168 .bf16)

/-- The gates. -/
theorem gate_at (r : Fin 4096) (e : Fin 2048) : val_main_v10 (F := Ideal) x2 x3 (ix2 r e) = Cert.Kernel13Ideal.Final.gate x2 x3 r e := by
  pointwise [val_main_v0, val_main_v2, val_main_v3, val_main_v4, val_main_v5, val_main_v6, val_main_cst, val_main_v7, val_main_v8, val_main_cst_0, val_main_v9, val_main_v10, Cert.Kernel13Ideal.Final.gate]
  rfl

/-- The merge's gradient. -/
theorem merge_at (r : Fin 4096) (d : Fin 1024) : val_main_v23 (F := Ideal) x4 x5 (ix2 r d) = Cert.Kernel13Ideal.Final.dmerge x4 x5 r d := by
  pointwise [val_main_v1, val_main_v20, val_main_v23, Cert.Kernel13Ideal.Final.dmerge]

/-- The gradient of the first branch's rows. -/
theorem eq6 : val_main_v37 (F := Ideal) x2 x3 x4 x5 = Cert.Kernel13Ideal.Final.dbranch 0 x2 x3 x4 x5 := by
  funext i
  idx_vars i
  pointwise [val_main_v37, val_main_v27, val_main_v14]
  rw [gate_at, merge_at]
  pointwise [Cert.Kernel13Ideal.Final.dbranch]

/-- The gradient of the second branch's rows. -/
theorem eq7 : val_main_v38 (F := Ideal) x2 x3 x4 x5 = Cert.Kernel13Ideal.Final.dbranch 1 x2 x3 x4 x5 := by
  funext i
  idx_vars i
  pointwise [val_main_v38, val_main_v24, val_main_v16]
  rw [gate_at, merge_at]
  pointwise [Cert.Kernel13Ideal.Final.dbranch]

/-- The gradient of the gates' inputs. -/
theorem grad_at (r : Fin 4096) (e : Fin 2048) : val_main_v31 (F := Ideal) x0 x1 x2 x3 x4 x5 (ix2 r e) = Cert.Kernel13Ideal.Final.dgate x0 x1 x2 x3 x4 x5 r e := by
  pointwise [val_main_v31, val_main_v30, val_main_v29, val_main_v28, val_main_v26, val_main_v25, val_main_v13, val_main_v12, val_main_v11, val_main_cst_1, val_main_cst_2, val_main_cst_3]
  unfold Cert.Kernel13Ideal.Final.dgate
  simp only [merge_at, gate_at]
  refine congrArg₂ (· * ·) ?_ rfl
  by_cases h : e.val < 1024
  · rw [dif_pos h, dif_pos h, dif_neg (by omega), zero_add]
  · rw [dif_neg h, dif_neg h, dif_pos (by omega), add_zero]

/-- The gradient of the projection. -/
theorem eq8 : val_main_v41 (F := Ideal) x0 x1 x2 x3 x4 x5 x6 = Cert.Kernel13Ideal.Final.dproj x0 x1 x2 x3 x4 x5 x6 := by
  funext i
  idx_vars i
  pointwise [val_main_v41, val_main_v40, val_main_v39, val_main_v36, val_main_v35, val_main_cst_6]
  simp only [grad_at]
  pointwise [Cert.Kernel13Ideal.Final.dproj]
  by_cases h : i1.val < 2048
  · rw [dif_pos h, dif_pos h]
  · rw [dif_neg h, dif_neg h]
    exact congrArg x6 (congrArg (ix2 i0) (Fin.ext (by show 2048 + (i1.val - 2048) = i1.val; omega)))

/-- The gradient of the gates' bias. -/
theorem eq9 : val_main_v42 (F := Ideal) x0 x1 x2 x3 x4 x5 = Cert.Kernel13Ideal.Final.dbias x0 x1 x2 x3 x4 x5 := by
  funext i
  idx_vars i
  pointwise [val_main_v42, val_main_v34, val_main_v33, val_main_v32, val_main_cst_4, val_main_cst_5, Cert.Kernel13Ideal.Final.dbias]
  simp only [grad_at]
  exact Fin.sum_univ_one _

/-- The gradient of the weight. -/
theorem eq10 : val_main_v22 (F := Ideal) x0 x1 x2 x3 x5 = Cert.Kernel13Ideal.Final.dweight x0 x1 x2 x3 x5 := by
  funext i
  idx_vars i
  pointwise [val_main_v22, val_main_v21, val_main_v20, val_main_v18, val_main_v17, val_main_v16, val_main_v15, val_main_v14, Cert.Kernel13Ideal.Final.dweight, Cert.Kernel13Ideal.Final.merged]
  simp only [gate_at]
  exact Finset.sum_congr rfl fun r _ => mul_comm _ _

end Cert.Reference13Ideal.Final

end
-- ==== Proof.MergeBwd.Claim.lean ====
/- The claims about the call that computes the gradient of the merge and of the output projection. -/
module

public import proofs.«01_k».proof.Defs
public import proofs.«01_k».proof.Proof.MergeBwd.Ref
public import proofs.«01_k».proof.Proof.Gen.Reference13Ideal.Run
public import Idealize.ShloMosaic.Adequacy
public import Idealize.ShloMosaic.Lib.Claim
public import Idealize.ShloMosaic.Lib.StableHlo.RunHlo

@[expose] public section

set_option maxRecDepth 16384

noncomputable section

namespace Cert.MergeBwd

open Idealize.ShloMosaic Idealize.SL.Sem

/-- The reference runs, leaves its arguments alone, and has no counter to leave off zero. -/
theorem frame_ref : Cert.quiescent_Reference13Ideal := fun m g _ => by
  refine (θ_run _ _ _).mono (fun r h => ⟨fun c => (h c).2.2.2.2.2, ?_⟩) (Cert.Reference13Ideal.Value.run m g)
  exact Idealize.ShloMosaic.sem_eq_zero_of_no_sems (by decide) r.2

/-- The call ends with the gradients of the merge and of the output projection, as the reference does. -/
theorem value : Cert.algebraic_Kernel13Ideal_Reference13Ideal := by
  pair_intro
  · run_from Cert.Kernel13Ideal.Value.run_blocks m g
  · run_from Cert.Reference13Ideal.Value.run m' g'
    · rw [Cert.Kernel13Ideal.Final.final6, Cert.Reference13Ideal.Read.val_main_v37_eq]
      exact Cert.Reference13Ideal.Final.eq6 _ _ _ _
    · rw [Cert.Kernel13Ideal.Final.final7, Cert.Reference13Ideal.Read.val_main_v38_eq]
      exact Cert.Reference13Ideal.Final.eq7 _ _ _ _
    · rw [Cert.Kernel13Ideal.Final.final8, Cert.Reference13Ideal.Read.val_main_v41_eq]
      have h := hagree c
      rw [h.2.2.2.2.1, h.2.2.2.2.2.1, h.2.2.2.2.2.2]
      exact Cert.Reference13Ideal.Final.eq8 _ _ _ _ _ _ _
    · rw [Cert.Kernel13Ideal.Final.final9, Cert.Reference13Ideal.Read.val_main_v42_eq]
      exact Cert.Reference13Ideal.Final.eq9 _ _ _ _ _ _
    · rw [Cert.Kernel13Ideal.Final.final10, Cert.Reference13Ideal.Read.val_main_v22_eq]
      exact Cert.Reference13Ideal.Final.eq10 _ _ _ _ _

end Cert.MergeBwd

end
-- ==== Proof.Mix.Spec.lean ====
/- The spatial gating's backward pass in plain formulas: GELU, the layer norm of a row, the mixing of a chunk's rows, and their gradients. -/
module

public import proofs.«01_k».proof.Proof.Finite

@[expose] public section

noncomputable section

open Idealize.ShloMosaic

namespace Cert.Mix

/-- The factor in front of GELU's cubic. -/
def cA : EReal := Ideal.ofBits .f32 0x3F4C422A#32
/-- The coefficient of GELU's cubic term. -/
def cB : EReal := Ideal.ofBits .f32 0x3D372713#32
/-- The number of columns. -/
def cN : EReal := Ideal.ofBits .f32 0x44800000#32
/-- The layer norm's small constant. -/
def cE : EReal := Ideal.ofBits .f32 0x3727C5AC#32
/-- One half. -/
def cH : EReal := Ideal.ofBits .f32 0x3F000000#32
/-- Minus one half. -/
def cM : EReal := Ideal.ofBits .f32 0xBF000000#32

/-- The hyperbolic tangent inside GELU. -/
def th (x : EReal) : EReal := Ideal.tanh (cA * (x + cB * (x * x * x)))
/-- GELU. -/
def gel (x : EReal) : EReal := cH * x * (1 + th x)
/-- The part of GELU's gradient that passes through the hyperbolic tangent's factor. -/
def bwA (x s : EReal) : EReal := cA * (cH * x * s * ((1 + th x) * (1 - th x)))
/-- The gradient of GELU's input `x` where its output's gradient is `s`. -/
def bw (x s : EReal) : EReal :=
  bwA x s + x * x * (cB * bwA x s) + x * (cB * bwA x s * x) + cB * bwA x s * x * x + cH * (s * (1 + th x))

/-- The mean of a row after GELU. -/
def mean (r : Fin 1024 → EReal) : EReal := Ideal.div (∑ k : Fin 1024, gel (r k)) cN
/-- A row after GELU less its mean. -/
def xc (r : Fin 1024 → EReal) (d : Fin 1024) : EReal := gel (r d) - mean r
/-- The variance of a row, with the small constant. -/
def vare (r : Fin 1024 → EReal) : EReal := Ideal.div (∑ k : Fin 1024, xc r k * xc r k) cN + cE
/-- The reciprocal root of a row's variance. -/
def rs (r : Fin 1024 → EReal) : EReal := Ideal.rsqrt (vare r)
/-- The half-negated slope of the reciprocal root. -/
def rslope (r : Fin 1024 → EReal) : EReal := cM * Ideal.div (rs r) (vare r)
/-- A row normalised. -/
def xh (r : Fin 1024 → EReal) (d : Fin 1024) : EReal := xc r d * rs r
/-- A row after the layer norm. -/
def vn (g b : Fin 1024 → EReal) (r : Fin 1024 → EReal) (d : Fin 1024) : EReal := xh r d * g d + b d

/-- The slope of a row's variance: `h` is the gradient of the normalised row. -/
def dvar (r h : Fin 1024 → EReal) : EReal := Ideal.div ((∑ k : Fin 1024, xc r k * h k) * rslope r) cN
/-- The gradient of a row less its mean. -/
def dxc (r h : Fin 1024 → EReal) (d : Fin 1024) : EReal := h d * rs r + xc r d * dvar r h + dvar r h * xc r d
/-- The gradient of a row after GELU. -/
def drow (r h : Fin 1024 → EReal) (d : Fin 1024) : EReal := dxc r h d + Ideal.div (∑ k : Fin 1024, (0 - dxc r h k)) cN

/-- The group of a column. -/
def grp (d : Fin 1024) : Fin 8 := ⟨d.val / 128, by omega⟩
/-- A group's column. -/
def col (k : Fin 8) (c : Fin 128) : Fin 1024 := ⟨128 * k.val + c.val, by omega⟩

variable (W : Fin 8 → Fin 128 → Fin 128 → EReal) (B : Fin 8 → Fin 128 → EReal) (g b : Fin 1024 → EReal)
  (U V D : Fin 128 → Fin 1024 → EReal)

/-- A chunk's rows mixed. -/
def mixed (p : Fin 128) (d : Fin 1024) : EReal := (∑ q : Fin 128, W (grp d) p q * vn g b (V q) d) + B (grp d) p
/-- The gradient of a chunk's mixed rows. -/
def dm (p : Fin 128) (d : Fin 1024) : EReal := gel (U p d) * D p d
/-- The gradient of a chunk's rows after the layer norm. -/
def dvn (p : Fin 128) (d : Fin 1024) : EReal := ∑ q : Fin 128, W (grp d) q p * dm U D q d
/-- The gradient of the first half. -/
def dU (p : Fin 128) (d : Fin 1024) : EReal := bw (U p d) (D p d * mixed W B g b V p d)
/-- The gradient of the second half. -/
def dV (p : Fin 128) (d : Fin 1024) : EReal := bw (V p d) (drow (V p) (fun k => dvn W U D p k * g k) d)
/-- A chunk's share of the scale's gradient. -/
def dG (d : Fin 1024) : EReal := ∑ p : Fin 128, xh (V p) d * dvn W U D p d
/-- A chunk's share of the shift's gradient. -/
def dB (d : Fin 1024) : EReal := ∑ p : Fin 128, dvn W U D p d
/-- A chunk's share of a mixing weight's gradient. -/
def dW (k : Fin 8) (p q : Fin 128) : EReal := ∑ c : Fin 128, dm U D p (col k c) * vn g b (V q) (col k c)
/-- A chunk's share of a mixing bias's gradient. -/
def dS (k : Fin 8) (p : Fin 128) : EReal := ∑ c : Fin 128, dm U D p (col k c)

/-- A column of a group belongs to it. -/
theorem grp_col (k : Fin 8) (c : Fin 128) : grp (col k c) = k := Fin.ext (by simp only [grp, col]; omega)

end Cert.Mix

end
-- ==== Proof.Mix.Point.lean ====
/- What the kernel of the spatial gating's backward pass computes at one grid point. -/
module

public import proofs.«01_k».proof.Proof.Gen.Kernel2Ideal.Value
public import proofs.«01_k».proof.Proof.Mix.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Mix

/-- The factor on a point's cotangent rows: nothing at the context's points, and one at a latent point. -/
def live (n : BitVec 32) : EReal :=
  Scalar.sitofp (F := Ideal) .f32 (Scalar.extui (Scalar.cmpi .sge (Scalar.addi n 4294967294#32) 0#32) : BitVec 32)

/-- At a latent point the factor is one. -/
theorem live_pos (n : Fin 34) (h : 2 ≤ n.val) : live (BitVec.ofNat 32 n.val) = 1 := by
  have hb : (Scalar.extui (Scalar.cmpi .sge (Scalar.addi (BitVec.ofNat 32 n.val) 4294967294#32) 0#32) : BitVec 32) = 1#32 :=
    (by decide +kernel : ∀ n : Fin 34, 2 ≤ n.val → (Scalar.extui (Scalar.cmpi .sge (Scalar.addi (BitVec.ofNat 32 n.val) 4294967294#32) 0#32) : BitVec 32) = 1#32) n h
  unfold live
  rw [hb, Ideal.scalar_sitofp_def]
  norm_num

/-- At the context's points the factor is nothing. -/
theorem live_zero (n : Fin 34) (h : n.val < 2) : live (BitVec.ofNat 32 n.val) = 0 := by
  have hb : (Scalar.extui (Scalar.cmpi .sge (Scalar.addi (BitVec.ofNat 32 n.val) 4294967294#32) 0#32) : BitVec 32) = 0#32 :=
    (by decide +kernel : ∀ n : Fin 34, n.val < 2 → (Scalar.extui (Scalar.cmpi .sge (Scalar.addi (BitVec.ofNat 32 n.val) 4294967294#32) 0#32) : BitVec 32) = 0#32) n h
  unfold live
  rw [hb, Ideal.scalar_sitofp_def]
  norm_num

/-- The first half of a block's row. -/
def uu (X : FVec Ideal S128x2048 .f32) (p : Fin 128) (d : Fin 1024) : EReal := X (ix2 p ⟨d.val, by omega⟩)
/-- The second half of a block's row. -/
def vv (X : FVec Ideal S128x2048 .f32) (p : Fin 128) (d : Fin 1024) : EReal := X (ix2 p ⟨1024 + d.val, by omega⟩)
/-- A one-row array's row. -/
def rowv (x : FVec Ideal S1x1024 .f32) (d : Fin 1024) : EReal := x (ix2 0 d)
/-- A point's cotangent rows. -/
def dd (n : BitVec 32) (C : FVec Ideal S128x1024 .f32) (p : Fin 128) (d : Fin 1024) : EReal := C (ix2 p d) * live n

variable (X : FVec Ideal S128x2048 .f32) (v1 v3 : FVec Ideal S1x1024 .f32) (n : BitVec 32) (C : FVec Ideal S128x1024 .f32) (p : Fin 128)

/-- The first half. -/
theorem p29_at (d : Fin 1024) : k0_pay29 (F := Ideal) X (ix2 p d) = uu X p d := by
  pointwise [k0_pay29, uu]

/-- The second half. -/
theorem p30_at (d : Fin 1024) : k0_pay30 (F := Ideal) X (ix2 p d) = vv X p d := by
  pointwise [k0_pay30, vv]

/-- Half the second half. -/
theorem p31_at (d : Fin 1024) : k0_pay31 (F := Ideal) X (ix2 p d) = cH * vv X p d := by
  pointwise [k0_pay31, k0_pay30, vv, cH]

/-- The second half squared. -/
theorem p32_at (d : Fin 1024) : k0_pay32 (F := Ideal) X (ix2 p d) = vv X p d * vv X p d := by
  pointwise [k0_pay32, k0_pay30, vv]

/-- The tangent of the second half. -/
theorem p33_at (d : Fin 1024) : k0_pay33 (F := Ideal) X (ix2 p d) = th (vv X p d) := by
  pointwise [k0_pay33, k0_pay32, k0_pay30, vv, th, cA, cB]

/-- The second half's tangent slope. -/
theorem p34_at (d : Fin 1024) : k0_pay34 (F := Ideal) X (ix2 p d) = (1 + th (vv X p d)) * (1 - th (vv X p d)) := by
  pointwise [k0_pay34]
  simp only [p33_at]

/-- The second half's tangent factor. -/
theorem p35_at (d : Fin 1024) : k0_pay35 (F := Ideal) X (ix2 p d) = 1 + th (vv X p d) := by
  pointwise [k0_pay35]
  simp only [p33_at]

/-- The second half after GELU. -/
theorem p36_at (d : Fin 1024) : k0_pay36 (F := Ideal) X (ix2 p d) = gel (vv X p d) := by
  pointwise [k0_pay36]
  simp only [p31_at, p35_at, gel]

/-- The second half's row sums after GELU. -/
theorem p37_at : k0_pay37 (F := Ideal) X (ix1 p) = ∑ k : Fin 1024, gel (vv X p k) := by
  pointwise [k0_pay37]
  simp only [p36_at]

/-- The second half's rows less their means. -/
theorem p38_at (d : Fin 1024) : k0_pay38 (F := Ideal) (k0_pay36 (F := Ideal) X) (k0_pay37 (F := Ideal) X) (ix2 p d) = xc (vv X p) d := by
  pointwise [k0_pay38]
  simp only [p36_at, p37_at, xc, mean, cN]

/-- The variances. -/
theorem p39_at (z : Fin 1) : k0_pay39 (F := Ideal) (k0_pay36 (F := Ideal) X) (k0_pay37 (F := Ideal) X) (ix2 p z) = vare (vv X p) := by
  pointwise [k0_pay39]
  simp only [p38_at, vare, cN, cE]

/-- The reciprocal roots. -/
theorem p40_at (z : Fin 1) : k0_pay40 (F := Ideal) (k0_pay36 (F := Ideal) X) (k0_pay37 (F := Ideal) X) (ix2 p z) = rs (vv X p) := by
  pointwise [k0_pay40]
  simp only [p39_at, rs]

/-- The reciprocal roots' slopes. -/
theorem p41_at (z : Fin 1) : k0_pay41 (F := Ideal) (k0_pay36 (F := Ideal) X) (k0_pay37 (F := Ideal) X) (ix2 p z) = rslope (vv X p) := by
  pointwise [k0_pay41]
  simp only [p39_at, p40_at, rslope, cM]

/-- The normalised rows. -/
theorem p42_at (d : Fin 1024) : k0_pay42 (F := Ideal) (k0_pay36 (F := Ideal) X) (k0_pay37 (F := Ideal) X) (ix2 p d) = xh (vv X p) d := by
  pointwise [k0_pay42]
  simp only [p38_at, p40_at, xh]

/-- The rows after the layer norm. -/
theorem p43_at (d : Fin 1024) : k0_pay43 (F := Ideal) v1 v3 (k0_pay36 (F := Ideal) X) (k0_pay37 (F := Ideal) X) (ix2 p d) = vn (rowv v1) (rowv v3) (vv X p) d := by
  pointwise [k0_pay43]
  simp only [p42_at, vn, rowv]

/-- A group's columns of the rows after the layer norm. -/
theorem p44_at (c : Fin 128) : k0_pay44 (F := Ideal) v1 v3 (k0_pay36 (F := Ideal) X) (k0_pay37 (F := Ideal) X) (ix2 p c) = vn (rowv v1) (rowv v3) (vv X p) (col 0 c) := by
  pointwise [k0_pay44]
  refine (p43_at _ _ _ _ _).trans (congrArg _ (Fin.ext ?_))
  simp [col]

/-- A group's columns of the rows after the layer norm. -/
theorem p45_at (c : Fin 128) : k0_pay45 (F := Ideal) v1 v3 (k0_pay36 (F := Ideal) X) (k0_pay37 (F := Ideal) X) (ix2 p c) = vn (rowv v1) (rowv v3) (vv X p) (col 1 c) := by
  pointwise [k0_pay45]
  refine (p43_at _ _ _ _ _).trans (congrArg _ (Fin.ext ?_))
  simp [col]

/-- A group's columns of the rows after the layer norm. -/
theorem p46_at (c : Fin 128) : k0_pay46 (F := Ideal) v1 v3 (k0_pay36 (F := Ideal) X) (k0_pay37 (F := Ideal) X) (ix2 p c) = vn (rowv v1) (rowv v3) (vv X p) (col 2 c) := by
  pointwise [k0_pay46]
  refine (p43_at _ _ _ _ _).trans (congrArg _ (Fin.ext ?_))
  simp [col]

/-- A group's columns of the rows after the layer norm. -/
theorem p47_at (c : Fin 128) : k0_pay47 (F := Ideal) v1 v3 (k0_pay36 (F := Ideal) X) (k0_pay37 (F := Ideal) X) (ix2 p c) = vn (rowv v1) (rowv v3) (vv X p) (col 3 c) := by
  pointwise [k0_pay47]
  refine (p43_at _ _ _ _ _).trans (congrArg _ (Fin.ext ?_))
  simp [col]

/-- A group's columns of the rows after the layer norm. -/
theorem p48_at (c : Fin 128) : k0_pay48 (F := Ideal) v1 v3 (k0_pay36 (F := Ideal) X) (k0_pay37 (F := Ideal) X) (ix2 p c) = vn (rowv v1) (rowv v3) (vv X p) (col 4 c) := by
  pointwise [k0_pay48]
  refine (p43_at _ _ _ _ _).trans (congrArg _ (Fin.ext ?_))
  simp [col]

/-- A group's columns of the rows after the layer norm. -/
theorem p49_at (c : Fin 128) : k0_pay49 (F := Ideal) v1 v3 (k0_pay36 (F := Ideal) X) (k0_pay37 (F := Ideal) X) (ix2 p c) = vn (rowv v1) (rowv v3) (vv X p) (col 5 c) := by
  pointwise [k0_pay49]
  refine (p43_at _ _ _ _ _).trans (congrArg _ (Fin.ext ?_))
  simp [col]

/-- A group's columns of the rows after the layer norm. -/
theorem p50_at (c : Fin 128) : k0_pay50 (F := Ideal) v1 v3 (k0_pay36 (F := Ideal) X) (k0_pay37 (F := Ideal) X) (ix2 p c) = vn (rowv v1) (rowv v3) (vv X p) (col 6 c) := by
  pointwise [k0_pay50]
  refine (p43_at _ _ _ _ _).trans (congrArg _ (Fin.ext ?_))
  simp [col]

/-- A group's columns of the rows after the layer norm. -/
theorem p51_at (c : Fin 128) : k0_pay51 (F := Ideal) v1 v3 (k0_pay36 (F := Ideal) X) (k0_pay37 (F := Ideal) X) (ix2 p c) = vn (rowv v1) (rowv v3) (vv X p) (col 7 c) := by
  pointwise [k0_pay51]
  refine (p43_at _ _ _ _ _).trans (congrArg _ (Fin.ext ?_))
  simp [col]

/-- Half the first half. -/
theorem p58_at (d : Fin 1024) : k0_pay58 (F := Ideal) (k0_pay29 (F := Ideal) X) (ix2 p d) = cH * uu X p d := by
  pointwise [k0_pay58]
  simp only [p29_at, cH]

/-- The first half squared. -/
theorem p59_at (d : Fin 1024) : k0_pay59 (F := Ideal) (k0_pay29 (F := Ideal) X) (ix2 p d) = uu X p d * uu X p d := by
  pointwise [k0_pay59]
  simp only [p29_at]

/-- The tangent of the first half. -/
theorem p60_at (d : Fin 1024) : k0_pay60 (F := Ideal) (k0_pay29 (F := Ideal) X) (ix2 p d) = th (uu X p d) := by
  pointwise [k0_pay60]
  simp only [p29_at, p59_at, th, cA, cB]

/-- The first half's tangent slope. -/
theorem p61_at (d : Fin 1024) : k0_pay61 (F := Ideal) (k0_pay29 (F := Ideal) X) (ix2 p d) = (1 + th (uu X p d)) * (1 - th (uu X p d)) := by
  pointwise [k0_pay61]
  simp only [p60_at]

/-- The first half's tangent factor. -/
theorem p62_at (d : Fin 1024) : k0_pay62 (F := Ideal) (k0_pay29 (F := Ideal) X) (ix2 p d) = 1 + th (uu X p d) := by
  pointwise [k0_pay62]
  simp only [p60_at]

/-- The cotangent rows. -/
theorem p63_at (d : Fin 1024) : k0_pay63 (F := Ideal) n C (ix2 p d) = dd n C p d := by
  pointwise [k0_pay63, dd, live]

/-- The gradient of the mixed rows. -/
theorem p64_at (d : Fin 1024) : k0_pay64 (F := Ideal) n (k0_pay29 (F := Ideal) X) C (ix2 p d) = dm (uu X) (dd n C) p d := by
  pointwise [k0_pay64]
  simp only [p58_at, p62_at, p63_at, dm, gel]

/-- A group's columns of the gradient of the mixed rows. -/
theorem p66_at (c : Fin 128) : k0_pay66 (F := Ideal) (k0_pay64 (F := Ideal) n (k0_pay29 (F := Ideal) X) C) (ix2 p c) = dm (uu X) (dd n C) p (col 0 c) := by
  pointwise [k0_pay66]
  refine (p64_at _ _ _ _ _).trans (congrArg _ (Fin.ext ?_))
  simp [col]

/-- A group's columns of the gradient of the mixed rows. -/
theorem p67_at (c : Fin 128) : k0_pay67 (F := Ideal) (k0_pay64 (F := Ideal) n (k0_pay29 (F := Ideal) X) C) (ix2 p c) = dm (uu X) (dd n C) p (col 1 c) := by
  pointwise [k0_pay67]
  refine (p64_at _ _ _ _ _).trans (congrArg _ (Fin.ext ?_))
  simp [col]

/-- A group's columns of the gradient of the mixed rows. -/
theorem p68_at (c : Fin 128) : k0_pay68 (F := Ideal) (k0_pay64 (F := Ideal) n (k0_pay29 (F := Ideal) X) C) (ix2 p c) = dm (uu X) (dd n C) p (col 2 c) := by
  pointwise [k0_pay68]
  refine (p64_at _ _ _ _ _).trans (congrArg _ (Fin.ext ?_))
  simp [col]

/-- A group's columns of the gradient of the mixed rows. -/
theorem p69_at (c : Fin 128) : k0_pay69 (F := Ideal) (k0_pay64 (F := Ideal) n (k0_pay29 (F := Ideal) X) C) (ix2 p c) = dm (uu X) (dd n C) p (col 3 c) := by
  pointwise [k0_pay69]
  refine (p64_at _ _ _ _ _).trans (congrArg _ (Fin.ext ?_))
  simp [col]

/-- A group's columns of the gradient of the mixed rows. -/
theorem p70_at (c : Fin 128) : k0_pay70 (F := Ideal) (k0_pay64 (F := Ideal) n (k0_pay29 (F := Ideal) X) C) (ix2 p c) = dm (uu X) (dd n C) p (col 4 c) := by
  pointwise [k0_pay70]
  refine (p64_at _ _ _ _ _).trans (congrArg _ (Fin.ext ?_))
  simp [col]

/-- A group's columns of the gradient of the mixed rows. -/
theorem p71_at (c : Fin 128) : k0_pay71 (F := Ideal) (k0_pay64 (F := Ideal) n (k0_pay29 (F := Ideal) X) C) (ix2 p c) = dm (uu X) (dd n C) p (col 5 c) := by
  pointwise [k0_pay71]
  refine (p64_at _ _ _ _ _).trans (congrArg _ (Fin.ext ?_))
  simp [col]

/-- A group's columns of the gradient of the mixed rows. -/
theorem p72_at (c : Fin 128) : k0_pay72 (F := Ideal) (k0_pay64 (F := Ideal) n (k0_pay29 (F := Ideal) X) C) (ix2 p c) = dm (uu X) (dd n C) p (col 6 c) := by
  pointwise [k0_pay72]
  refine (p64_at _ _ _ _ _).trans (congrArg _ (Fin.ext ?_))
  simp [col]

/-- A group's columns of the gradient of the mixed rows. -/
theorem p73_at (c : Fin 128) : k0_pay73 (F := Ideal) (k0_pay64 (F := Ideal) n (k0_pay29 (F := Ideal) X) C) (ix2 p c) = dm (uu X) (dd n C) p (col 7 c) := by
  pointwise [k0_pay73]
  refine (p64_at _ _ _ _ _).trans (congrArg _ (Fin.ext ?_))
  simp [col]

/-- Eight weight slabs as one function. -/
def W8 (w0 w1 w2 w3 w4 w5 w6 w7 : FVec Ideal S128x128 .f32) (k : Fin 8) (p q : Fin 128) : EReal :=
  match k with
  | ⟨0, _⟩ => w0 (ix2 p q)
  | ⟨1, _⟩ => w1 (ix2 p q)
  | ⟨2, _⟩ => w2 (ix2 p q)
  | ⟨3, _⟩ => w3 (ix2 p q)
  | ⟨4, _⟩ => w4 (ix2 p q)
  | ⟨5, _⟩ => w5 (ix2 p q)
  | ⟨6, _⟩ => w6 (ix2 p q)
  | ⟨7, _⟩ => w7 (ix2 p q)

/-- Eight bias slabs as one function. -/
def B8 (s0 s1 s2 s3 s4 s5 s6 s7 : FVec Ideal S128x1 .f32) (k : Fin 8) (p : Fin 128) : EReal :=
  match k with
  | ⟨0, _⟩ => s0 (ix2 p 0)
  | ⟨1, _⟩ => s1 (ix2 p 0)
  | ⟨2, _⟩ => s2 (ix2 p 0)
  | ⟨3, _⟩ => s3 (ix2 p 0)
  | ⟨4, _⟩ => s4 (ix2 p 0)
  | ⟨5, _⟩ => s5 (ix2 p 0)
  | ⟨6, _⟩ => s6 (ix2 p 0)
  | ⟨7, _⟩ => s7 (ix2 p 0)

variable (w0 w1 w2 w3 w4 w5 w6 w7 : FVec Ideal S128x128 .f32) (s0 s1 s2 s3 s4 s5 s6 s7 : FVec Ideal S128x1 .f32)

/-- The mixed rows of a point. -/
def mixP : FVec Ideal S128x1024 .f32 :=
  k0_pay57 (F := Ideal) w5 w6 w7 s4 s5 s6 s7 (k0_pay48 (F := Ideal) v1 v3 (k0_pay36 (F := Ideal) X) (k0_pay37 (F := Ideal) X)) (k0_pay49 (F := Ideal) v1 v3 (k0_pay36 (F := Ideal) X) (k0_pay37 (F := Ideal) X)) (k0_pay50 (F := Ideal) v1 v3 (k0_pay36 (F := Ideal) X) (k0_pay37 (F := Ideal) X)) (k0_pay51 (F := Ideal) v1 v3 (k0_pay36 (F := Ideal) X) (k0_pay37 (F := Ideal) X))
    (k0_pay52 v1 v3 w0 s0 (k0_pay36 (F := Ideal) X) (k0_pay37 (F := Ideal) X)) (k0_pay53 v1 v3 w1 s1 (k0_pay36 (F := Ideal) X) (k0_pay37 (F := Ideal) X)) (k0_pay54 v1 v3 w2 s2 (k0_pay36 (F := Ideal) X) (k0_pay37 (F := Ideal) X)) (k0_pay55 v1 v3 w3 s3 (k0_pay36 (F := Ideal) X) (k0_pay37 (F := Ideal) X)) (k0_pay56 w4)

/-- The gradient, at a point, of the rows after the layer norm. -/
def dvnP : FVec Ideal S128x1024 .f32 :=
  k0_pay94 (F := Ideal) w0 w1 w2 w3 w4 (k0_pay66 (k0_pay64 (F := Ideal) n (k0_pay29 (F := Ideal) X) C)) (k0_pay67 (k0_pay64 (F := Ideal) n (k0_pay29 (F := Ideal) X) C)) (k0_pay68 (k0_pay64 (F := Ideal) n (k0_pay29 (F := Ideal) X) C)) (k0_pay69 (k0_pay64 (F := Ideal) n (k0_pay29 (F := Ideal) X) C)) (k0_pay70 (k0_pay64 (F := Ideal) n (k0_pay29 (F := Ideal) X) C))
    (k0_pay76 w7 (k0_pay64 (F := Ideal) n (k0_pay29 (F := Ideal) X) C)) (k0_pay79 w6 (k0_pay64 (F := Ideal) n (k0_pay29 (F := Ideal) X) C)) (k0_pay82 w5) (k0_pay83 (k0_pay64 (F := Ideal) n (k0_pay29 (F := Ideal) X) C))

/-- The mixed rows of a point. -/
theorem mix_at (d : Fin 1024) : mixP X v1 v3 w0 w1 w2 w3 w4 w5 w6 w7 s0 s1 s2 s3 s4 s5 s6 s7 (ix2 p d) = mixed (W8 w0 w1 w2 w3 w4 w5 w6 w7) (B8 s0 s1 s2 s3 s4 s5 s6 s7) (rowv v1) (rowv v3) (vv X) p d := by
  unfold mixP
  pointwise [k0_pay57, k0_pay52, k0_pay53, k0_pay54, k0_pay55, k0_pay56]
  by_cases g0 : d.val < 128
  · rw [dif_pos g0]
    have hk : grp d = 0 := Fin.ext (by show d.val / 128 = 0; omega)
    have hc : col 0 ⟨d.val, by omega⟩ = d := Fin.ext (by show 128 * 0 + (d.val) = d.val; omega)
    simp only [p44_at, hc, mixed, hk, W8, B8]
  rw [dif_neg g0]
  by_cases g1 : d.val - 128 < 128
  · rw [dif_pos g1]
    have hk : grp d = 1 := Fin.ext (by show d.val / 128 = 1; omega)
    have hc : col 1 ⟨d.val - 128, by omega⟩ = d := Fin.ext (by show 128 * 1 + (d.val - 128) = d.val; omega)
    simp only [p45_at, hc, mixed, hk, W8, B8]
  rw [dif_neg g1]
  by_cases g2 : d.val - 128 - 128 < 128
  · rw [dif_pos g2]
    have hk : grp d = 2 := Fin.ext (by show d.val / 128 = 2; omega)
    have hc : col 2 ⟨d.val - 128 - 128, by omega⟩ = d := Fin.ext (by show 128 * 2 + (d.val - 128 - 128) = d.val; omega)
    simp only [p46_at, hc, mixed, hk, W8, B8]
  rw [dif_neg g2]
  by_cases g3 : d.val - 128 - 128 - 128 < 128
  · rw [dif_pos g3]
    have hk : grp d = 3 := Fin.ext (by show d.val / 128 = 3; omega)
    have hc : col 3 ⟨d.val - 128 - 128 - 128, by omega⟩ = d := Fin.ext (by show 128 * 3 + (d.val - 128 - 128 - 128) = d.val; omega)
    simp only [p47_at, hc, mixed, hk, W8, B8]
  rw [dif_neg g3]
  by_cases g4 : d.val - 128 - 128 - 128 - 128 < 128
  · rw [dif_pos g4]
    have hk : grp d = 4 := Fin.ext (by show d.val / 128 = 4; omega)
    have hc : col 4 ⟨d.val - 128 - 128 - 128 - 128, by omega⟩ = d := Fin.ext (by show 128 * 4 + (d.val - 128 - 128 - 128 - 128) = d.val; omega)
    simp only [p48_at, hc, mixed, hk, W8, B8]
  rw [dif_neg g4]
  by_cases g5 : d.val - 128 - 128 - 128 - 128 - 128 < 128
  · rw [dif_pos g5]
    have hk : grp d = 5 := Fin.ext (by show d.val / 128 = 5; omega)
    have hc : col 5 ⟨d.val - 128 - 128 - 128 - 128 - 128, by omega⟩ = d := Fin.ext (by show 128 * 5 + (d.val - 128 - 128 - 128 - 128 - 128) = d.val; omega)
    simp only [p49_at, hc, mixed, hk, W8, B8]
  rw [dif_neg g5]
  by_cases g6 : d.val - 128 - 128 - 128 - 128 - 128 - 128 < 128
  · rw [dif_pos g6]
    have hk : grp d = 6 := Fin.ext (by show d.val / 128 = 6; omega)
    have hc : col 6 ⟨d.val - 128 - 128 - 128 - 128 - 128 - 128, by omega⟩ = d := Fin.ext (by show 128 * 6 + (d.val - 128 - 128 - 128 - 128 - 128 - 128) = d.val; omega)
    simp only [p50_at, hc, mixed, hk, W8, B8]
  rw [dif_neg g6]
  have hk : grp d = 7 := Fin.ext (by show d.val / 128 = 7; omega)
  have hc : col 7 ⟨d.val - 128 - 128 - 128 - 128 - 128 - 128 - 128, by omega⟩ = d := Fin.ext (by show 128 * 7 + (d.val - 128 - 128 - 128 - 128 - 128 - 128 - 128) = d.val; omega)
  simp only [p51_at, hc, mixed, hk, W8, B8]

/-- The gradient, at a point, of the rows after the layer norm. -/
theorem dvn_at (d : Fin 1024) : dvnP X n C w0 w1 w2 w3 w4 w5 w6 w7 (ix2 p d) = dvn (W8 w0 w1 w2 w3 w4 w5 w6 w7) (uu X) (dd n C) p d := by
  unfold dvnP
  pointwise [k0_pay94, k0_pay76, k0_pay79, k0_pay82, k0_pay83]
  by_cases g0 : d.val < 128
  · rw [dif_pos g0]
    have hk : grp d = 0 := Fin.ext (by show d.val / 128 = 0; omega)
    have hc : col 0 ⟨d.val, by omega⟩ = d := Fin.ext (by show 128 * 0 + (d.val) = d.val; omega)
    simp only [p66_at, hc, dvn, hk, W8]
  rw [dif_neg g0]
  by_cases g1 : d.val - 128 < 128
  · rw [dif_pos g1]
    have hk : grp d = 1 := Fin.ext (by show d.val / 128 = 1; omega)
    have hc : col 1 ⟨d.val - 128, by omega⟩ = d := Fin.ext (by show 128 * 1 + (d.val - 128) = d.val; omega)
    simp only [p67_at, hc, dvn, hk, W8]
  rw [dif_neg g1]
  by_cases g2 : d.val - 128 - 128 < 128
  · rw [dif_pos g2]
    have hk : grp d = 2 := Fin.ext (by show d.val / 128 = 2; omega)
    have hc : col 2 ⟨d.val - 128 - 128, by omega⟩ = d := Fin.ext (by show 128 * 2 + (d.val - 128 - 128) = d.val; omega)
    simp only [p68_at, hc, dvn, hk, W8]
  rw [dif_neg g2]
  by_cases g3 : d.val - 128 - 128 - 128 < 128
  · rw [dif_pos g3]
    have hk : grp d = 3 := Fin.ext (by show d.val / 128 = 3; omega)
    have hc : col 3 ⟨d.val - 128 - 128 - 128, by omega⟩ = d := Fin.ext (by show 128 * 3 + (d.val - 128 - 128 - 128) = d.val; omega)
    simp only [p69_at, hc, dvn, hk, W8]
  rw [dif_neg g3]
  by_cases g4 : d.val - 128 - 128 - 128 - 128 < 128
  · rw [dif_pos g4]
    have hk : grp d = 4 := Fin.ext (by show d.val / 128 = 4; omega)
    have hc : col 4 ⟨d.val - 128 - 128 - 128 - 128, by omega⟩ = d := Fin.ext (by show 128 * 4 + (d.val - 128 - 128 - 128 - 128) = d.val; omega)
    simp only [p70_at, hc, dvn, hk, W8]
  rw [dif_neg g4]
  by_cases g5 : d.val - 128 - 128 - 128 - 128 - 128 < 128
  · rw [dif_pos g5]
    have hk : grp d = 5 := Fin.ext (by show d.val / 128 = 5; omega)
    have hc : col 5 ⟨d.val - 128 - 128 - 128 - 128 - 128, by omega⟩ = d := Fin.ext (by show 128 * 5 + (d.val - 128 - 128 - 128 - 128 - 128) = d.val; omega)
    simp only [p71_at, hc, dvn, hk, W8]
  rw [dif_neg g5]
  by_cases g6 : d.val - 128 - 128 - 128 - 128 - 128 - 128 < 128
  · rw [dif_pos g6]
    have hk : grp d = 6 := Fin.ext (by show d.val / 128 = 6; omega)
    have hc : col 6 ⟨d.val - 128 - 128 - 128 - 128 - 128 - 128, by omega⟩ = d := Fin.ext (by show 128 * 6 + (d.val - 128 - 128 - 128 - 128 - 128 - 128) = d.val; omega)
    simp only [p72_at, hc, dvn, hk, W8]
  rw [dif_neg g6]
  have hk : grp d = 7 := Fin.ext (by show d.val / 128 = 7; omega)
  have hc : col 7 ⟨d.val - 128 - 128 - 128 - 128 - 128 - 128 - 128, by omega⟩ = d := Fin.ext (by show 128 * 7 + (d.val - 128 - 128 - 128 - 128 - 128 - 128 - 128) = d.val; omega)
  simp only [p73_at, hc, dvn, hk, W8]

/-- The gradient of the first half, at a point. -/
def duP : FVec Ideal S128x1024 .f32 :=
  k0_pay65 (F := Ideal) (k0_pay29 (F := Ideal) X) (mixP X v1 v3 w0 w1 w2 w3 w4 w5 w6 w7 s0 s1 s2 s3 s4 s5 s6 s7) (k0_pay58 (k0_pay29 (F := Ideal) X)) (k0_pay59 (k0_pay29 (F := Ideal) X)) (k0_pay61 (k0_pay29 (F := Ideal) X)) (k0_pay62 (k0_pay29 (F := Ideal) X)) (k0_pay63 n C)

/-- The gradient of both halves, at a point. -/
def duvP : FVec Ideal S128x2048 .f32 :=
  k0_pay98 (F := Ideal) v1 (k0_pay30 X) (k0_pay31 X) (k0_pay32 X) (k0_pay34 X) (k0_pay35 X) (k0_pay38 (k0_pay36 (F := Ideal) X) (k0_pay37 (F := Ideal) X)) (k0_pay40 (k0_pay36 (F := Ideal) X) (k0_pay37 (F := Ideal) X)) (k0_pay41 (k0_pay36 (F := Ideal) X) (k0_pay37 (F := Ideal) X))
    (duP X v1 v3 n C w0 w1 w2 w3 w4 w5 w6 w7 s0 s1 s2 s3 s4 s5 s6 s7) (dvnP X n C w0 w1 w2 w3 w4 w5 w6 w7)

/-- The gradient of the first half, at a point. -/
theorem du_at (d : Fin 1024) : duP X v1 v3 n C w0 w1 w2 w3 w4 w5 w6 w7 s0 s1 s2 s3 s4 s5 s6 s7 (ix2 p d) = dU (W8 w0 w1 w2 w3 w4 w5 w6 w7) (B8 s0 s1 s2 s3 s4 s5 s6 s7) (rowv v1) (rowv v3) (uu X) (vv X) (dd n C) p d := by
  unfold duP
  pointwise [k0_pay65]
  simp only [p29_at, p58_at, p59_at, p61_at, p62_at, p63_at, mix_at, dU, bw, bwA, cA, cB, cH]

set_option maxHeartbeats 1000000 in
/-- The gradient of both halves, at a point. -/
theorem duv_at (e : Fin 2048) : duvP X v1 v3 n C w0 w1 w2 w3 w4 w5 w6 w7 s0 s1 s2 s3 s4 s5 s6 s7 (ix2 p e) = if h : e.val < 1024 then dU (W8 w0 w1 w2 w3 w4 w5 w6 w7) (B8 s0 s1 s2 s3 s4 s5 s6 s7) (rowv v1) (rowv v3) (uu X) (vv X) (dd n C) p ⟨e.val, h⟩
    else dV (W8 w0 w1 w2 w3 w4 w5 w6 w7) (rowv v1) (uu X) (vv X) (dd n C) p ⟨e.val - 1024, by omega⟩ := by
  unfold duvP
  pointwise [k0_pay98]
  by_cases h : e.val < 1024
  · rw [dif_pos h, dif_pos h]
    exact du_at _ _ _ _ _ _ _ _ _ _ _ _ _ _ _ _ _ _ _ _ _ _ _
  · rw [dif_neg h, dif_neg h]
    simp only [p30_at, p31_at, p32_at, p34_at, p35_at, p38_at, p40_at, p41_at, dvn_at, dV, bw, bwA, drow, dxc, dvar, cA, cB, cH, cN, rowv, Finset.univ_unique, Finset.sum_singleton]

/-- The stored block. -/
theorem store_at (Y : FVec Ideal S128x2048 .f32) (e : Fin 2048) : k0_pay99 (F := Ideal) Y (ix2 p e) = Y (ix2 p e) := by
  pointwise [k0_pay99]

/-- A point's share of the shift's gradient. -/
theorem dB_at (z : Fin 1) (d : Fin 1024) : k0_pay96 (F := Ideal) (k0_pay95 (F := Ideal) w0 w1 w2 w3 w4 (k0_pay66 (k0_pay64 (F := Ideal) n (k0_pay29 (F := Ideal) X) C)) (k0_pay67 (k0_pay64 (F := Ideal) n (k0_pay29 (F := Ideal) X) C)) (k0_pay68 (k0_pay64 (F := Ideal) n (k0_pay29 (F := Ideal) X) C)) (k0_pay69 (k0_pay64 (F := Ideal) n (k0_pay29 (F := Ideal) X) C)) (k0_pay70 (k0_pay64 (F := Ideal) n (k0_pay29 (F := Ideal) X) C))
    (k0_pay76 w7 (k0_pay64 (F := Ideal) n (k0_pay29 (F := Ideal) X) C)) (k0_pay79 w6 (k0_pay64 (F := Ideal) n (k0_pay29 (F := Ideal) X) C)) (k0_pay82 w5) (k0_pay83 (k0_pay64 (F := Ideal) n (k0_pay29 (F := Ideal) X) C))) (ix2 z d) = dB (W8 w0 w1 w2 w3 w4 w5 w6 w7) (uu X) (dd n C) d := by
  pointwise [k0_pay96, k0_pay95]
  exact Finset.sum_congr rfl fun q _ => dvn_at X n C q w0 w1 w2 w3 w4 w5 w6 w7 d

/-- A point's share of the scale's gradient. -/
theorem dG_at (z : Fin 1) (d : Fin 1024) : k0_pay97 (F := Ideal) (k0_pay42 (k0_pay36 (F := Ideal) X) (k0_pay37 (F := Ideal) X)) (dvnP X n C w0 w1 w2 w3 w4 w5 w6 w7) (ix2 z d) = dG (W8 w0 w1 w2 w3 w4 w5 w6 w7) (uu X) (vv X) (dd n C) d := by
  pointwise [k0_pay97]
  simp only [p42_at, dvn_at, dG]

/-- A point's share of a mixing weight's gradient. -/
theorem dW0_at (q : Fin 128) : k0_pay93 (F := Ideal) (k0_pay44 (F := Ideal) v1 v3 (k0_pay36 (F := Ideal) X) (k0_pay37 (F := Ideal) X)) (k0_pay66 (k0_pay64 (F := Ideal) n (k0_pay29 (F := Ideal) X) C)) (ix2 p q) = dW (rowv v1) (rowv v3) (uu X) (vv X) (dd n C) 0 p q := by
  pointwise [k0_pay93]
  simp only [p66_at, p44_at, dW]

/-- A point's share of a mixing bias's gradient. -/
theorem dS0_at (z : Fin 1) : k0_pay92 (F := Ideal) (k0_pay66 (k0_pay64 (F := Ideal) n (k0_pay29 (F := Ideal) X) C)) (ix2 p z) = dS (uu X) (dd n C) 0 p := by
  pointwise [k0_pay92]
  simp only [p66_at, dS]

/-- A point's share of a mixing weight's gradient. -/
theorem dW1_at (q : Fin 128) : k0_pay91 (F := Ideal) (k0_pay45 (F := Ideal) v1 v3 (k0_pay36 (F := Ideal) X) (k0_pay37 (F := Ideal) X)) (k0_pay67 (k0_pay64 (F := Ideal) n (k0_pay29 (F := Ideal) X) C)) (ix2 p q) = dW (rowv v1) (rowv v3) (uu X) (vv X) (dd n C) 1 p q := by
  pointwise [k0_pay91]
  simp only [p67_at, p45_at, dW]

/-- A point's share of a mixing bias's gradient. -/
theorem dS1_at (z : Fin 1) : k0_pay90 (F := Ideal) (k0_pay67 (k0_pay64 (F := Ideal) n (k0_pay29 (F := Ideal) X) C)) (ix2 p z) = dS (uu X) (dd n C) 1 p := by
  pointwise [k0_pay90]
  simp only [p67_at, dS]

/-- A point's share of a mixing weight's gradient. -/
theorem dW2_at (q : Fin 128) : k0_pay89 (F := Ideal) (k0_pay46 (F := Ideal) v1 v3 (k0_pay36 (F := Ideal) X) (k0_pay37 (F := Ideal) X)) (k0_pay68 (k0_pay64 (F := Ideal) n (k0_pay29 (F := Ideal) X) C)) (ix2 p q) = dW (rowv v1) (rowv v3) (uu X) (vv X) (dd n C) 2 p q := by
  pointwise [k0_pay89]
  simp only [p68_at, p46_at, dW]

/-- A point's share of a mixing bias's gradient. -/
theorem dS2_at (z : Fin 1) : k0_pay88 (F := Ideal) (k0_pay68 (k0_pay64 (F := Ideal) n (k0_pay29 (F := Ideal) X) C)) (ix2 p z) = dS (uu X) (dd n C) 2 p := by
  pointwise [k0_pay88]
  simp only [p68_at, dS]

/-- A point's share of a mixing weight's gradient. -/
theorem dW3_at (q : Fin 128) : k0_pay87 (F := Ideal) (k0_pay47 (F := Ideal) v1 v3 (k0_pay36 (F := Ideal) X) (k0_pay37 (F := Ideal) X)) (k0_pay69 (k0_pay64 (F := Ideal) n (k0_pay29 (F := Ideal) X) C)) (ix2 p q) = dW (rowv v1) (rowv v3) (uu X) (vv X) (dd n C) 3 p q := by
  pointwise [k0_pay87]
  simp only [p69_at, p47_at, dW]

/-- A point's share of a mixing bias's gradient. -/
theorem dS3_at (z : Fin 1) : k0_pay86 (F := Ideal) (k0_pay69 (k0_pay64 (F := Ideal) n (k0_pay29 (F := Ideal) X) C)) (ix2 p z) = dS (uu X) (dd n C) 3 p := by
  pointwise [k0_pay86]
  simp only [p69_at, dS]

/-- A point's share of a mixing weight's gradient. -/
theorem dW4_at (q : Fin 128) : k0_pay85 (F := Ideal) (k0_pay48 (F := Ideal) v1 v3 (k0_pay36 (F := Ideal) X) (k0_pay37 (F := Ideal) X)) (k0_pay70 (k0_pay64 (F := Ideal) n (k0_pay29 (F := Ideal) X) C)) (ix2 p q) = dW (rowv v1) (rowv v3) (uu X) (vv X) (dd n C) 4 p q := by
  pointwise [k0_pay85]
  simp only [p70_at, p48_at, dW]

/-- A point's share of a mixing bias's gradient. -/
theorem dS4_at (z : Fin 1) : k0_pay84 (F := Ideal) (k0_pay70 (k0_pay64 (F := Ideal) n (k0_pay29 (F := Ideal) X) C)) (ix2 p z) = dS (uu X) (dd n C) 4 p := by
  pointwise [k0_pay84]
  simp only [p70_at, dS]

/-- A point's share of a mixing weight's gradient. -/
theorem dW5_at (q : Fin 128) : k0_pay81 (F := Ideal) (k0_pay49 (F := Ideal) v1 v3 (k0_pay36 (F := Ideal) X) (k0_pay37 (F := Ideal) X)) (k0_pay64 (F := Ideal) n (k0_pay29 (F := Ideal) X) C) (ix2 p q) = dW (rowv v1) (rowv v3) (uu X) (vv X) (dd n C) 5 p q := by
  pointwise [k0_pay81]
  simp only [p71_at, p49_at, dW]

/-- A point's share of a mixing bias's gradient. -/
theorem dS5_at (z : Fin 1) : k0_pay80 (F := Ideal) (k0_pay64 (F := Ideal) n (k0_pay29 (F := Ideal) X) C) (ix2 p z) = dS (uu X) (dd n C) 5 p := by
  pointwise [k0_pay80]
  simp only [p71_at, dS]

/-- A point's share of a mixing weight's gradient. -/
theorem dW6_at (q : Fin 128) : k0_pay78 (F := Ideal) (k0_pay50 (F := Ideal) v1 v3 (k0_pay36 (F := Ideal) X) (k0_pay37 (F := Ideal) X)) (k0_pay64 (F := Ideal) n (k0_pay29 (F := Ideal) X) C) (ix2 p q) = dW (rowv v1) (rowv v3) (uu X) (vv X) (dd n C) 6 p q := by
  pointwise [k0_pay78]
  simp only [p72_at, p50_at, dW]

/-- A point's share of a mixing bias's gradient. -/
theorem dS6_at (z : Fin 1) : k0_pay77 (F := Ideal) (k0_pay64 (F := Ideal) n (k0_pay29 (F := Ideal) X) C) (ix2 p z) = dS (uu X) (dd n C) 6 p := by
  pointwise [k0_pay77]
  simp only [p72_at, dS]

/-- A point's share of a mixing weight's gradient. -/
theorem dW7_at (q : Fin 128) : k0_pay75 (F := Ideal) (k0_pay51 (F := Ideal) v1 v3 (k0_pay36 (F := Ideal) X) (k0_pay37 (F := Ideal) X)) (k0_pay64 (F := Ideal) n (k0_pay29 (F := Ideal) X) C) (ix2 p q) = dW (rowv v1) (rowv v3) (uu X) (vv X) (dd n C) 7 p q := by
  pointwise [k0_pay75]
  simp only [p73_at, p51_at, dW]

/-- A point's share of a mixing bias's gradient. -/
theorem dS7_at (z : Fin 1) : k0_pay74 (F := Ideal) (k0_pay64 (F := Ideal) n (k0_pay29 (F := Ideal) X) C) (ix2 p z) = dS (uu X) (dd n C) 7 p := by
  pointwise [k0_pay74]
  simp only [p73_at, dS]

end Cert.Kernel2Ideal.Final

end
-- ==== Proof.Mix.Array.lean ====
/- What the kernel of the spatial gating's backward pass reads at a grid point, and what its results should be. -/
module

public import proofs.«01_k».proof.Proof.Mix.Point

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Mix

variable (m : (ℓ : Loc nD τ sig) → Buf (Elt Ideal) ℓ)

section Spec

variable (P : FVec Ideal S4352x7168 .f32) (g b : FVec Ideal S1024 .f32) (W : FVec Ideal S8x128x128 .f32) (B : FVec Ideal S8x128 .f32)
  (Y : FVec Ideal S4096x1024 .f32) (D : FVec Ideal S4352x7168 .bf16)

/-- The first half of row `p` of the projection's block `n`. -/
def ub (n : Fin 34) (p : Fin 128) (d : Fin 1024) : EReal := P (ix2 ⟨128 * n.val + p.val, by omega⟩ ⟨2048 + d.val, by omega⟩)
/-- The second half of row `p` of the projection's block `n`. -/
def vb (n : Fin 34) (p : Fin 128) (d : Fin 1024) : EReal := P (ix2 ⟨128 * n.val + p.val, by omega⟩ ⟨3072 + d.val, by omega⟩)
/-- The cotangent's row `p` of chunk `n`. -/
def yb (n : Fin 32) (p : Fin 128) (d : Fin 1024) : EReal := Y (ix2 ⟨128 * n.val + p.val, by omega⟩ d)
/-- The projection's block of a chunk. -/
def lat (n : Fin 32) : Fin 34 := ⟨n.val + 2, by omega⟩
/-- A vector's entries. -/
def vec (x : FVec Ideal S1024 .f32) (d : Fin 1024) : EReal := x (ix1 d)
/-- The mixing weights' entries. -/
def wts (k : Fin 8) (p q : Fin 128) : EReal := W (ix3 k p q)
/-- The mixing biases' entries. -/
def bia (k : Fin 8) (p : Fin 128) : EReal := B (ix2 k p)

/-- The gradient of both halves, at row `p` of chunk `n`. -/
def dhalf (n : Fin 32) (p : Fin 128) (e : Fin 2048) : EReal :=
  if h : e.val < 1024 then dU (wts W) (bia B) (vec g) (vec b) (ub P (lat n)) (vb P (lat n)) (yb Y n) p ⟨e.val, h⟩
  else dV (wts W) (vec g) (ub P (lat n)) (vb P (lat n)) (yb Y n) p ⟨e.val - 1024, by omega⟩

/-- The gradient of the projection: the gating's columns have nothing at the context's rows and the two halves' gradients at the others,
and the other columns keep what they held. -/
def dproj (i : S4352x7168.Idx) : EReal :=
  if h : 2048 ≤ (i 1).val ∧ (i 1).val < 4096 then
    (if h' : (i 0).val < 256 then 0
     else dhalf P g b W B Y ⟨((i 0).val - 256) / 128, by have := (i 0).isLt; change (i 0).val < 4352 at this; omega⟩ ⟨((i 0).val - 256) % 128, by omega⟩ ⟨(i 1).val - 2048, by omega⟩)
  else D i

/-- The gradient of the layer norm's scale. -/
def dscale (i : S1x1024.Idx) : EReal := ∑ n : Fin 32, dG (wts W) (ub P (lat n)) (vb P (lat n)) (yb Y n) (i 1)
/-- The gradient of the layer norm's shift. -/
def dshift (i : S1x1024.Idx) : EReal := ∑ n : Fin 32, Mix.dB (wts W) (ub P (lat n)) (yb Y n) (i 1)
/-- The gradient of the mixing weights. -/
def dwts (i : S8x128x128.Idx) : EReal := ∑ n : Fin 32, Mix.dW (vec g) (vec b) (ub P (lat n)) (vb P (lat n)) (yb Y n) (i 0) (i 1) (i 2)
/-- The gradient of the mixing biases. -/
def dbia (i : S8x128x1.Idx) : EReal := ∑ n : Fin 32, dS (ub P (lat n)) (yb Y n) (i 0) (i 1)

end Spec

/-- Where every window's block sits at grid point `t`: the latent rows begin two points after the context's. -/
theorem idx : ∀ t : Fin cfg0.N, win0_0.index t = ![t.val, 1] ∧ win0_1.index t = ![0, 0] ∧ win0_2.index t = ![0, 0]
    ∧ win0_3.index t = ![0, 0, 0] ∧ win0_4.index t = ![0, 0, 0] ∧ win0_5.index t = ![t.val - 2, 0]
    ∧ win0_6.index t = ![t.val, 1] ∧ win0_7.index t = ![0, 0] ∧ win0_8.index t = ![0, 0]
    ∧ win0_9.index t = ![0, 0, 0] ∧ win0_10.index t = ![0, 0, 0] ∧ t.val < 34 ∧ (grid0.coords t 0).val = t.val :=
  (by decide +kernel : ∀ t : Fin grid0.N, _)

/-- A grid point's number. -/
theorem lt (t : Fin cfg0.N) : t.val < 34 := (idx t).2.2.2.2.2.2.2.2.2.2.2.1

/-- A grid point's coordinate is its number. -/
theorem coord (t : Fin cfg0.N) : (grid0.coords t 0).val = t.val := (idx t).2.2.2.2.2.2.2.2.2.2.2.2

/-- The first half of a point's block. -/
theorem hU (c : Dev nD) (t : Fin cfg0.N) : uu (X0_0 m c t) = ub (m ((c : Thread nD τ).loc main_arg0)) ⟨t.val, lt t⟩ := by
  have ht := lt t
  funext p d
  show X0_0 m c t (ix2 p _) = _
  unfold X0_0 Pipeline.Window.fill
  rw [dif_pos (moved0_0 t _)]
  unfold ub
  blk_point [iblk, V, idx t]

/-- The second half of a point's block. -/
theorem hV (c : Dev nD) (t : Fin cfg0.N) : vv (X0_0 m c t) = vb (m ((c : Thread nD τ).loc main_arg0)) ⟨t.val, lt t⟩ := by
  have ht := lt t
  funext p d
  show X0_0 m c t (ix2 p _) = _
  unfold X0_0 Pipeline.Window.fill
  rw [dif_pos (moved0_0 t _)]
  unfold vb
  blk_point [iblk, V, idx t]

/-- The scale. -/
theorem hG (c : Dev nD) (t : Fin cfg0.N) (h) : rowv (shapeCast S1x1024 (iblk m c 1 t) h) = vec (m ((c : Thread nD τ).loc main_arg1)) := by
  funext d
  unfold rowv vec
  pointwise []
  blk_point [iblk, V, idx t]

/-- The shift. -/
theorem hB (c : Dev nD) (t : Fin cfg0.N) (h) : rowv (shapeCast S1x1024 (iblk m c 2 t) h) = vec (m ((c : Thread nD τ).loc main_arg2)) := by
  funext d
  unfold rowv vec
  pointwise []
  blk_point [iblk, V, idx t]

/-- A point's cotangent rows: nothing at the context's points. -/
def yp (Y : FVec Ideal S4096x1024 .f32) (t : Fin cfg0.N) (p : Fin 128) (d : Fin 1024) : EReal :=
  if h : 2 ≤ t.val then yb Y ⟨t.val - 2, by have := lt t; omega⟩ p d else 0

/-- A point's cotangent rows. -/
theorem hD (c : Dev nD) (t : Fin cfg0.N) : dd (BitVec.ofNat 32 (grid0.coords t 0).val) (iblk m c 5 t) = yp (m ((c : Thread nD τ).loc main_arg5)) t := by
  have ht := lt t
  funext p d
  unfold dd yp
  rw [coord]
  by_cases h : 2 ≤ t.val
  · rw [dif_pos h, live_pos ⟨t.val, ht⟩ h, mul_one]
    unfold yb
    blk_point [iblk, V, idx t]
  · rw [dif_neg h, live_zero ⟨t.val, ht⟩ (by show t.val < 2; omega), mul_zero]

/-- Eight slabs are one function where each is that function's slab. -/
theorem W8_eq (w0 w1 w2 w3 w4 w5 w6 w7 : FVec Ideal S128x128 .f32) (F : Fin 8 → Fin 128 → Fin 128 → EReal)
    (h0 : ∀ p q, w0 (ix2 p q) = F 0 p q) (h1 : ∀ p q, w1 (ix2 p q) = F 1 p q) (h2 : ∀ p q, w2 (ix2 p q) = F 2 p q) (h3 : ∀ p q, w3 (ix2 p q) = F 3 p q)
    (h4 : ∀ p q, w4 (ix2 p q) = F 4 p q) (h5 : ∀ p q, w5 (ix2 p q) = F 5 p q) (h6 : ∀ p q, w6 (ix2 p q) = F 6 p q) (h7 : ∀ p q, w7 (ix2 p q) = F 7 p q) :
    W8 w0 w1 w2 w3 w4 w5 w6 w7 = F := by
  funext k p q
  match k with
  | ⟨0, _⟩ => exact h0 p q
  | ⟨1, _⟩ => exact h1 p q
  | ⟨2, _⟩ => exact h2 p q
  | ⟨3, _⟩ => exact h3 p q
  | ⟨4, _⟩ => exact h4 p q
  | ⟨5, _⟩ => exact h5 p q
  | ⟨6, _⟩ => exact h6 p q
  | ⟨7, _⟩ => exact h7 p q

/-- Eight bias slabs are one function where each is that function's slab. -/
theorem B8_eq (w0 w1 w2 w3 w4 w5 w6 w7 : FVec Ideal S128x1 .f32) (F : Fin 8 → Fin 128 → EReal)
    (h0 : ∀ p, w0 (ix2 p 0) = F 0 p) (h1 : ∀ p, w1 (ix2 p 0) = F 1 p) (h2 : ∀ p, w2 (ix2 p 0) = F 2 p) (h3 : ∀ p, w3 (ix2 p 0) = F 3 p)
    (h4 : ∀ p, w4 (ix2 p 0) = F 4 p) (h5 : ∀ p, w5 (ix2 p 0) = F 5 p) (h6 : ∀ p, w6 (ix2 p 0) = F 6 p) (h7 : ∀ p, w7 (ix2 p 0) = F 7 p) :
    B8 w0 w1 w2 w3 w4 w5 w6 w7 = F := by
  funext k p
  match k with
  | ⟨0, _⟩ => exact h0 p
  | ⟨1, _⟩ => exact h1 p
  | ⟨2, _⟩ => exact h2 p
  | ⟨3, _⟩ => exact h3 p
  | ⟨4, _⟩ => exact h4 p
  | ⟨5, _⟩ => exact h5 p
  | ⟨6, _⟩ => exact h6 p
  | ⟨7, _⟩ => exact h7 p

end Cert.Kernel2Ideal.Final

end
-- ==== Proof.Mix.Zero.lean ====
/- Rows whose cotangent is zero have no gradients. -/
module

public import proofs.«01_k».proof.Proof.Mix.Spec
public import Idealize.ShloMosaic.Lib.IdealHost

@[expose] public section

noncomputable section

open Idealize.ShloMosaic

namespace Cert.Mix

/-- The number of columns is 1024. -/
theorem cN_real : cN = ((1024 : ℝ) : EReal) := by
  simp [cN, Ideal.ofBits, Ideal.ieee, -EReal.coe_mul]; norm_num

/-- Nothing divided by the number of columns is nothing. -/
theorem div_zero_cN : Ideal.div 0 cN = 0 := by
  rw [cN_real, Ideal.div_coe (by norm_num), zero_mul]

/-- GELU's gradient takes nothing to nothing. -/
theorem bw_zero (x : EReal) : bw x 0 = 0 := by
  unfold bw bwA
  simp only [mul_zero, zero_mul, add_zero]

variable (W : Fin 8 → Fin 128 → Fin 128 → EReal) (B : Fin 8 → Fin 128 → EReal) (g b : Fin 1024 → EReal)
  (U V D : Fin 128 → Fin 1024 → EReal) (hD : ∀ p d, D p d = 0)

include hD

/-- No cotangent, no gradient of the mixed rows. -/
theorem dm_zero (p : Fin 128) (d : Fin 1024) : dm U D p d = 0 := by unfold dm; rw [hD, mul_zero]

/-- No cotangent, no gradient of the normalised rows. -/
theorem dvn_zero (p : Fin 128) (d : Fin 1024) : dvn W U D p d = 0 := by
  unfold dvn
  simp only [dm_zero U D hD, mul_zero, Finset.sum_const_zero]

/-- No cotangent, no gradient of the first half. -/
theorem dU_zero (p : Fin 128) (d : Fin 1024) : dU W B g b U V D p d = 0 := by
  unfold dU
  rw [hD, zero_mul, bw_zero]

/-- No cotangent, no gradient of the second half. -/
theorem dV_zero (p : Fin 128) (d : Fin 1024) : dV W g U V D p d = 0 := by
  unfold dV drow dxc dvar
  simp only [dvn_zero W U D hD, mul_zero, zero_mul, Finset.sum_const_zero, div_zero_cN, add_zero, sub_zero, bw_zero]

/-- No cotangent, no share of the scale's gradient. -/
theorem dG_zero (d : Fin 1024) : dG W U V D d = 0 := by
  unfold dG
  simp only [dvn_zero W U D hD, mul_zero, Finset.sum_const_zero]

/-- No cotangent, no share of the shift's gradient. -/
theorem dB_zero (d : Fin 1024) : dB W U D d = 0 := by
  unfold dB
  simp only [dvn_zero W U D hD, Finset.sum_const_zero]

/-- No cotangent, no share of a weight's gradient. -/
theorem dW_zero (k : Fin 8) (p q : Fin 128) : dW g b U V D k p q = 0 := by
  unfold dW
  simp only [dm_zero U D hD, zero_mul, Finset.sum_const_zero]

/-- No cotangent, no share of a bias's gradient. -/
theorem dS_zero (k : Fin 8) (p : Fin 128) : dS U D k p = 0 := by
  unfold dS
  simp only [dm_zero U D hD, Finset.sum_const_zero]

end Cert.Mix

end
-- ==== Proof.Mix.Slab.lean ====
/- How a slab of the mixing gradients is stored and added to, read one element at a time. -/
module

public import proofs.«01_k».proof.Proof.Mix.Array
public import proofs.«01_k».proof.Proof.Mix.Zero

@[expose] public section

set_option maxRecDepth 16384

noncomputable section

open Idealize.ShloMosaic Idealize.ShloMosaic.TcCoe Idealize.SL.Sem

namespace Cert.Kernel2Ideal.Final

open Cert.Kernel2Ideal Cert.Kernel2Ideal.Gen Cert.Mix

/-- A first weight slab 0 is stored as it is. -/
theorem setW0 (Y : FVec Ideal S128x128 .f32) (z : Fin 1) (p q : Fin 128) : k0_pay102 (F := Ideal) Y (ix3 z p q) = Y (ix2 p q) := by
  pointwise [k0_pay102]

/-- A first bias slab 0 is stored as it is. -/
theorem setS0 (Y : FVec Ideal S128x1 .f32) (z : Fin 1) (p : Fin 128) (w : Fin 1) : k0_pay114 (F := Ideal) Y (ix3 z p w) = Y (ix2 p w) := by
  obtain rfl : w = 0 := Subsingleton.elim _ _
  pointwise [k0_pay114]

/-- A later weight slab 0 is added to what was there. -/
theorem addW0 (Y : FVec Ideal S128x128 .f32) (Z : FVec Ideal S1x128x128 .f32) (z : Fin 1) (p q : Fin 128) :
    k0_pay1 (F := Ideal) Y Z (ix3 z p q) = Z (ix3 0 p q) + Y (ix2 p q) := by
  pointwise [k0_pay1]

/-- A later bias slab 0 is added to what was there. -/
theorem addS0 (Y : FVec Ideal S128x1 .f32) (Z : FVec Ideal S1x128x1 .f32) (z : Fin 1) (p : Fin 128) (w : Fin 1) :
    k0_pay6 (F := Ideal) Y Z (ix3 z p w) = Z (ix3 0 p w) + Y (ix2 p w) := by
  obtain rfl : w = 0 := Subsingleton.elim _ _
  pointwise [k0_pay6]

/-- A first weight slab 1 is stored as it is. -/
theorem setW1 (Y : FVec Ideal S128x128 .f32) (z : Fin 1) (p q : Fin 128) : k0_pay103 (F := Ideal) Y (ix3 z p q) = Y (ix2 p q) := by
  pointwise [k0_pay103]

/-- A first bias slab 1 is stored as it is. -/
theorem setS1 (Y : FVec Ideal S128x1 .f32) (z : Fin 1) (p : Fin 128) (w : Fin 1) : k0_pay115 (F := Ideal) Y (ix3 z p w) = Y (ix2 p w) := by
  obtain rfl : w = 0 := Subsingleton.elim _ _
  pointwise [k0_pay115]

/-- A later weight slab 1 is added to what was there. -/
theorem addW1 (Y : FVec Ideal S128x128 .f32) (Z : FVec Ideal S1x128x128 .f32) (z : Fin 1) (p q : Fin 128) :
    k0_pay2 (F := Ideal) Y Z (ix3 z p q) = Z (ix3 0 p q) + Y (ix2 p q) := by
  pointwise [k0_pay2]

/-- A later bias slab 1 is added to what was there. -/
theorem addS1 (Y : FVec Ideal S128x1 .f32) (Z : FVec Ideal S1x128x1 .f32) (z : Fin 1) (p : Fin 128) (w : Fin 1) :
    k0_pay7 (F := Ideal) Y Z (ix3 z p w) = Z (ix3 0 p w) + Y (ix2 p w) := by
  obtain rfl : w = 0 := Subsingleton.elim _ _
  pointwise [k0_pay7]

/-- A first weight slab 2 is stored as it is. -/
theorem setW2 (Y : FVec Ideal S128x128 .f32) (z : Fin 1) (p q : Fin 128) : k0_pay104 (F := Ideal) Y (ix3 z p q) = Y (ix2 p q) := by
  pointwise [k0_pay104]

/-- A first bias slab 2 is stored as it is. -/
theorem setS2 (Y : FVec Ideal S128x1 .f32) (z : Fin 1) (p : Fin 128) (w : Fin 1) : k0_pay116 (F := Ideal) Y (ix3 z p w) = Y (ix2 p w) := by
  obtain rfl : w = 0 := Subsingleton.elim _ _
  pointwise [k0_pay116]

/-- A later weight slab 2 is added to what was there. -/
theorem addW2 (Y : FVec Ideal S128x128 .f32) (Z : FVec Ideal S1x128x128 .f32) (z : Fin 1) (p q : Fin 128) :
    k0_pay3 (F := Ideal) Y Z (ix3 z p q) = Z (ix3 0 p q) + Y (ix2 p q) := by
  pointwise [k0_pay3]

/-- A later bias slab 2 is added to what was there. -/
theorem addS2 (Y : FVec Ideal S128x1 .f32) (Z : FVec Ideal S1x128x1 .f32) (z : Fin 1) (p : Fin 128) (w : Fin 1) :
    k0_pay8 (F := Ideal) Y Z (ix3 z p w) = Z (ix3 0 p w) + Y (ix2 p w) := by
  obtain rfl : w = 0 := Subsingleton.elim _ _
  pointwise [k0_pay8]

/-- A first weight slab 3 is stored as it is. -/
theorem setW3 (Y : FVec Ideal S128x128 .f32) (z : Fin 1) (p q : Fin 128) : k0_pay105 (F := Ideal) Y (ix3 z p q) = Y (ix2 p q) := by
  pointwise [k0_pay105]

/-- A first bias slab 3 is stored as it is. -/
theorem setS3 (Y : FVec Ideal S128x1 .f32) (z : Fin 1) (p : Fin 128) (w : Fin 1) : k0_pay117 (F := Ideal) Y (ix3 z p w) = Y (ix2 p w) := by
  obtain rfl : w = 0 := Subsingleton.elim _ _
  pointwise [k0_pay117]

/-- A later weight slab 3 is added to what was there. -/
theorem addW3 (Y : FVec Ideal S128x128 .f32) (Z : FVec Ideal S1x128x128 .f32) (z : Fin 1) (p q : Fin 128) :
    k0_pay4 (F := Ideal) Y Z (ix3 z p q) = Z (ix3 0 p q) + Y (ix2 p q) := by
  pointwise [k0_pay4]

/-- A later bias slab 3 is added to what was there. -/
theorem addS3 (Y : FVec Ideal S128x1 .f32) (Z : FVec Ideal S1x128x1 .f32) (z : Fin 1) (p : Fin 128) (w : Fin 1) :
    k0_pay9 (F := Ideal) Y Z (ix3 z p w) = Z (ix3 0 p w) + Y (ix2 p w) := by
  obtain rfl : w = 0 := Subsingleton.elim _ _
  pointwise [k0_pay9]

/-- A first weight slab 4 is stored as it is. -/
theorem setW4 (Y : FVec Ideal S128x128 .f32) (z : Fin 1) (p q : Fin 128) : k0_pay106 (F := Ideal) Y (ix3 z p q) = Y (ix2 p q) := by
  pointwise [k0_pay106]

/-- A first bias slab 4 is stored as it is. -/
theorem setS4 (Y : FVec Ideal S128x1 .f32) (z : Fin 1) (p : Fin 128) (w : Fin 1) : k0_pay118 (F := Ideal) Y (ix3 z p w) = Y (ix2 p w) := by
  obtain rfl : w = 0 := Subsingleton.elim _ _
  pointwise [k0_pay118]

/-- A later weight slab 4 is added to what was there. -/
theorem addW4 (Y : FVec Ideal S128x128 .f32) (Z : FVec Ideal S1x128x128 .f32) (z : Fin 1) (p q : Fin 128) :
    k0_pay110 (F := Ideal) (k0_pay5 (F := Ideal) Y Z) (ix3 z p q) = Z (ix3 0 p q) + Y (ix2 p q) := by
  pointwise [k0_pay110, k0_pay5]

/-- A later bias slab 4 is added to what was there. -/
theorem addS4 (Y : FVec Ideal S128x1 .f32) (Z : FVec Ideal S1x128x1 .f32) (z : Fin 1) (p : Fin 128) (w : Fin 1) :
    k0_pay122 (F := Ideal) (k0_pay10 (F := Ideal) Y Z) (ix3 z p w) = Z (ix3 0 p w) + Y (ix2 p w) := by
  obtain rfl : w = 0 := Subsingleton.elim _ _
  pointwise [k0_pay122, k0_pay10]

/-- A first weight slab 5 is stored as it is. -/
theorem setW5 (Y : FVec Ideal S128x128 .f32) (z : Fin 1) (p q : Fin 128) : k0_pay107 (F := Ideal) Y (ix3 z p q) = Y (ix2 p q) := by
  pointwise [k0_pay107]

/-- A first bias slab 5 is stored as it is. -/
theorem setS5 (Y : FVec Ideal S128x1 .f32) (z : Fin 1) (p : Fin 128) (w : Fin 1) : k0_pay119 (F := Ideal) Y (ix3 z p w) = Y (ix2 p w) := by
  obtain rfl : w = 0 := Subsingleton.elim _ _
  pointwise [k0_pay119]

/-- A later weight slab 5 is added to what was there. -/
theorem addW5 (Y : FVec Ideal S128x128 .f32) (Z : FVec Ideal S1x128x128 .f32) (z : Fin 1) (p q : Fin 128) :
    k0_pay111 (F := Ideal) Y Z (ix3 z p q) = Z (ix3 0 p q) + Y (ix2 p q) := by
  pointwise [k0_pay111]

/-- A later bias slab 5 is added to what was there. -/
theorem addS5 (Y : FVec Ideal S128x1 .f32) (Z : FVec Ideal S1x128x1 .f32) (z : Fin 1) (p : Fin 128) (w : Fin 1) :
    k0_pay123 (F := Ideal) Y Z (ix3 z p w) = Z (ix3 0 p w) + Y (ix2 p w) := by
  obtain rfl : w = 0 := Subsingleton.elim _ _
  pointwise [k0_pay123]

/-- A first weight slab 6 is stored as it is. -/
theorem setW6 (Y : FVec Ideal S128x128 .f32) (z : Fin 1) (p q : Fin 128) : k0_pay108 (F := Ideal) Y (ix3 z p q) = Y (ix2 p q) := by
  pointwise [k0_pay108]

/-- A first bias slab 6 is stored as it is. -/
theorem setS6 (Y : FVec Ideal S128x1 .f32) (z : Fin 1) (p : Fin 128) (w : Fin 1) : k0_pay120 (F := Ideal) Y (ix3 z p w) = Y (ix2 p w) := by
  obtain rfl : w = 0 := Subsingleton.elim _ _
  pointwise [k0_pay120]

/-- A later weight slab 6 is added to what was there. -/
theorem addW6 (Y : FVec Ideal S128x128 .f32) (Z : FVec Ideal S1x128x128 .f32) (z : Fin 1) (p q : Fin 128) :
    k0_pay112 (F := Ideal) Y Z (ix3 z p q) = Z (ix3 0 p q) + Y (ix2 p q) := by
  pointwise [k0_pay112]

/-- A later bias slab 6 is added to what was there. -/
theorem addS6 (Y : FVec Ideal S128x1 .f32) (Z : FVec Ideal S1x128x1 .f32) (z : Fin 1) (p : Fin 128) (w : Fin 1) :
    k0_pay124 (F := Ideal) Y Z (ix3 z p w) = Z (ix3 0 p w) + Y (ix2 p w) := by
  obtain rfl : w = 0 := Subsingleton.elim _ _
  pointwise [k0_pay124]

/-- A first weight slab 7 is stored as it is. -/
theorem setW7 (Y : FVec Ideal S128x128 .f32) (z : Fin 1) (p q : Fin 128) : k0_pay109 (F := Ideal) Y (ix3 z p q) = Y (ix2 p q) := by
  pointwise [k0_pay109]

/-- A first bias slab 7 is stored as it is. -/
theorem setS7 (Y : FVec Ideal S128x1 .f32) (z : Fin 1) (p : Fin 128) (w : Fin 1) : k0_pay121 (F := Ideal) Y (ix3 z p w) = Y (ix2 p w) := by
  obtain rfl : w = 0 := Subsingleton.elim _ _
  pointwise [k0_pay121]

/-- A later weight slab 7 is added to what was there. -/
theorem addW7 (Y : FVec Ideal S128x128 .f32) (Z : FVec Ideal S1x128x128 .f32) (z : Fin 1) (p q : Fin 128) :
    k0_pay113 (F := Ideal) Y Z (ix3 z p q) = Z (ix3 0 p q) + Y (ix2 p q) := by
  pointwise [k0_pay113]

/-- A later bias slab 7 is added to what was there. -/
theorem addS7 (Y : FVec Ideal S128x1 .f32) (Z : FVec Ideal S1x128x1 .f32) (z : Fin 1) (p : Fin 128) (w : Fin 1) :
    k0_pay125 (F := Ideal) Y Z (ix3 z p w) = Z (ix3 0 p w) + Y (ix2 p w) := by
  obtain rfl : w = 0 := Subsingleton.elim _ _
  pointwise [k0_pay125]

/-- A later row of the scale's gradient is added to what was there. -/
theorem addG (Y Z : FVec Ideal S1x1024 .f32) (j : S1x1024.Idx) : k0_pay100 (F := Ideal) Y Z j = Z j + Y j := by
  idx_vars j
  pointwise [k0_pay100]

/-- A later row of the shift's gradient is added to what was there. -/
theorem addB (Y Z : FVec Ideal S1x1024 .f32) (j : S1x1024.Idx) : k0_pay101 (F := Ideal) Y Z j = Z j + Y j := by
  idx_vars j
  pointwise [k0_pay101]

variable (m : (ℓ : Loc nD τ sig) → Buf (Elt Ideal) ℓ)

/-- A context's point has no cotangent. -/
theorem yp_zero (Y : FVec Ideal S4096x1024 .f32) (t : Fin cfg0.N) (h : t.val < 2) (p : Fin 128) (d : Fin 1024) : yp Y t p d = 0 := by
  unfold yp
  rw [dif_neg (by omega)]

/-- A latent point's cotangent is its chunk's. -/
theorem yp_pos (Y : FVec Ideal S4096x1024 .f32) (t : Fin cfg0.N) (n : Fin 32) (h : t.val = n.val + 2) : yp Y t = yb Y n := by
  funext p d
  unfold yp
  rw [dif_pos (by omega)]
  exact congrArg (fun k => yb Y k p d) (Fin.ext (by show t.val - 2 = n.val; omega))

/-- A latent point's block is its chunk's. -/
theorem pt_lat (t : Fin cfg0.N) (n : Fin 32) (h : t.val = n.val + 2) : (⟨t.val, lt t⟩ : Fin 34) = lat n := Fin.ext h

/-- The points' shares, added, are the chunks' where the context's points have none. -/
theorem sum34 (f : Fin cfg0.N → EReal) (g : Fin 32 → EReal) (t : Fin cfg0.N) (h1 : t.val % 34 = 34 - 1) (hz : ∀ s : Fin cfg0.N, s.val < 2 → f s = 0)
    (hp : ∀ (s : Fin cfg0.N) (n : Fin 32), s.val = n.val + 2 → f s = g n) :
    ∑ s : Fin 34, f ⟨34 * (t.val / 34) + s.val, Pipeline.run_point_lt_of_flush t h1 s⟩ = ∑ n : Fin 32, g n := by
  have ht := lt t
  rw [Fin.sum_univ_succ, Fin.sum_univ_succ, hz _ (by show 34 * (t.val / 34) + 0 < 2; omega), hz _ (by show 34 * (t.val / 34) + 1 < 2; omega), zero_add, zero_add]
  exact Finset.sum_congr rfl fun n _ => hp _ n (by show 34 * (t.val / 34) + (n.val + 1 + 1) = _; omega)

/-- A point's share of the scale's gradient. -/
def shareG (c : Dev nD) (t : Fin cfg0.N) (j : S1x1024.Idx) : EReal :=
  dG (wts (m ((c : Thread nD τ).loc main_arg3))) (ub (m ((c : Thread nD τ).loc main_arg0)) ⟨t.val, lt t⟩) (vb (m ((c : Thread nD τ).loc main_arg0)) ⟨t.val, lt t⟩) (yp (m ((c : Thread nD τ).loc main_arg5)) t) (j 1)
/-- A point's share of the shift's gradient. -/
def shareB (c : Dev nD) (t : Fin cfg0.N) (j : S1x1024.Idx) : EReal :=
  Mix.dB (wts (m ((c : Thread nD τ).loc main_arg3))) (ub (m ((c : Thread nD τ).loc main_arg0)) ⟨t.val, lt t⟩) (yp (m ((c : Thread nD τ).loc main_arg5)) t) (j 1)
/-- A point's share of the mixing weights' gradient. -/
def shareW (c : Dev nD) (t : Fin cfg0.N) (j : S8x128x128.Idx) : EReal :=
  Mix.dW (vec (m ((c : Thread nD τ).loc main_arg1))) (vec (m ((c : Thread nD τ).loc main_arg2))) (ub (m ((c : Thread nD τ).loc main_arg0)) ⟨t.val, lt t⟩) (vb (m ((c : Thread nD τ).loc main_arg0)) ⟨t.val, lt t⟩) (yp (m ((c : Thread nD τ).loc main_arg5)) t) (j 0) (j 1) (j 2)
/-- A point's share of the mixing biases' gradient. -/
def shareS (c : Dev nD) (t : Fin cfg0.N) (j : S8x128x1.Idx) : EReal :=
  dS (ub (m ((c : Thread nD τ).loc main_arg0)) ⟨t.val, lt t⟩) (yp (m ((c : Thread nD τ).loc main_arg5)) t) (j 0) (j 1)

/-- What a point computes for a mixing weight's slab is its share. -/
theorem shareW_of (c : Dev nD) (t : Fin cfg0.N) (h h') (k : Fin 8) (p q : Fin 128) (j : S8x128x128.Idx) (h0 : (j 0).val = k.val) (h1 : (j 1).val = p.val) (h2 : (j 2).val = q.val) :
    Mix.dW (rowv (shapeCast S1x1024 (iblk m c 1 t) h)) (rowv (shapeCast S1x1024 (iblk m c 2 t) h')) (uu (X0_0 m c t)) (vv (X0_0 m c t)) (dd (BitVec.ofNat 32 (grid0.coords t 0).val) (iblk m c 5 t)) k p q = shareW m c t j := by
  rw [hG, hB, hU, hV, hD]
  unfold shareW
  rw [show j 0 = k from Fin.ext h0, show j 1 = p from Fin.ext h1, show j 2 = q from Fin.ext h2]

/-- What a point computes for a mixing bias's slab is its share. -/
theorem shareS_of (c : Dev nD) (t : Fin cfg0.N) (k : Fin 8) (p : Fin 128) (j : S8x128x1.Idx) (h0 : (j 0).val = k.val) (h1 : (j 1).val = p.val) :
    dS (uu (X0_0 m c t)) (dd (BitVec.ofNat 32 (grid0.coords t 0).val) (iblk m c 5 t)) k p = shareS m c t j := by
  rw [hU, hD]
  unfold shareS
  rw [show j 0 = k from Fin.ext h0, show j 1 = p from Fin.ext h1]

end Cert.Kernel2Ideal.Final

end
-- ==== Proof.Mix.Final.lean ====
/- What the kernel of the spatial gating's backward pass leaves in its gradients of the layer norm's scale and shift. -/
module

public import proofs.«01_k».proof.Proof.Mix.Slab

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Mix

variable (m : (ℓ : Loc nD τ sig) → Buf (Elt Ideal) ℓ)

set_option maxHeartbeats 2000000 in
/-- The first point leaves its share of the scale's gradient. -/
theorem startG (c : Dev nD) (t : Fin cfg0.N) (h : t.val % 34 = 0) (j : S1x1024.Idx) :
    (outsAt0 m c t.val t.isLt).2.1 j = 0 + shareG m c t j := by
  have ht := lt t
  rw [outsAt0_A m c t h (by omega) h (by omega) h (by omega) h (by omega), zero_add]
  frame_out
  idx_vars j
  refine (dG_at _ _ _ _ _ _ _ _ _ _ _ _ _).trans ?_
  rw [hU, hV, hD]
  refine congrArg (fun w => dG w (ub (m ((c : Thread nD τ).loc main_arg0)) ⟨t.val, lt t⟩) (vb (m ((c : Thread nD τ).loc main_arg0)) ⟨t.val, lt t⟩) (yp (m ((c : Thread nD τ).loc main_arg5)) t) j1) (W8_eq _ _ _ _ _ _ _ _ (wts (m ((c : Thread nD τ).loc main_arg3))) ?_ ?_ ?_ ?_ ?_ ?_ ?_ ?_)
  all_goals (intro p q; unfold wts; pointwise []; blk_point [iblk, V, idx t])

set_option maxHeartbeats 2000000 in
/-- A later point adds its share of the scale's gradient. -/
theorem stepG (c : Dev nD) (t : Fin cfg0.N) (h : ¬t.val % 34 = 0) (j : S1x1024.Idx) :
    (outsAt0 m c t.val t.isLt).2.1 j = (outsAt0 m c (t.val - 1) (Nat.lt_of_le_of_lt (Nat.sub_le _ _) t.isLt)).2.1 j + shareG m c t j := by
  have ht := lt t
  have h1 : 1 ≤ t.val := by omega
  rw [outsAt0_B m c t h h1 h h1 h h1 h h1]
  frame_out
  refine (addG _ _ _).trans (congrArg₂ (· + ·) ?_ ?_)
  · rfl
  idx_vars j
  refine (dG_at _ _ _ _ _ _ _ _ _ _ _ _ _).trans ?_
  rw [hU, hV, hD]
  refine congrArg (fun w => dG w (ub (m ((c : Thread nD τ).loc main_arg0)) ⟨t.val, lt t⟩) (vb (m ((c : Thread nD τ).loc main_arg0)) ⟨t.val, lt t⟩) (yp (m ((c : Thread nD τ).loc main_arg5)) t) j1) (W8_eq _ _ _ _ _ _ _ _ (wts (m ((c : Thread nD τ).loc main_arg3))) ?_ ?_ ?_ ?_ ?_ ?_ ?_ ?_)
  all_goals (intro p q; unfold wts; pointwise []; blk_point [iblk, V, idx t])

set_option maxHeartbeats 2000000 in
/-- The first point leaves its share of the shift's gradient. -/
theorem startB (c : Dev nD) (t : Fin cfg0.N) (h : t.val % 34 = 0) (j : S1x1024.Idx) :
    (outsAt0 m c t.val t.isLt).2.2.1 j = 0 + shareB m c t j := by
  have ht := lt t
  rw [outsAt0_A m c t h (by omega) h (by omega) h (by omega) h (by omega), zero_add]
  frame_out
  idx_vars j
  refine (dB_at _ _ _ _ _ _ _ _ _ _ _ _ _).trans ?_
  rw [hU, hD]
  refine congrArg (fun w => Mix.dB w (ub (m ((c : Thread nD τ).loc main_arg0)) ⟨t.val, lt t⟩) (yp (m ((c : Thread nD τ).loc main_arg5)) t) j1) (W8_eq _ _ _ _ _ _ _ _ (wts (m ((c : Thread nD τ).loc main_arg3))) ?_ ?_ ?_ ?_ ?_ ?_ ?_ ?_)
  all_goals (intro p q; unfold wts; pointwise []; blk_point [iblk, V, idx t])

set_option maxHeartbeats 2000000 in
/-- A later point adds its share of the shift's gradient. -/
theorem stepB (c : Dev nD) (t : Fin cfg0.N) (h : ¬t.val % 34 = 0) (j : S1x1024.Idx) :
    (outsAt0 m c t.val t.isLt).2.2.1 j = (outsAt0 m c (t.val - 1) (Nat.lt_of_le_of_lt (Nat.sub_le _ _) t.isLt)).2.2.1 j + shareB m c t j := by
  have ht := lt t
  have h1 : 1 ≤ t.val := by omega
  rw [outsAt0_B m c t h h1 h h1 h h1 h h1]
  frame_out
  refine (addB _ _ _).trans (congrArg₂ (· + ·) ?_ ?_)
  · rfl
  idx_vars j
  refine (dB_at _ _ _ _ _ _ _ _ _ _ _ _ _).trans ?_
  rw [hU, hD]
  refine congrArg (fun w => Mix.dB w (ub (m ((c : Thread nD τ).loc main_arg0)) ⟨t.val, lt t⟩) (yp (m ((c : Thread nD τ).loc main_arg5)) t) j1) (W8_eq _ _ _ _ _ _ _ _ (wts (m ((c : Thread nD τ).loc main_arg3))) ?_ ?_ ?_ ?_ ?_ ?_ ?_ ?_)
  all_goals (intro p q; unfold wts; pointwise []; blk_point [iblk, V, idx t])

/-- The scale's gradient after the run. -/
theorem final7 (c : Dev nD) : (dats m 0 c).arrAt 7 (cfgs 0).N = dscale (m ((c : Thread nD τ).loc main_arg0)) (m ((c : Thread nD τ).loc main_arg3)) (m ((c : Thread nD τ).loc main_arg5)) := by
  refine (dats m 0 c).arrAt_eq_of_covers 7 _ (by decide +kernel) fun t hf y => ?_
  have h1 := (flush0_7 t).mp hf
  have ht := lt t
  blk_simp
  rw [after0_7]
  refine (Pipeline.eq_sum_fin_of_reset_step_apply_of_flush (fun n h => (outsAt0 m c n h).2.1) 34 (fun _ => 0) (shareG m c) (startG m c) (stepG m c) t h1 _).trans ((zero_add _).trans ?_)
  idx_vars y
  refine (sum34 (fun s => shareG m c s (ix2 y0 y1)) (fun n => dG (wts (m ((c : Thread nD τ).loc main_arg3))) (ub (m ((c : Thread nD τ).loc main_arg0)) (lat n)) (vb (m ((c : Thread nD τ).loc main_arg0)) (lat n)) (yb (m ((c : Thread nD τ).loc main_arg5)) n) y1) t h1
    (fun s hs => dG_zero _ _ _ _ (yp_zero _ s hs) _) (fun s n hn => by unfold shareG; rw [yp_pos _ s n hn, pt_lat s n hn]; rfl)).trans ?_
  have hi : win0_7.index t = ![0, 0] := (idx t).2.2.2.2.2.2.2.1
  have he : ((cfg0.win 7).blk t).view.emb (ix2 y0 y1) = (ix2 y0 y1 : S1x1024.Idx) := by
    funext a
    match a with
    | ⟨0, _⟩ =>
      refine Fin.ext ((Pipeline.Window.rect_emb_val (cfg0.win 7) t _ 0).trans ?_)
      show win0_7.index t 0 * 1 + y0.val = y0.val
      rw [hi]
      show 0 * 1 + y0.val = y0.val
      omega
    | ⟨1, _⟩ =>
      refine Fin.ext ((Pipeline.Window.rect_emb_val (cfg0.win 7) t _ 1).trans ?_)
      show win0_7.index t 1 * 1024 + y1.val = y1.val
      rw [hi]
      show 0 * 1024 + y1.val = y1.val
      omega
  exact (congrArg (dscale (m ((c : Thread nD τ).loc main_arg0)) (m ((c : Thread nD τ).loc main_arg3)) (m ((c : Thread nD τ).loc main_arg5))) he).symm

/-- The shift's gradient after the run. -/
theorem final8 (c : Dev nD) : (dats m 0 c).arrAt 8 (cfgs 0).N = dshift (m ((c : Thread nD τ).loc main_arg0)) (m ((c : Thread nD τ).loc main_arg3)) (m ((c : Thread nD τ).loc main_arg5)) := by
  refine (dats m 0 c).arrAt_eq_of_covers 8 _ (by decide +kernel) fun t hf y => ?_
  have h1 := (flush0_8 t).mp hf
  have ht := lt t
  blk_simp
  rw [after0_8]
  refine (Pipeline.eq_sum_fin_of_reset_step_apply_of_flush (fun n h => (outsAt0 m c n h).2.2.1) 34 (fun _ => 0) (shareB m c) (startB m c) (stepB m c) t h1 _).trans ((zero_add _).trans ?_)
  idx_vars y
  refine (sum34 (fun s => shareB m c s (ix2 y0 y1)) (fun n => Mix.dB (wts (m ((c : Thread nD τ).loc main_arg3))) (ub (m ((c : Thread nD τ).loc main_arg0)) (lat n)) (yb (m ((c : Thread nD τ).loc main_arg5)) n) y1) t h1
    (fun s hs => dB_zero _ _ _ (yp_zero _ s hs) _) (fun s n hn => by unfold shareB; rw [yp_pos _ s n hn, pt_lat s n hn]; rfl)).trans ?_
  have hi : win0_8.index t = ![0, 0] := (idx t).2.2.2.2.2.2.2.2.1
  have he : ((cfg0.win 8).blk t).view.emb (ix2 y0 y1) = (ix2 y0 y1 : S1x1024.Idx) := by
    funext a
    match a with
    | ⟨0, _⟩ =>
      refine Fin.ext ((Pipeline.Window.rect_emb_val (cfg0.win 8) t _ 0).trans ?_)
      show win0_8.index t 0 * 1 + y0.val = y0.val
      rw [hi]
      show 0 * 1 + y0.val = y0.val
      omega
    | ⟨1, _⟩ =>
      refine Fin.ext ((Pipeline.Window.rect_emb_val (cfg0.win 8) t _ 1).trans ?_)
      show win0_8.index t 1 * 1024 + y1.val = y1.val
      rw [hi]
      show 0 * 1024 + y1.val = y1.val
      omega
  exact (congrArg (dshift (m ((c : Thread nD τ).loc main_arg0)) (m ((c : Thread nD τ).loc main_arg3)) (m ((c : Thread nD τ).loc main_arg5))) he).symm

end Cert.Kernel2Ideal.Final

end
-- ==== Proof.Mix.Slabs.lean ====
/- What the kernel of the spatial gating's backward pass leaves in its gradients of the mixing weights and biases. -/
module

public import proofs.«01_k».proof.Proof.Mix.Slab

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Mix

variable (m : (ℓ : Loc nD τ sig) → Buf (Elt Ideal) ℓ)

set_option maxHeartbeats 2000000 in
/-- The first point leaves its share of the mixing weights' gradient. -/
theorem startW (c : Dev nD) (t : Fin cfg0.N) (h : t.val % 34 = 0) (j : S8x128x128.Idx) :
    (outsAt0 m c t.val t.isLt).2.2.2.1 j = 0 + shareW m c t j := by
  have ht := lt t
  rw [outsAt0_A m c t h (by omega) h (by omega) h (by omega) h (by omega), zero_add]
  frame_out
  canon_tiles x e
  case piece0 =>
    idx_vars x
    exact (setW7 _ _ _ _).trans ((dW7_at _ _ _ _ _ _ _).trans (shareW_of m c t _ _ 7 x1 x2 j (by show (j 0).val = 7; omega) (by omega) (by omega)))
  case piece1 =>
    idx_vars x
    exact (setW6 _ _ _ _).trans ((dW6_at _ _ _ _ _ _ _).trans (shareW_of m c t _ _ 6 x1 x2 j (by show (j 0).val = 6; omega) (by omega) (by omega)))
  case piece2 =>
    idx_vars x
    exact (setW5 _ _ _ _).trans ((dW5_at _ _ _ _ _ _ _).trans (shareW_of m c t _ _ 5 x1 x2 j (by show (j 0).val = 5; omega) (by omega) (by omega)))
  case piece3 =>
    idx_vars x
    exact (setW4 _ _ _ _).trans ((dW4_at _ _ _ _ _ _ _).trans (shareW_of m c t _ _ 4 x1 x2 j (by show (j 0).val = 4; omega) (by omega) (by omega)))
  case piece4 =>
    idx_vars x
    exact (setW3 _ _ _ _).trans ((dW3_at _ _ _ _ _ _ _).trans (shareW_of m c t _ _ 3 x1 x2 j (by show (j 0).val = 3; omega) (by omega) (by omega)))
  case piece5 =>
    idx_vars x
    exact (setW2 _ _ _ _).trans ((dW2_at _ _ _ _ _ _ _).trans (shareW_of m c t _ _ 2 x1 x2 j (by show (j 0).val = 2; omega) (by omega) (by omega)))
  case piece6 =>
    idx_vars x
    exact (setW1 _ _ _ _).trans ((dW1_at _ _ _ _ _ _ _).trans (shareW_of m c t _ _ 1 x1 x2 j (by show (j 0).val = 1; omega) (by omega) (by omega)))
  case piece7 =>
    idx_vars x
    exact (setW0 _ _ _ _).trans ((dW0_at _ _ _ _ _ _ _).trans (shareW_of m c t _ _ 0 x1 x2 j (by show (j 0).val = 0; omega) (by omega) (by omega)))

set_option maxHeartbeats 2000000 in
/-- A later point adds its share of the mixing weights' gradient. -/
theorem stepW (c : Dev nD) (t : Fin cfg0.N) (h : ¬t.val % 34 = 0) (j : S8x128x128.Idx) :
    (outsAt0 m c t.val t.isLt).2.2.2.1 j = (outsAt0 m c (t.val - 1) (Nat.lt_of_le_of_lt (Nat.sub_le _ _) t.isLt)).2.2.2.1 j + shareW m c t j := by
  have ht := lt t
  have h1 : 1 ≤ t.val := by omega
  rw [outsAt0_B m c t h h1 h h1 h h1 h h1]
  frame_out
  canon_tiles x e
  case piece0 =>
    idx_vars x
    refine (addW7 _ _ _ _ _).trans (congrArg₂ (· + ·) ?_ ((dW7_at _ _ _ _ _ _ _).trans (shareW_of m c t _ _ 7 x1 x2 j (by show (j 0).val = 7; omega) (by omega) (by omega))))
    pointwise []
    blk_point
  case piece1 =>
    idx_vars x
    refine (addW6 _ _ _ _ _).trans (congrArg₂ (· + ·) ?_ ((dW6_at _ _ _ _ _ _ _).trans (shareW_of m c t _ _ 6 x1 x2 j (by show (j 0).val = 6; omega) (by omega) (by omega))))
    pointwise []
    blk_point
  case piece2 =>
    idx_vars x
    refine (addW5 _ _ _ _ _).trans (congrArg₂ (· + ·) ?_ ((dW5_at _ _ _ _ _ _ _).trans (shareW_of m c t _ _ 5 x1 x2 j (by show (j 0).val = 5; omega) (by omega) (by omega))))
    pointwise []
    blk_point
  case piece3 =>
    idx_vars x
    refine (addW4 _ _ _ _ _).trans (congrArg₂ (· + ·) ?_ ((dW4_at _ _ _ _ _ _ _).trans (shareW_of m c t _ _ 4 x1 x2 j (by show (j 0).val = 4; omega) (by omega) (by omega))))
    pointwise []
    blk_point
  case piece4 =>
    idx_vars x
    refine (addW3 _ _ _ _ _).trans (congrArg₂ (· + ·) ?_ ((dW3_at _ _ _ _ _ _ _).trans (shareW_of m c t _ _ 3 x1 x2 j (by show (j 0).val = 3; omega) (by omega) (by omega))))
    pointwise []
    blk_point
  case piece5 =>
    idx_vars x
    refine (addW2 _ _ _ _ _).trans (congrArg₂ (· + ·) ?_ ((dW2_at _ _ _ _ _ _ _).trans (shareW_of m c t _ _ 2 x1 x2 j (by show (j 0).val = 2; omega) (by omega) (by omega))))
    pointwise []
    blk_point
  case piece6 =>
    idx_vars x
    refine (addW1 _ _ _ _ _).trans (congrArg₂ (· + ·) ?_ ((dW1_at _ _ _ _ _ _ _).trans (shareW_of m c t _ _ 1 x1 x2 j (by show (j 0).val = 1; omega) (by omega) (by omega))))
    pointwise []
    blk_point
  case piece7 =>
    idx_vars x
    refine (addW0 _ _ _ _ _).trans (congrArg₂ (· + ·) ?_ ((dW0_at _ _ _ _ _ _ _).trans (shareW_of m c t _ _ 0 x1 x2 j (by show (j 0).val = 0; omega) (by omega) (by omega))))
    pointwise []
    blk_point

set_option maxHeartbeats 2000000 in
/-- The first point leaves its share of the mixing biases' gradient. -/
theorem startS (c : Dev nD) (t : Fin cfg0.N) (h : t.val % 34 = 0) (j : S8x128x1.Idx) :
    (outsAt0 m c t.val t.isLt).2.2.2.2 j = 0 + shareS m c t j := by
  have ht := lt t
  rw [outsAt0_A m c t h (by omega) h (by omega) h (by omega) h (by omega), zero_add]
  frame_out
  canon_tiles x e
  case piece0 =>
    idx_vars x
    exact (setS7 _ _ _ _).trans ((dS7_at _ _ _ _ _).trans (shareS_of m c t 7 x1 j (by show (j 0).val = 7; omega) (by omega)))
  case piece1 =>
    idx_vars x
    exact (setS6 _ _ _ _).trans ((dS6_at _ _ _ _ _).trans (shareS_of m c t 6 x1 j (by show (j 0).val = 6; omega) (by omega)))
  case piece2 =>
    idx_vars x
    exact (setS5 _ _ _ _).trans ((dS5_at _ _ _ _ _).trans (shareS_of m c t 5 x1 j (by show (j 0).val = 5; omega) (by omega)))
  case piece3 =>
    idx_vars x
    exact (setS4 _ _ _ _).trans ((dS4_at _ _ _ _ _).trans (shareS_of m c t 4 x1 j (by show (j 0).val = 4; omega) (by omega)))
  case piece4 =>
    idx_vars x
    exact (setS3 _ _ _ _).trans ((dS3_at _ _ _ _ _).trans (shareS_of m c t 3 x1 j (by show (j 0).val = 3; omega) (by omega)))
  case piece5 =>
    idx_vars x
    exact (setS2 _ _ _ _).trans ((dS2_at _ _ _ _ _).trans (shareS_of m c t 2 x1 j (by show (j 0).val = 2; omega) (by omega)))
  case piece6 =>
    idx_vars x
    exact (setS1 _ _ _ _).trans ((dS1_at _ _ _ _ _).trans (shareS_of m c t 1 x1 j (by show (j 0).val = 1; omega) (by omega)))
  case piece7 =>
    idx_vars x
    exact (setS0 _ _ _ _).trans ((dS0_at _ _ _ _ _).trans (shareS_of m c t 0 x1 j (by show (j 0).val = 0; omega) (by omega)))

set_option maxHeartbeats 2000000 in
/-- A later point adds its share of the mixing biases' gradient. -/
theorem stepS (c : Dev nD) (t : Fin cfg0.N) (h : ¬t.val % 34 = 0) (j : S8x128x1.Idx) :
    (outsAt0 m c t.val t.isLt).2.2.2.2 j = (outsAt0 m c (t.val - 1) (Nat.lt_of_le_of_lt (Nat.sub_le _ _) t.isLt)).2.2.2.2 j + shareS m c t j := by
  have ht := lt t
  have h1 : 1 ≤ t.val := by omega
  rw [outsAt0_B m c t h h1 h h1 h h1 h h1]
  frame_out
  canon_tiles x e
  case piece0 =>
    idx_vars x
    refine (addS7 _ _ _ _ _).trans (congrArg₂ (· + ·) ?_ ((dS7_at _ _ _ _ _).trans (shareS_of m c t 7 x1 j (by show (j 0).val = 7; omega) (by omega))))
    pointwise []
    blk_point
  case piece1 =>
    idx_vars x
    refine (addS6 _ _ _ _ _).trans (congrArg₂ (· + ·) ?_ ((dS6_at _ _ _ _ _).trans (shareS_of m c t 6 x1 j (by show (j 0).val = 6; omega) (by omega))))
    pointwise []
    blk_point
  case piece2 =>
    idx_vars x
    refine (addS5 _ _ _ _ _).trans (congrArg₂ (· + ·) ?_ ((dS5_at _ _ _ _ _).trans (shareS_of m c t 5 x1 j (by show (j 0).val = 5; omega) (by omega))))
    pointwise []
    blk_point
  case piece3 =>
    idx_vars x
    refine (addS4 _ _ _ _ _).trans (congrArg₂ (· + ·) ?_ ((dS4_at _ _ _ _ _).trans (shareS_of m c t 4 x1 j (by show (j 0).val = 4; omega) (by omega))))
    pointwise []
    blk_point
  case piece4 =>
    idx_vars x
    refine (addS3 _ _ _ _ _).trans (congrArg₂ (· + ·) ?_ ((dS3_at _ _ _ _ _).trans (shareS_of m c t 3 x1 j (by show (j 0).val = 3; omega) (by omega))))
    pointwise []
    blk_point
  case piece5 =>
    idx_vars x
    refine (addS2 _ _ _ _ _).trans (congrArg₂ (· + ·) ?_ ((dS2_at _ _ _ _ _).trans (shareS_of m c t 2 x1 j (by show (j 0).val = 2; omega) (by omega))))
    pointwise []
    blk_point
  case piece6 =>
    idx_vars x
    refine (addS1 _ _ _ _ _).trans (congrArg₂ (· + ·) ?_ ((dS1_at _ _ _ _ _).trans (shareS_of m c t 1 x1 j (by show (j 0).val = 1; omega) (by omega))))
    pointwise []
    blk_point
  case piece7 =>
    idx_vars x
    refine (addS0 _ _ _ _ _).trans (congrArg₂ (· + ·) ?_ ((dS0_at _ _ _ _ _).trans (shareS_of m c t 0 x1 j (by show (j 0).val = 0; omega) (by omega))))
    pointwise []
    blk_point

/-- The mixing weights' gradient after the run. -/
theorem final9 (c : Dev nD) : (dats m 0 c).arrAt 9 (cfgs 0).N = dwts (m ((c : Thread nD τ).loc main_arg0)) (m ((c : Thread nD τ).loc main_arg1)) (m ((c : Thread nD τ).loc main_arg2)) (m ((c : Thread nD τ).loc main_arg5)) := by
  refine (dats m 0 c).arrAt_eq_of_covers 9 _ (by decide +kernel) fun t hf y => ?_
  have h1 := (flush0_9 t).mp hf
  have ht := lt t
  blk_simp
  rw [after0_9]
  refine (Pipeline.eq_sum_fin_of_reset_step_apply_of_flush (fun n h => (outsAt0 m c n h).2.2.2.1) 34 (fun _ => 0) (shareW m c) (startW m c) (stepW m c) t h1 _).trans ((zero_add _).trans ?_)
  idx_vars y
  refine (sum34 (fun s => shareW m c s (ix3 y0 y1 y2)) (fun n => Mix.dW (vec (m ((c : Thread nD τ).loc main_arg1))) (vec (m ((c : Thread nD τ).loc main_arg2))) (ub (m ((c : Thread nD τ).loc main_arg0)) (lat n)) (vb (m ((c : Thread nD τ).loc main_arg0)) (lat n)) (yb (m ((c : Thread nD τ).loc main_arg5)) n) y0 y1 y2) t h1
    (fun s hs => dW_zero _ _ _ _ _ (yp_zero _ s hs) _ _ _) (fun s n hn => by unfold shareW; rw [yp_pos _ s n hn, pt_lat s n hn]; rfl)).trans ?_
  have hi : win0_9.index t = ![0, 0, 0] := (idx t).2.2.2.2.2.2.2.2.2.1
  have he : ((cfg0.win 9).blk t).view.emb (ix3 y0 y1 y2) = (ix3 y0 y1 y2 : S8x128x128.Idx) := by
    funext a
    match a with
    | ⟨0, _⟩ =>
      refine Fin.ext ((Pipeline.Window.rect_emb_val (cfg0.win 9) t _ 0).trans ?_)
      show win0_9.index t 0 * 8 + y0.val = y0.val
      rw [hi]
      show 0 * 8 + y0.val = y0.val
      omega
    | ⟨1, _⟩ =>
      refine Fin.ext ((Pipeline.Window.rect_emb_val (cfg0.win 9) t _ 1).trans ?_)
      show win0_9.index t 1 * 128 + y1.val = y1.val
      rw [hi]
      show 0 * 128 + y1.val = y1.val
      omega
    | ⟨2, _⟩ =>
      refine Fin.ext ((Pipeline.Window.rect_emb_val (cfg0.win 9) t _ 2).trans ?_)
      show win0_9.index t 2 * 128 + y2.val = y2.val
      rw [hi]
      show 0 * 128 + y2.val = y2.val
      omega
  exact (congrArg (dwts (m ((c : Thread nD τ).loc main_arg0)) (m ((c : Thread nD τ).loc main_arg1)) (m ((c : Thread nD τ).loc main_arg2)) (m ((c : Thread nD τ).loc main_arg5))) he).symm

/-- The mixing biases' gradient after the run. -/
theorem final10 (c : Dev nD) : (dats m 0 c).arrAt 10 (cfgs 0).N = dbia (m ((c : Thread nD τ).loc main_arg0)) (m ((c : Thread nD τ).loc main_arg5)) := by
  refine (dats m 0 c).arrAt_eq_of_covers 10 _ (by decide +kernel) fun t hf y => ?_
  have h1 := (flush0_10 t).mp hf
  have ht := lt t
  blk_simp
  rw [after0_10]
  refine (Pipeline.eq_sum_fin_of_reset_step_apply_of_flush (fun n h => (outsAt0 m c n h).2.2.2.2) 34 (fun _ => 0) (shareS m c) (startS m c) (stepS m c) t h1 _).trans ((zero_add _).trans ?_)
  idx_vars y
  refine (sum34 (fun s => shareS m c s (ix3 y0 y1 y2)) (fun n => dS (ub (m ((c : Thread nD τ).loc main_arg0)) (lat n)) (yb (m ((c : Thread nD τ).loc main_arg5)) n) y0 y1) t h1
    (fun s hs => dS_zero _ _ (yp_zero _ s hs) _ _) (fun s n hn => by unfold shareS; rw [yp_pos _ s n hn, pt_lat s n hn]; rfl)).trans ?_
  have hi : win0_10.index t = ![0, 0, 0] := (idx t).2.2.2.2.2.2.2.2.2.2.1
  have he : ((cfg0.win 10).blk t).view.emb (ix3 y0 y1 y2) = (ix3 y0 y1 y2 : S8x128x1.Idx) := by
    funext a
    match a with
    | ⟨0, _⟩ =>
      refine Fin.ext ((Pipeline.Window.rect_emb_val (cfg0.win 10) t _ 0).trans ?_)
      show win0_10.index t 0 * 8 + y0.val = y0.val
      rw [hi]
      show 0 * 8 + y0.val = y0.val
      omega
    | ⟨1, _⟩ =>
      refine Fin.ext ((Pipeline.Window.rect_emb_val (cfg0.win 10) t _ 1).trans ?_)
      show win0_10.index t 1 * 128 + y1.val = y1.val
      rw [hi]
      show 0 * 128 + y1.val = y1.val
      omega
    | ⟨2, _⟩ =>
      refine Fin.ext ((Pipeline.Window.rect_emb_val (cfg0.win 10) t _ 2).trans ?_)
      show win0_10.index t 2 * 1 + y2.val = y2.val
      rw [hi]
      show 0 * 1 + y2.val = y2.val
      omega
  exact (congrArg (dbia (m ((c : Thread nD τ).loc main_arg0)) (m ((c : Thread nD τ).loc main_arg5))) he).symm

end Cert.Kernel2Ideal.Final

end
-- ==== Proof.Mix.Proj.lean ====
/- What the kernel of the spatial gating's backward pass leaves in its gradient of the projection. -/
module

public import proofs.«01_k».proof.Proof.Mix.Slab

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Mix

variable (m : (ℓ : Loc nD τ sig) → Buf (Elt Ideal) ℓ)

/-- Both halves' gradients at row `p` of a point's block. -/
def phalf (c : Dev nD) (t : Fin cfg0.N) (p : Fin 128) (e : Fin 2048) : EReal :=
  if h : e.val < 1024 then dU (wts (m ((c : Thread nD τ).loc main_arg3))) (bia (m ((c : Thread nD τ).loc main_arg4))) (vec (m ((c : Thread nD τ).loc main_arg1))) (vec (m ((c : Thread nD τ).loc main_arg2))) (ub (m ((c : Thread nD τ).loc main_arg0)) ⟨t.val, lt t⟩) (vb (m ((c : Thread nD τ).loc main_arg0)) ⟨t.val, lt t⟩) (yp (m ((c : Thread nD τ).loc main_arg5)) t) p ⟨e.val, h⟩
  else dV (wts (m ((c : Thread nD τ).loc main_arg3))) (vec (m ((c : Thread nD τ).loc main_arg1))) (ub (m ((c : Thread nD τ).loc main_arg0)) ⟨t.val, lt t⟩) (vb (m ((c : Thread nD τ).loc main_arg0)) ⟨t.val, lt t⟩) (yp (m ((c : Thread nD τ).loc main_arg5)) t) p ⟨e.val - 1024, by omega⟩

/-- A point's block of both halves' gradients, from its slabs of the weights and biases. -/
theorem phalf_of (c : Dev nD) (t : Fin cfg0.N) (p : Fin 128) (e : Fin 2048) (W : Fin 8 → Fin 128 → Fin 128 → EReal) (B : Fin 8 → Fin 128 → EReal)
    (hW : W = wts (m ((c : Thread nD τ).loc main_arg3))) (hb : B = bia (m ((c : Thread nD τ).loc main_arg4))) (h1 h2) :
    (if h : e.val < 1024 then dU W B (rowv (shapeCast S1x1024 (iblk m c 1 t) h1)) (rowv (shapeCast S1x1024 (iblk m c 2 t) h2)) (uu (X0_0 m c t)) (vv (X0_0 m c t)) (dd (BitVec.ofNat 32 (grid0.coords t 0).val) (iblk m c 5 t)) p ⟨e.val, h⟩
      else dV W (rowv (shapeCast S1x1024 (iblk m c 1 t) h1)) (uu (X0_0 m c t)) (vv (X0_0 m c t)) (dd (BitVec.ofNat 32 (grid0.coords t 0).val) (iblk m c 5 t)) p ⟨e.val - 1024, by omega⟩)
      = phalf m c t p e := by
  rw [hG, hB, hU, hV, hD, hW, hb]
  rfl

/-- At a context's point nothing. -/
theorem phalf_zero (c : Dev nD) (t : Fin cfg0.N) (h : t.val < 2) (p : Fin 128) (e : Fin 2048) : phalf m c t p e = 0 := by
  unfold phalf
  by_cases h' : e.val < 1024
  · rw [dif_pos h']
    exact dU_zero _ _ _ _ _ _ _ (yp_zero _ t h) _ _
  · rw [dif_neg h']
    exact dV_zero _ _ _ _ _ (yp_zero _ t h) _ _

/-- At a latent point its chunk's. -/
theorem phalf_pos (c : Dev nD) (t : Fin cfg0.N) (n : Fin 32) (h : t.val = n.val + 2) (p : Fin 128) (e : Fin 2048) :
    phalf m c t p e = dhalf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n p e := by
  unfold phalf
  rw [yp_pos _ t n h, pt_lat t n h]
  rfl

set_option maxHeartbeats 600000 in
/-- What every point leaves in its block. -/
theorem out6 (c : Dev nD) (t : Fin cfg0.N) (p : Fin 128) (e : Fin 2048) : (outsAt0 m c t.val t.isLt).1 (ix2 p e) = phalf m c t p e := by
  have ht := lt t
  by_cases h : t.val % 34 = 0
  · rw [outsAt0_A m c t h (by omega) h (by omega) h (by omega) h (by omega)]
    frame_out
    refine (store_at _ _ _).trans ?_
    refine (duv_at _ _ _ _ _ _ _ _ _ _ _ _ _ _ _ _ _ _ _ _ _ _ _).trans ?_
    refine phalf_of m c t p e _ _ ?_ ?_ _ _
    · refine W8_eq _ _ _ _ _ _ _ _ (wts (m ((c : Thread nD τ).loc main_arg3))) ?_ ?_ ?_ ?_ ?_ ?_ ?_ ?_
      all_goals (intro p q; unfold wts; pointwise []; blk_point [iblk, V, idx t])
    · refine B8_eq _ _ _ _ _ _ _ _ (bia (m ((c : Thread nD τ).loc main_arg4))) ?_ ?_ ?_ ?_ ?_ ?_ ?_ ?_
      all_goals (intro p; unfold bia; open_payloads; pointwise []; blk_point [iblk, V, idx t])
  · have h1 : 1 ≤ t.val := by omega
    rw [outsAt0_B m c t h h1 h h1 h h1 h h1]
    frame_out
    refine (store_at _ _ _).trans ?_
    refine (duv_at _ _ _ _ _ _ _ _ _ _ _ _ _ _ _ _ _ _ _ _ _ _ _).trans ?_
    refine phalf_of m c t p e _ _ ?_ ?_ _ _
    · refine W8_eq _ _ _ _ _ _ _ _ (wts (m ((c : Thread nD τ).loc main_arg3))) ?_ ?_ ?_ ?_ ?_ ?_ ?_ ?_
      all_goals (intro p q; unfold wts; pointwise []; blk_point [iblk, V, idx t])
    · refine B8_eq _ _ _ _ _ _ _ _ (bia (m ((c : Thread nD τ).loc main_arg4))) ?_ ?_ ?_ ?_ ?_ ?_ ?_ ?_
      all_goals (intro p; unfold bia; open_payloads; pointwise []; blk_point [iblk, V, idx t])

section Spec

variable (P : FVec Ideal S4352x7168 .f32) (g b : FVec Ideal S1024 .f32) (W : FVec Ideal S8x128x128 .f32) (B : FVec Ideal S8x128 .f32)
  (Y : FVec Ideal S4096x1024 .f32) (D : FVec Ideal S4352x7168 .bf16)

/-- The projection's gradient at a context's row, in the gating's columns. -/
theorem dproj_lo (i : S4352x7168.Idx) (h0 : (i 0).val < 256) (h1 : 2048 ≤ (i 1).val ∧ (i 1).val < 4096) : dproj P g b W B Y D i = 0 := by
  unfold dproj
  rw [dif_pos h1, dif_pos h0]

/-- The projection's gradient at a latent row, in the gating's columns. -/
theorem dproj_hi (i : S4352x7168.Idx) (n : Fin 32) (p : Fin 128) (e : Fin 2048) (h0 : (i 0).val = 256 + 128 * n.val + p.val) (h1 : (i 1).val = 2048 + e.val) :
    dproj P g b W B Y D i = dhalf P g b W B Y n p e := by
  unfold dproj
  rw [dif_pos (by omega), dif_neg (by omega)]
  have hn : ∀ h, (⟨((i 0).val - 256) / 128, h⟩ : Fin 32) = n := fun h => Fin.ext (by show ((i 0).val - 256) / 128 = n.val; omega)
  have hp : ∀ h, (⟨((i 0).val - 256) % 128, h⟩ : Fin 128) = p := fun h => Fin.ext (by show ((i 0).val - 256) % 128 = p.val; omega)
  have he : ∀ h, (⟨(i 1).val - 2048, h⟩ : Fin 2048) = e := fun h => Fin.ext (by show (i 1).val - 2048 = e.val; omega)
  rw [hn, hp, he]

end Spec

/-- The projection's gradient before the run is the array given. -/
theorem entry6 (c : Dev nD) (i : S4352x7168.Idx) : (dats m 0 c).A 6 i = m ((c : Thread nD τ).loc main_arg6) i := by
  rw [A_eq]
  show V m c main_v3_0 i = _
  entry_read
  rfl

/-- A block index is its two coordinates. -/
theorem block6 (z : S128x2048.Idx) (p : Fin 128) (e : Fin 2048) (h0 : (z 0).val = p.val) (h1 : (z 1).val = e.val) : z = ix2 p e := by
  funext a
  match a with
  | ⟨0, _⟩ => exact Fin.ext h0
  | ⟨1, _⟩ => exact Fin.ext h1

/-- Where an element of a point's block of the projection's gradient sits. -/
theorem emb6 (t : Fin cfg0.N) (y : ((cfg0.win 6).xblock (cfg0.grid.coords t)).Idx) :
    ((((cfg0.win 6).blk t).view.emb y) 0).val = 128 * t.val + (y 0).val ∧ ((((cfg0.win 6).blk t).view.emb y) 1).val = 2048 + (y 1).val := by
  have hi : win0_6.index t = ![t.val, 1] := (idx t).2.2.2.2.2.2.1
  constructor
  · refine (Pipeline.Window.rect_emb_val (cfg0.win 6) t y 0).trans ?_
    show win0_6.index t 0 * 128 + (y 0).val = _
    rw [hi]
    show t.val * 128 + (y 0).val = _
    omega
  · refine (Pipeline.Window.rect_emb_val (cfg0.win 6) t y 1).trans ?_
    show win0_6.index t 1 * 2048 + (y 1).val = _
    rw [hi]
    show 1 * 2048 + (y 1).val = _
    omega

/-- The gradient of the projection after the run. -/
theorem final6 (c : Dev nD) : (dats m 0 c).arrAt 6 (cfgs 0).N = dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((dats m 0 c).arrAt_eq_of_coversWhere 6 (P := fun i => 2048 ≤ (i 1).val ∧ (i 1).val < 4096) (dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun β => β 1 = 1) (by decide +kernel) (fun t hf y => ?_)
    (fun j => by blk_simp [Pipeline.Window.cell_apply]; omega)).trans ?_
  · have ht := lt t
    have hy0 : (y 0).val < 128 := ((cfg0.win 6).xinj (cfg0.grid.coords t) y 0).isLt
    have hy1 : (y 1).val < 2048 := ((cfg0.win 6).xinj (cfg0.grid.coords t) y 1).isLt
    have hz : (cfg0.win 6).xinj (cfg0.grid.coords t) y = (ix2 (⟨(y 0).val, hy0⟩ : Fin 128) (⟨(y 1).val, hy1⟩ : Fin 2048) : S128x2048.Idx) :=
      block6 _ _ _ rfl rfl
    obtain ⟨e0, e1⟩ := emb6 t y
    by_cases h1 : 2 ≤ t.val
    · refine Eq.trans ?_ (dproj_hi _ _ _ _ _ _ _ _ ⟨t.val - 2, by omega⟩ ⟨_, hy0⟩ ⟨_, hy1⟩ (by rw [e0]; show _ = 256 + 128 * (t.val - 2) + (y 0).val; omega) e1).symm
      blk_simp
      rw [hz, after0_6, out6]
      exact phalf_pos m c t ⟨t.val - 2, by omega⟩ (by show t.val = t.val - 2 + 2; omega) _ _
    · refine Eq.trans ?_ (dproj_lo _ _ _ _ _ _ _ _ (by rw [e0]; omega) (by rw [e1]; omega)).symm
      blk_simp
      rw [hz, after0_6, out6]
      exact phalf_zero m c t (by omega) _ _
  · funext i
    by_cases h : 2048 ≤ (i 1).val ∧ (i 1).val < 4096
    · exact if_pos h
    · refine (if_neg h).trans ((entry6 m c i).trans ?_)
      unfold dproj
      rw [dif_neg h]

end Cert.Kernel2Ideal.Final

end
-- ==== Proof.Mix.Ref.lean ====
/- The reference of the spatial gating's backward pass, row by row: the layer norm and what it needs. -/
module

public import proofs.«01_k».proof.Proof.Mix.Array
public import proofs.«01_k».proof.Proof.Gen.Reference2Ideal.Read

@[expose] public section

set_option maxRecDepth 16384

noncomputable section

open Idealize.ShloMosaic Idealize.ShloMosaic.TcCoe Idealize.SL.Sem

namespace Cert.Reference2Ideal.Final

open Cert.Reference2Ideal Cert.Reference2Ideal.Gen Cert.Reference2Ideal.Read Cert.Mix
open Cert.Kernel2Ideal.Final (ub vb yb lat vec wts bia)

variable (x0 : FVec Ideal S4352x7168 .f32) (x1 x2 : FVec Ideal S1024 .f32) (x3 : FVec Ideal S8x128x128 .f32) (x4 : FVec Ideal S8x128 .f32)
  (x5 : FVec Ideal S4096x1024 .f32) (x6 : FVec Ideal S4352x7168 .bf16)

/-- Row `p` of chunk `n`. -/
def row (n : Fin 32) (p : Fin 128) : Fin 4096 := ⟨128 * n.val + p.val, by omega⟩

variable (n : Fin 32) (p : Fin 128) (d : Fin 1024)

/-- The first half. -/
theorem u_at : val_main_v0 (F := Ideal) x0 (ix2 (row n p) d) = ub x0 (lat n) p d := by
  pointwise [val_main_v0]
  unfold ub lat row
  blk_point

/-- The second half. -/
theorem v_at : val_main_v1 (F := Ideal) x0 (ix2 (row n p) d) = vb x0 (lat n) p d := by
  pointwise [val_main_v1]
  unfold vb lat row
  blk_point

/-- The hyperbolic tangent of the first half. -/
theorem tu_at : val_main_v12 (F := Ideal) x0 (ix2 (row n p) d) = th (ub x0 (lat n) p d) := by
  pointwise [val_main_v12, val_main_v11, val_main_v10, val_main_cst_1, val_main_v9, val_main_v8, val_main_v7, val_main_cst_0, val_main_v3, val_main_v2]
  simp only [u_at]
  rfl

/-- The hyperbolic tangent of the second half. -/
theorem tv_at : val_main_v33 (F := Ideal) x0 (ix2 (row n p) d) = th (vb x0 (lat n) p d) := by
  pointwise [val_main_v33, val_main_v32, val_main_v31, val_main_cst_8, val_main_v30, val_main_v29, val_main_v28, val_main_cst_7, val_main_v24, val_main_v23]
  simp only [v_at]
  rfl

/-- The first half's activation. -/
theorem gu_at : val_main_v22 (F := Ideal) x0 (ix2 (row n p) d) = gel (ub x0 (lat n) p d) := by
  pointwise [val_main_v22, val_main_v21, val_main_v20, val_main_cst_5, val_main_v19, val_main_v18, val_main_cst_4]
  rw [u_at, tu_at, mul_left_comm, ← mul_assoc]
  rfl

/-- The second half's activation. -/
theorem gv_at : val_main_v43 (F := Ideal) x0 (ix2 (row n p) d) = gel (vb x0 (lat n) p d) := by
  pointwise [val_main_v43, val_main_v42, val_main_v41, val_main_cst_12, val_main_v40, val_main_v39, val_main_cst_11]
  rw [v_at, tv_at, mul_left_comm, ← mul_assoc]
  rfl

/-- A row's mean. -/
theorem mean_at : val_main_v47 (F := Ideal) x0 (ix2 (row n p) 0) = mean (vb x0 (lat n) p) := by
  pointwise [val_main_v47, val_main_v46, val_main_cst_14, val_main_v45, val_main_v44, val_main_cst_13]
  simp only [gv_at]
  rfl

/-- A row less its mean. -/
theorem xc_at : val_main_v49 (F := Ideal) x0 (ix2 (row n p) d) = xc (vb x0 (lat n) p) d := by
  pointwise [val_main_v49, val_main_v48]
  rw [gv_at, mean_at]
  rfl

/-- A row less its mean, once more. -/
theorem xc'_at : val_main_v58 (F := Ideal) x0 (ix2 (row n p) d) = xc (vb x0 (lat n) p) d := by
  pointwise [val_main_v58, val_main_v57]
  rw [gv_at, mean_at]
  rfl

/-- A row's variance with the small constant. -/
theorem vare_at : val_main_v60 (F := Ideal) x0 (ix2 (row n p) 0) = vare (vb x0 (lat n) p) := by
  pointwise [val_main_v60, val_main_v59, val_main_cst_18, val_main_v56, val_main_v55, val_main_cst_17, val_main_v54, val_main_v53, val_main_cst_16, val_main_v50]
  simp only [xc_at]
  rfl

/-- The reciprocal root. -/
theorem rs_at : val_main_v61 (F := Ideal) x0 (ix2 (row n p) 0) = rs (vb x0 (lat n) p) := by
  pointwise [val_main_v61]
  rw [vare_at]
  rfl

/-- The reciprocal root's slope. -/
theorem rslope_at : val_main_v64 (F := Ideal) x0 (ix2 (row n p) 0) = rslope (vb x0 (lat n) p) := by
  pointwise [val_main_v64, val_main_v63, val_main_cst_19, val_main_v62]
  rw [vare_at, rs_at]
  rfl

/-- A row normalised. -/
theorem xh_at : val_main_v66 (F := Ideal) x0 (ix2 (row n p) d) = xh (vb x0 (lat n) p) d := by
  pointwise [val_main_v66, val_main_v65]
  rw [xc'_at, rs_at]
  rfl

/-- A row after the layer norm. -/
theorem vn_at : val_main_v72 (F := Ideal) x0 x1 x2 (ix2 (row n p) d) = vn (vec x1) (vec x2) (vb x0 (lat n) p) d := by
  pointwise [val_main_v72, val_main_v71, val_main_v70, val_main_v69, val_main_v68, val_main_v67]
  rw [xh_at]
  rfl

/-- The gradient of a mixed row. -/
theorem dm_at : val_main_v83 (F := Ideal) x0 x5 (ix2 (row n p) d) = dm (ub x0 (lat n)) (yb x5 n) p d := by
  pointwise [val_main_v83]
  rw [gu_at]
  rfl

end Cert.Reference2Ideal.Final

end
-- ==== Proof.Mix.Real.lean ====
/- What of the gating's gradient is finite, and the two ways of writing it that agree where it is. -/
module

public import proofs.«01_k».proof.Proof.Mix.Zero

@[expose] public section

noncomputable section

open Idealize.ShloMosaic

namespace Cert.Mix

open Cert.Finite

/-- Twice a value is the value added to itself. -/
theorem twice (y : EReal) : Ideal.ofBits .f32 0x40000000#32 * y = y + y := by
  have h : Ideal.ofBits .f32 0x40000000#32 = (1 : EReal) + 1 := by
    have : Ideal.ofBits .f32 0x40000000#32 = ((2 : ℝ) : EReal) := by
      simp [Ideal.ofBits, Ideal.ieee, -EReal.coe_mul]; norm_num
    rw [this, show (2 : ℝ) = 1 + 1 by norm_num, EReal.coe_add, EReal.coe_one]
  rw [h, EReal.right_distrib_of_nonneg zero_le_one zero_le_one, one_mul]

/-- Three times a value is the value added to itself twice. -/
theorem thrice (y : EReal) : Ideal.ofBits .f32 0x40400000#32 * y = y + y + y := by
  have h : Ideal.ofBits .f32 0x40400000#32 = (1 : EReal) + 1 + 1 := by
    have : Ideal.ofBits .f32 0x40400000#32 = ((3 : ℝ) : EReal) := by
      simp [Ideal.ofBits, Ideal.ieee, -EReal.coe_mul]; norm_num
    rw [this, show (3 : ℝ) = 1 + 1 + 1 by norm_num, EReal.coe_add, EReal.coe_add, EReal.coe_one]
  rw [h, EReal.right_distrib_of_nonneg (add_nonneg zero_le_one zero_le_one) zero_le_one, EReal.right_distrib_of_nonneg zero_le_one zero_le_one, one_mul]

/-- GELU's gradient as the derivative of `x · (½ (1 + tanh …))` is usually written. -/
theorem bw_eq (x s : EReal) :
    s * (cH * (1 + th x)) + cA * (cH * (x * s) * ((1 + th x) * (1 - th x)))
      + cB * (cA * (cH * (x * s) * ((1 + th x) * (1 - th x)))) * (Ideal.ofBits .f32 0x40400000#32 * (x * x)) = bw x s := by
  have hw : cA * (cH * (x * s) * ((1 + th x) * (1 - th x))) = bwA x s := by unfold bwA; rw [mul_assoc cH x s]
  rw [hw]
  unfold bw
  generalize bwA x s = w
  have h1 : cB * w * (Ideal.ofBits .f32 0x40400000#32 * (x * x)) = cB * w * (x * x) + cB * w * (x * x) + cB * w * (x * x) := by
    rw [mul_left_comm, thrice]
  have h2 : x * x * (cB * w) = cB * w * (x * x) := mul_comm _ _
  have h3 : x * (cB * w * x) = cB * w * (x * x) := by rw [mul_left_comm]
  have h4 : cB * w * x * x = cB * w * (x * x) := mul_assoc _ _ _
  have h5 : s * (cH * (1 + th x)) = cH * (s * (1 + th x)) := mul_left_comm _ _ _
  rw [h1, h2, h3, h4, h5]
  abel

/-- A finite constant. -/
theorem cH_fin : IsFin cH := ⟨1 / 2, by simp [cH, Ideal.ofBits, Ideal.ieee, -EReal.coe_mul]; norm_num⟩
/-- A finite constant. -/
theorem cA_fin : IsFin cA := ⟨13386282 / 2 ^ 24, by simp [cA, Ideal.ofBits, Ideal.ieee, -EReal.coe_mul]; norm_num⟩
/-- A finite constant. -/
theorem cB_fin : IsFin cB := ⟨12003091 / 2 ^ 28, by simp [cB, Ideal.ofBits, Ideal.ieee, -EReal.coe_mul]; norm_num⟩
/-- The layer norm's small constant. -/
theorem cE_real : cE = ((10995116 / 2 ^ 40 : ℝ) : EReal) := by simp [cE, Ideal.ofBits, Ideal.ieee, -EReal.coe_mul]; norm_num

/-- GELU of a finite value is finite. -/
theorem gel_fin {x : EReal} (h : IsFin x) : IsFin (gel x) := by
  have h1 : IsFin (cA * (x + cB * (x * x * x))) := cA_fin.mul (h.add (cB_fin.mul ((h.mul h).mul h)))
  have h2 : IsFin (th x) := by
    unfold th
    obtain ⟨r, hr⟩ := h1
    rw [hr]
    exact ⟨_, Ideal.tanh_coe r⟩
  exact (cH_fin.mul h).mul (Finite.one.add h2)

/-- A square is not negative. -/
theorem sq_nonneg' (x : EReal) : 0 ≤ x * x := by
  induction x with
  | bot => simp
  | top => simp
  | coe r => exact_mod_cast mul_self_nonneg r

/-- A row's reciprocal root is finite, whatever the row: its variance is positive. -/
theorem rs_fin (r : Fin 1024 → EReal) : IsFin (rs r) := by
  have h0 : (0 : EReal) ≤ ∑ k : Fin 1024, xc r k * xc r k := Finset.sum_nonneg fun k _ => sq_nonneg' _
  have h1 : (0 : EReal) ≤ Ideal.div (∑ k : Fin 1024, xc r k * xc r k) cN := by
    rw [cN_real, Ideal.div_coe (by norm_num)]
    exact mul_nonneg h0 (by exact_mod_cast (by norm_num : (0 : ℝ) ≤ 1 / 1024))
  have h2 : cE ≤ vare r := le_add_of_nonneg_left h1
  rw [cE_real] at h2
  unfold rs
  generalize vare r = v at h2
  induction v with
  | bot => simp at h2
  | top => exact ⟨0, by rw [Ideal.rsqrt_top]; rfl⟩
  | coe a =>
    have ha : 0 < a := lt_of_lt_of_le (by norm_num) (EReal.coe_le_coe_iff.mp h2)
    exact ⟨_, by rw [Ideal.rsqrt_coe, if_neg (not_lt.mpr ha.le), if_neg ha.ne']⟩

/-- The gradient of the normalised rows is finite where the mixing's operands are. -/
theorem dvn_fin (W : Fin 8 → Fin 128 → Fin 128 → EReal) (U D : Fin 128 → Fin 1024 → EReal) (hW : ∀ k p q, IsFin (W k p q))
    (hU : ∀ p d, IsFin (U p d)) (hD : ∀ p d, IsFin (D p d)) (p : Fin 128) (d : Fin 1024) : IsFin (dvn W U D p d) := by
  unfold dvn dm
  exact IsFin.sum_univ fun q => (hW _ _ _).mul ((gel_fin (hU _ _)).mul (hD _ _))

/-- The two summands of a centred row's gradient are one. -/
theorem dxc_eq (r h : Fin 1024 → EReal) (k : Fin 1024) :
    h k * rs r + dvar r h * (Ideal.ofBits .f32 0x40000000#32 * xc r k) = dxc r h k := by
  unfold dxc
  rw [mul_left_comm, twice, mul_comm (xc r k), add_assoc]

/-- A row's gradient with the mean's two shares summed apart, where the first is finite. -/
theorem drow_eq (r h : Fin 1024 → EReal) (hh : ∀ k, IsFin (h k)) (d : Fin 1024) :
    h d * rs r + dvar r h * (Ideal.ofBits .f32 0x40000000#32 * xc r d)
      + Ideal.div ((∑ k : Fin 1024, -(h k * rs r)) + ∑ k : Fin 1024, -(dvar r h * (Ideal.ofBits .f32 0x40000000#32 * xc r k))) cN = drow r h d := by
  unfold drow
  rw [dxc_eq]
  refine congrArg (fun s => dxc r h d + Ideal.div s cN) ?_
  rw [← Finset.sum_add_distrib]
  refine Finset.sum_congr rfl fun k _ => ?_
  rw [← dxc_eq, zero_sub]
  obtain ⟨a, ha⟩ := (hh k).mul (rs_fin r)
  rw [ha, EReal.neg_add (Or.inl (EReal.coe_ne_bot a)) (Or.inl (EReal.coe_ne_top a)), sub_eq_add_neg]

end Cert.Mix

end
-- ==== Proof.Mix.RefMix.lean ====
/- The reference of the spatial gating's backward pass: the mixing and its gradients. -/
module

public import proofs.«01_k».proof.Proof.Mix.Ref
public import proofs.«01_k».proof.Proof.Mix.Real

@[expose] public section

set_option maxRecDepth 16384

noncomputable section

open Idealize.ShloMosaic Idealize.ShloMosaic.TcCoe Idealize.SL.Sem

namespace Cert.Reference2Ideal.Final

open Cert.Reference2Ideal Cert.Reference2Ideal.Gen Cert.Reference2Ideal.Read Cert.Mix
open Cert.Kernel2Ideal.Final (ub vb yb lat vec wts bia)

variable (x0 : FVec Ideal S4352x7168 .f32) (x1 x2 : FVec Ideal S1024 .f32) (x3 : FVec Ideal S8x128x128 .f32) (x4 : FVec Ideal S8x128 .f32)
  (x5 : FVec Ideal S4096x1024 .f32) (x6 : FVec Ideal S4352x7168 .bf16)

variable (n : Fin 32) (p : Fin 128) (d : Fin 1024)

/-- A row's number is its chunk's block and its place there. -/
theorem row_eq (q : Fin 128) (h) : (⟨(row n p).val / 128 * 128 + q.val, h⟩ : Fin 4096) = row n q :=
  Fin.ext (by unfold row; show (128 * n.val + p.val) / 128 * 128 + q.val = 128 * n.val + q.val; omega)

/-- A row's place in its chunk. -/
theorem place_eq (h) : (⟨(row n p).val % 128, h⟩ : Fin 128) = p :=
  Fin.ext (by unfold row; show (128 * n.val + p.val) % 128 = p.val; omega)

/-- A chunk's row. -/
theorem row_eq' (h) : (⟨n.val * 128 + p.val, h⟩ : Fin 4096) = row n p :=
  Fin.ext (by unfold row; show n.val * 128 + p.val = 128 * n.val + p.val; omega)

/-- A group's column. -/
theorem col_eq (k : Fin 8) (c : Fin 128) (h) : (⟨k.val * 128 + c.val, h⟩ : Fin 1024) = col k c :=
  Fin.ext (by unfold col; show k.val * 128 + c.val = 128 * k.val + c.val; omega)

/-- A sum over all the rows is one over the chunks' rows. -/
theorem sum_rows (f : Fin 4096 → EReal) : ∑ r : Fin 4096, f r = ∑ n : Fin 32, ∑ p : Fin 128, f (row n p) :=
  (Fin.sum_mul_add_congr (F := fun (n : Fin 32) (p : Fin 128) => f (row n p)) (fun s k hl => congrArg f (row_eq' s k hl).symm)).symm

/-- A sum over the first and the last of four axes. -/
theorem sum_outer (N C : ℕ) (h : (⟨4, ![N, 128, 8, C]⟩ : Shape).ReducesTo [0, 3] S128x8) (x : (⟨4, ![N, 128, 8, C]⟩ : Shape).Idx → EReal)
    (z : EReal) (a : Fin 128) (b : Fin 8) :
    Ideal.hostReduceAdd h x z (ix2 a b) = z + ∑ n : Fin N, ∑ c : Fin C, x (ix4 n a b c) := by
  unfold Ideal.hostReduceAdd
  refine congrArg (z + ·) ?_
  rw [← Fintype.sum_prod_type' (f := fun (n : Fin N) (c : Fin C) => x (ix4 n a b c))]
  refine Finset.sum_nbij' (fun i => ((i 0 : Fin N), (i 3 : Fin C))) (fun nc => ix4 nc.1 a b nc.2) ?_ ?_ ?_ ?_ ?_
  · exact fun i _ => Finset.mem_univ _
  · intro nc _
    refine Finset.mem_filter.mpr ⟨Finset.mem_univ _, ?_⟩
    funext k
    match k with
    | ⟨0, _⟩ => exact Fin.ext (Shape.ReducesTo.drop_apply_val h (ix4 nc.1 a b nc.2) 0)
    | ⟨1, _⟩ => exact Fin.ext (Shape.ReducesTo.drop_apply_val h (ix4 nc.1 a b nc.2) 1)
  · intro i hi
    have hd := (Finset.mem_filter.mp hi).2
    have h0 : (h.drop i 0).val = (i 1).val := Shape.ReducesTo.drop_apply_val h i 0
    have h1 : (h.drop i 1).val = (i 2).val := Shape.ReducesTo.drop_apply_val h i 1
    rw [hd] at h0 h1
    funext k
    match k with
    | ⟨0, _⟩ => rfl
    | ⟨1, _⟩ => exact Fin.ext h0
    | ⟨2, _⟩ => exact Fin.ext h1
    | ⟨3, _⟩ => rfl
  · exact fun _ _ => rfl
  · intro i hi
    have hd := (Finset.mem_filter.mp hi).2
    have h0 : (h.drop i 0).val = (i 1).val := Shape.ReducesTo.drop_apply_val h i 0
    have h1 : (h.drop i 1).val = (i 2).val := Shape.ReducesTo.drop_apply_val h i 1
    rw [hd] at h0 h1
    refine congrArg x ?_
    funext k
    match k with
    | ⟨0, _⟩ => rfl
    | ⟨1, _⟩ => exact (Fin.ext h0).symm
    | ⟨2, _⟩ => exact (Fin.ext h1).symm
    | ⟨3, _⟩ => rfl

/-- A mixed row. -/
theorem mixed_at : val_main_v81 (F := Ideal) x0 x1 x2 x3 x4 (ix2 (row n p) d) = mixed (wts x3) (bia x4) (vec x1) (vec x2) (vb x0 (lat n)) p d := by
  pointwise [val_main_v81, val_main_v80, val_main_v79, val_main_v78, val_main_v77, val_main_v76, val_main_v75, val_main_v74, val_main_v73]
  simp only [row_eq, place_eq, vn_at]
  unfold mixed
  exact congrArg₂ (· + ·) (Finset.sum_congr rfl fun q _ => mul_comm _ _) rfl

/-- The gradient of a normalised row. -/
theorem dvn_at : val_main_v96 (F := Ideal) x0 x3 x5 (ix2 (row n p) d) = dvn (wts x3) (ub x0 (lat n)) (yb x5 n) p d := by
  pointwise [val_main_v96, val_main_v95, val_main_v94, val_main_v92, val_main_v85]
  simp only [row_eq, place_eq, dm_at]
  unfold dvn
  exact Finset.sum_congr rfl fun q _ => mul_comm _ _

/-- The gradient of the mixing weights. -/
theorem eq9 : val_main_v93 (F := Ideal) x0 x1 x2 x5 = Cert.Kernel2Ideal.Final.dwts x0 x1 x2 x5 := by
  funext i
  idx_vars i
  pointwise [val_main_v93, val_main_v92, val_main_v85, val_main_v73]
  simp only [row_eq', col_eq, dm_at, vn_at]
  rfl

/-- The gradient of the mixing biases. -/
theorem eq10 : val_main_v163 (F := Ideal) x0 x5 = Cert.Kernel2Ideal.Final.dbia x0 x5 := by
  funext i
  idx_vars i
  pointwise [val_main_v163, val_main_v91, val_main_v90, val_main_v89, val_main_v88, val_main_v87, val_main_v86, val_main_v85, val_main_cst_20, val_main_cst_21, val_main_cst_22]
  simp only [sum_outer]
  pointwise []
  simp only [sum_outer]
  pointwise []
  simp only [Fin.sum_univ_one, zero_add, row_eq', col_eq, dm_at]
  rfl

/-- The gradient of the shift. -/
theorem eq8 : val_main_v162 (F := Ideal) x0 x3 x5 = Cert.Kernel2Ideal.Final.dshift x0 x3 x5 := by
  funext i
  idx_vars i
  pointwise [val_main_v162, val_main_v99, val_main_v98, val_main_v97, val_main_cst_23, val_main_cst_24]
  simp only [sum_rows, dvn_at, Fin.sum_univ_one]
  rfl

/-- The gradient of the scale. -/
theorem eq7 : val_main_v161 (F := Ideal) x0 x3 x5 = Cert.Kernel2Ideal.Final.dscale x0 x3 x5 := by
  funext i
  idx_vars i
  pointwise [val_main_v161, val_main_v105, val_main_v102, val_main_v101, val_main_v100, val_main_cst_25, val_main_cst_26]
  simp only [sum_rows, dvn_at, xh_at, Fin.sum_univ_one]
  rfl

/-- The slope of a row's variance. -/
theorem dvar_at : val_main_v118 (F := Ideal) x0 x1 x3 x5 (ix2 (row n p) d) = dvar (vb x0 (lat n) p) (fun k => dvn (wts x3) (ub x0 (lat n)) (yb x5 n) p k * vec x1 k) := by
  pointwise [val_main_v118, val_main_v117, val_main_v116, val_main_v115, val_main_v111, val_main_v108, val_main_v107, val_main_v106, val_main_v104, val_main_v103, val_main_v67, val_main_cst_27, val_main_cst_29, val_main_cst_30]
  simp only [xc'_at, dvn_at, Fin.sum_univ_one]
  simp only [rslope_at]
  rfl

/-- The gradient of the first half. -/
theorem du_at : val_main_v153 (F := Ideal) x0 x1 x2 x3 x4 x5 (ix2 (row n p) d) = dU (wts x3) (bia x4) (vec x1) (vec x2) (ub x0 (lat n)) (vb x0 (lat n)) (yb x5 n) p d := by
  pointwise [val_main_v153, val_main_v152, val_main_v151, val_main_v150, val_main_cst_39, val_main_v149, val_main_v148, val_main_v147, val_main_cst_38, val_main_v146, val_main_v145, val_main_v144, val_main_cst_37, val_main_v143, val_main_v142, val_main_v84, val_main_v21, val_main_v20, val_main_cst_5, val_main_v19, val_main_v18, val_main_cst_4, val_main_v17, val_main_v16, val_main_v15, val_main_cst_3, val_main_v14, val_main_v13, val_main_cst_2, val_main_v6, val_main_v5, val_main_cst, val_main_v4]
  simp only [u_at, tu_at, mixed_at]
  exact bw_eq _ _

end Cert.Reference2Ideal.Final

end
-- ==== Proof.Mix.RefProj.lean ====
/- The reference's gradients of both halves, and of the projection. -/
module

public import proofs.«01_k».proof.Proof.Mix.RefMix

@[expose] public section

set_option maxRecDepth 16384

noncomputable section

open Idealize.ShloMosaic Idealize.ShloMosaic.TcCoe Idealize.SL.Sem

namespace Cert.Reference2Ideal.Final

open Cert.Reference2Ideal Cert.Reference2Ideal.Gen Cert.Reference2Ideal.Read Cert.Mix
open Cert.Kernel2Ideal.Final (ub vb yb lat vec wts bia)

variable (x0 : FVec Ideal S4352x7168 .f32) (x1 x2 : FVec Ideal S1024 .f32) (x3 : FVec Ideal S8x128x128 .f32) (x4 : FVec Ideal S8x128 .f32)
  (x5 : FVec Ideal S4096x1024 .f32) (x6 : FVec Ideal S4352x7168 .bf16)

variable (n : Fin 32) (p : Fin 128) (d : Fin 1024)

/-- The gradient of a normalised row's entries before the scale. -/
theorem dln_at : val_main_v104 (F := Ideal) x0 x1 x3 x5 (ix2 (row n p) d) = dvn (wts x3) (ub x0 (lat n)) (yb x5 n) p d * vec x1 d := by
  pointwise [val_main_v104, val_main_v103, val_main_v67]
  rw [dvn_at]
  rfl

/-- The first summand of a centred row's gradient. -/
theorem da_at : val_main_v110 (F := Ideal) x0 x1 x3 x5 (ix2 (row n p) d) = dvn (wts x3) (ub x0 (lat n)) (yb x5 n) p d * vec x1 d * rs (vb x0 (lat n) p) := by
  pointwise [val_main_v110, val_main_v109]
  rw [dln_at, rs_at]

/-- The second summand of a centred row's gradient. -/
theorem db_at : val_main_v119 (F := Ideal) x0 x1 x3 x5 (ix2 (row n p) d)
    = dvar (vb x0 (lat n) p) (fun k => dvn (wts x3) (ub x0 (lat n)) (yb x5 n) p k * vec x1 k) * (Ideal.ofBits .f32 0x40000000#32 * xc (vb x0 (lat n) p) d) := by
  pointwise [val_main_v119, val_main_v52, val_main_v51, val_main_cst_15]
  rw [dvar_at, xc_at]

/-- The gradient of a row after its activation, where the normalised row's gradient is finite. -/
theorem drow_at (hh : ∀ k, Finite.IsFin (dvn (wts x3) (ub x0 (lat n)) (yb x5 n) p k * vec x1 k)) : val_main_v129 (F := Ideal) x0 x1 x3 x5 (ix2 (row n p) d)
    = drow (vb x0 (lat n) p) (fun k => dvn (wts x3) (ub x0 (lat n)) (yb x5 n) p k * vec x1 k) d := by
  refine Eq.trans ?_ (drow_eq _ _ hh d)
  pointwise [val_main_v129, val_main_v128, val_main_v127, val_main_v126, val_main_v125, val_main_v124, val_main_v123, val_main_v122, val_main_v121, val_main_v120, val_main_v114, val_main_v113, val_main_v112, val_main_cst_28, val_main_cst_31, val_main_cst_32, val_main_cst_33]
  simp only [da_at, db_at, Fin.sum_univ_one]
  rfl

/-- The gradient of the second half, where the normalised row's gradient is finite. -/
theorem dv_at (hh : ∀ k, Finite.IsFin (dvn (wts x3) (ub x0 (lat n)) (yb x5 n) p k * vec x1 k)) : val_main_v141 (F := Ideal) x0 x1 x3 x5 (ix2 (row n p) d)
    = dV (wts x3) (vec x1) (ub x0 (lat n)) (vb x0 (lat n)) (yb x5 n) p d := by
  pointwise [val_main_v141, val_main_v140, val_main_v139, val_main_v138, val_main_cst_36, val_main_v137, val_main_v136, val_main_v135, val_main_cst_35, val_main_v134, val_main_v133, val_main_v132, val_main_cst_34, val_main_v131, val_main_v130, val_main_v42, val_main_v41, val_main_cst_12, val_main_v40, val_main_v39, val_main_cst_11, val_main_v38, val_main_v37, val_main_v36, val_main_cst_10, val_main_v35, val_main_v34, val_main_cst_9, val_main_v27, val_main_v26, val_main_cst_6, val_main_v25]
  simp only [v_at, tv_at, drow_at _ _ _ _ n p _ hh]
  exact bw_eq _ _

/-- The gradient of the projection. -/
theorem eq6 (hh : ∀ n p k, Finite.IsFin (dvn (wts x3) (ub x0 (lat n)) (yb x5 n) p k * vec x1 k)) :
    val_main_v160 (F := Ideal) x0 x1 x2 x3 x4 x5 x6 = Cert.Kernel2Ideal.Final.dproj x0 x1 x2 x3 x4 x5 x6 := by
  funext i
  idx_vars i
  pointwise [val_main_v160, val_main_v159, val_main_v158, val_main_v157, val_main_v156, val_main_v155, val_main_v154, val_main_cst_40]
  unfold Cert.Kernel2Ideal.Final.dproj
  by_cases h : 2048 ≤ i1.val ∧ i1.val < 4096
  · rw [dif_neg (show ¬i1.val < 2048 by omega), dif_pos (show i1.val - 2048 < 2048 by omega)]
    refine Eq.trans ?_ (dif_pos h).symm
    by_cases h0 : i0.val < 256
    · rw [dif_pos h0]
      split
      · rfl
      · rename_i h'
        exact absurd h0 h'
    · rw [dif_neg h0]
      refine Eq.trans ?_ (dif_neg (show ¬ (((ix2 i0 i1 : S4352x7168.Idx) 0).val < 256) from h0)).symm
      have hi := i0.isLt
      have hr : (⟨i0.val - 256, by omega⟩ : Fin 4096) = row ⟨(i0.val - 256) / 128, by omega⟩ ⟨(i0.val - 256) % 128, by omega⟩ :=
        Fin.ext (by unfold row; show i0.val - 256 = 128 * ((i0.val - 256) / 128) + (i0.val - 256) % 128; omega)
      unfold Cert.Kernel2Ideal.Final.dhalf
      by_cases h1 : i1.val - 2048 < 1024
      · rw [dif_pos h1, hr, du_at]
        split
        · rfl
        · rename_i h'
          exact absurd h1 h'
      · rw [dif_neg h1, hr, dv_at _ _ _ _ _ _ _ (hh _ _)]
        split
        · rename_i h'
          exact absurd h' h1
        · rfl
  · refine Eq.trans ?_ (dif_neg h).symm
    by_cases h0 : i1.val < 2048
    · rw [dif_pos h0]
    · rw [dif_neg h0, dif_neg (show ¬i1.val - 2048 < 2048 by omega)]
      exact congrArg x6 (congrArg (ix2 i0) (Fin.ext (by show 4096 + (i1.val - 2048 - 2048) = i1.val; omega)))

end Cert.Reference2Ideal.Final

end
-- ==== Proof.Mix.Pre.lean ====
/- The precondition of the gating's backward pass read entry by entry. -/
module

public import proofs.«01_k».proof.Proof.Finite
public import proofs.«01_k».proof.Proof.Gen.Pre_finite2

@[expose] public section

noncomputable section

open Idealize.ShloMosaic Cert.Finite

namespace Cert.Pre_finite2

/-- If the precondition holds, the first half, the scale, the mixing weights and the cotangent are finite. -/
theorem finite_of (x0 : FVec Ideal S4352x7168 .f32) (x1 x2 : FVec Ideal S1024 .f32) (x3 : FVec Ideal S8x128x128 .f32) (x4 : FVec Ideal S8x128 .f32)
    (x5 : FVec Ideal S4096x1024 .f32) (x6 : FVec Ideal S4352x7168 .bf16) (h : fn (F := Ideal) x0 x1 x2 x3 x4 x5 x6 = fun _ => 1#1) :
    (∀ i, IsFin (extractStridedSlice S4096x1024 ![256, 2048] x0 Facts.slices_S4352x7168_S4096x1024_256_2048 i)) ∧ (∀ i, IsFin (x1 i)) ∧ (∀ i, IsFin (x3 i)) ∧ (∀ i, IsFin (x5 i)) := by
  haveI : Subsingleton S_.Idx := ⟨fun a b => funext fun i => i.elim0⟩
  have e := congrFun h (fun a => a.elim0)
  obtain ⟨e, e3⟩ := IntOp.andi_eq_one.1 e
  obtain ⟨e, e2⟩ := IntOp.andi_eq_one.1 e
  obtain ⟨e0, e1⟩ := IntOp.andi_eq_one.1 e
  exact ⟨fun i => of_cmp (Host.reduce_andi_all _ _ _ _ _ e0 i), fun i => of_cmp (Host.reduce_andi_all _ _ _ _ _ e1 i),
    fun i => of_cmp (Host.reduce_andi_all _ _ _ _ _ e2 i), fun i => of_cmp (Host.reduce_andi_all _ _ _ _ _ e3 i)⟩

end Cert.Pre_finite2

end
-- ==== Proof.Mix.Claim.lean ====
/- The claims about the call that computes the spatial gating's gradients. -/
module

public import proofs.«01_k».proof.Defs
public import proofs.«01_k».proof.Proof.Mix.Final
public import proofs.«01_k».proof.Proof.Mix.Slabs
public import proofs.«01_k».proof.Proof.Mix.Proj
public import proofs.«01_k».proof.Proof.Mix.RefProj
public import proofs.«01_k».proof.Proof.Mix.Pre
public import proofs.«01_k».proof.Proof.Gen.Reference2Ideal.Run
public import Idealize.ShloMosaic.Adequacy
public import Idealize.ShloMosaic.Lib.Claim
public import Idealize.ShloMosaic.Lib.StableHlo.RunHlo

@[expose] public section

set_option maxRecDepth 16384

noncomputable section

namespace Cert.Mix

open Idealize.ShloMosaic Idealize.SL.Sem Cert.Finite

/-- The reference runs, leaves its arguments alone, and has no counter to leave off zero. -/
theorem frame_ref : Cert.quiescent_Reference2Ideal := fun m g _ => by
  refine (θ_run _ _ _).mono (fun r h => ⟨fun c => (h c).2.2.2.2.2, ?_⟩) (Cert.Reference2Ideal.Value.run m g)
  exact Idealize.ShloMosaic.sem_eq_zero_of_no_sems (by decide) r.2

open Cert.Kernel2Ideal.Final in
/-- Under the precondition the normalised rows' gradients, times the scale, are finite. -/
theorem rows_fin (x0 : FVec Ideal Cert.Pre_finite2.S4352x7168 .f32) (x1 x2 : FVec Ideal Cert.Pre_finite2.S1024 .f32)
    (x3 : FVec Ideal Cert.Pre_finite2.S8x128x128 .f32) (x4 : FVec Ideal Cert.Pre_finite2.S8x128 .f32)
    (x5 : FVec Ideal Cert.Pre_finite2.S4096x1024 .f32) (x6 : FVec Ideal Cert.Pre_finite2.S4352x7168 .bf16)
    (h : Cert.Pre_finite2.fn (F := Ideal) x0 x1 x2 x3 x4 x5 x6 = fun _ => 1#1) (n : Fin 32) (p : Fin 128) (k : Fin 1024) :
    IsFin (dvn (wts x3) (ub x0 (lat n)) (yb x5 n) p k * vec x1 k) := by
  obtain ⟨h0, h1, h3, h5⟩ := Cert.Pre_finite2.finite_of x0 x1 x2 x3 x4 x5 x6 h
  refine IsFin.mul (dvn_fin _ _ _ (fun _ _ _ => h3 _) (fun p d => ?_) (fun _ _ => h5 _) p k) (h1 _)
  rw [← Cert.Reference2Ideal.Final.u_at]
  exact h0 _

/-- Where the gating's operands are finite, the call ends with the gradients the reference ends with. -/
theorem value : Cert.algebraic_Kernel2Ideal_Reference2Ideal_pre_finite2 := by
  pair_intro
  · run_from Cert.Kernel2Ideal.Value.run_blocks m g
  · run_from Cert.Reference2Ideal.Value.run m' g'
    · obtain ⟨a0, a1, a2, a3, a4, a5, a6⟩ := hagree c
      have hh := rows_fin _ _ _ _ _ _ _ (hpre c)
      rw [← a0, ← a1, ← a3, ← a5] at hh
      rw [Cert.Kernel2Ideal.Final.final6, ← a0, ← a1, ← a2, ← a3, ← a4, ← a5, ← a6]
      exact (Cert.Reference2Ideal.Read.val_main_v160_eq (StableHlo.launchContents m' c)).trans (Cert.Reference2Ideal.Final.eq6 _ _ _ _ _ _ _ hh)
    · obtain ⟨a0, a1, a2, a3, a4, a5, a6⟩ := hagree c
      rw [Cert.Kernel2Ideal.Final.final7, ← a0, ← a3, ← a5]
      exact (Cert.Reference2Ideal.Read.val_main_v161_eq _).trans (Cert.Reference2Ideal.Final.eq7 _ _ _)
    · obtain ⟨a0, a1, a2, a3, a4, a5, a6⟩ := hagree c
      rw [Cert.Kernel2Ideal.Final.final8, ← a0, ← a3, ← a5]
      exact (Cert.Reference2Ideal.Read.val_main_v162_eq _).trans (Cert.Reference2Ideal.Final.eq8 _ _ _)
    · obtain ⟨a0, a1, a2, a3, a4, a5, a6⟩ := hagree c
      rw [Cert.Kernel2Ideal.Final.final9, ← a0, ← a1, ← a2, ← a5]
      exact (Cert.Reference2Ideal.Read.val_main_v93_eq _).trans (Cert.Reference2Ideal.Final.eq9 _ _ _ _)
    · obtain ⟨a0, a1, a2, a3, a4, a5, a6⟩ := hagree c
      rw [Cert.Kernel2Ideal.Final.final10, ← a0, ← a5]
      exact (Cert.Reference2Ideal.Read.val_main_v163_eq _).trans (Cert.Reference2Ideal.Final.eq10 _ _)

end Cert.Mix

end
-- ==== Proof.GateFwd.Point.lean ====
/- What the kernel of the spatial gate computes at one grid point. -/
module

public import proofs.«01_k».proof.Proof.Gen.Kernel16Ideal.Value
public import proofs.«01_k».proof.Proof.Mix.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Final

open Cert.Kernel16Ideal Cert.Kernel16Ideal.Gen Cert.Mix

/-- The first half of a block's row. -/
def uu (X : FVec Ideal S128x2048 .f32) (p : Fin 128) (d : Fin 1024) : EReal := X (ix2 p ⟨d.val, by omega⟩)
/-- The second half of a block's row. -/
def vv (X : FVec Ideal S128x2048 .f32) (p : Fin 128) (d : Fin 1024) : EReal := X (ix2 p ⟨1024 + d.val, by omega⟩)
/-- A one-row array's row. -/
def rowv (x : FVec Ideal S1x1024 .f32) (d : Fin 1024) : EReal := x (ix2 0 d)

/-- Eight weight slabs as one function. -/
def W8 (w0 w1 w2 w3 w4 w5 w6 w7 : FVec Ideal S128x128 .f32) (k : Fin 8) (p q : Fin 128) : EReal :=
  match k with
  | ⟨0, _⟩ => w0 (ix2 p q)
  | ⟨1, _⟩ => w1 (ix2 p q)
  | ⟨2, _⟩ => w2 (ix2 p q)
  | ⟨3, _⟩ => w3 (ix2 p q)
  | ⟨4, _⟩ => w4 (ix2 p q)
  | ⟨5, _⟩ => w5 (ix2 p q)
  | ⟨6, _⟩ => w6 (ix2 p q)
  | ⟨7, _⟩ => w7 (ix2 p q)

/-- Eight bias slabs as one function. -/
def B8 (s0 s1 s2 s3 s4 s5 s6 s7 : FVec Ideal S128x1 .f32) (k : Fin 8) (p : Fin 128) : EReal :=
  match k with
  | ⟨0, _⟩ => s0 (ix2 p 0)
  | ⟨1, _⟩ => s1 (ix2 p 0)
  | ⟨2, _⟩ => s2 (ix2 p 0)
  | ⟨3, _⟩ => s3 (ix2 p 0)
  | ⟨4, _⟩ => s4 (ix2 p 0)
  | ⟨5, _⟩ => s5 (ix2 p 0)
  | ⟨6, _⟩ => s6 (ix2 p 0)
  | ⟨7, _⟩ => s7 (ix2 p 0)

/-- The normalised rows of a block's second half. -/
theorem vn_at (v1 v3 : FVec Ideal S1x1024 .f32) (X : FVec Ideal S128x2048 .f32) (p : Fin 128) (d : Fin 1024) :
    k0_pay21 (F := Ideal) v1 v3 X (ix2 p d) = vn (rowv v1) (rowv v3) (vv X p) d := by
  pointwise [k0_pay21, vn, xh, rs, vare, xc, mean, gel, th, vv, rowv, cA, cB, cN, cE, cH]

/-- The gate's activation times the mixed rows. -/
theorem out_at (X : FVec Ideal S128x2048 .f32) (M : FVec Ideal S128x1024 .f32) (p : Fin 128) (d : Fin 1024) :
    k0_pay1 (F := Ideal) (k0_pay20 (F := Ideal) X) M (k0_pay23 (F := Ideal) (k0_pay20 (F := Ideal) X)) (ix2 p d) = gel (uu X p d) * M (ix2 p d) := by
  pointwise [k0_pay1, k0_pay20, k0_pay23, gel, th, uu, cA, cB, cH]

/-- The mixed rows of a block. -/
theorem mix_at (w0 w1 w2 w3 w4 w5 w6 w7 : FVec Ideal S128x128 .f32) (s0 s1 s2 s3 s4 s5 s6 s7 : FVec Ideal S128x1 .f32) (N : FVec Ideal S128x1024 .f32) (p : Fin 128) (d : Fin 1024) :
    k0_pay22 (F := Ideal) w0 w1 w2 w3 w4 w5 w6 w7 s0 s1 s2 s3 s4 s5 s6 s7 N (ix2 p d) = (∑ q : Fin 128, W8 w0 w1 w2 w3 w4 w5 w6 w7 (grp d) p q * N (ix2 q d)) + B8 s0 s1 s2 s3 s4 s5 s6 s7 (grp d) p := by
  pointwise [k0_pay22]
  by_cases g0 : d.val < 128
  · rw [dif_pos g0]
    have hk : grp d = 0 := Fin.ext (by show d.val / 128 = 0; omega)
    simp only [hk, W8, B8]
  rw [dif_neg g0]
  by_cases g1 : d.val - 128 < 128
  · rw [dif_pos g1]
    have hk : grp d = 1 := Fin.ext (by show d.val / 128 = 1; omega)
    simp only [hk, W8, B8]
    exact congrArg₂ (· + ·) (Finset.sum_congr rfl fun q _ => congrArg₂ (· * ·) rfl (congrArg N (congrArg₂ ix2 rfl (Fin.ext (by dsimp only; omega))))) rfl
  rw [dif_neg g1]
  by_cases g2 : d.val - 128 - 128 < 128
  · rw [dif_pos g2]
    have hk : grp d = 2 := Fin.ext (by show d.val / 128 = 2; omega)
    simp only [hk, W8, B8]
    exact congrArg₂ (· + ·) (Finset.sum_congr rfl fun q _ => congrArg₂ (· * ·) rfl (congrArg N (congrArg₂ ix2 rfl (Fin.ext (by dsimp only; omega))))) rfl
  rw [dif_neg g2]
  by_cases g3 : d.val - 128 - 128 - 128 < 128
  · rw [dif_pos g3]
    have hk : grp d = 3 := Fin.ext (by show d.val / 128 = 3; omega)
    simp only [hk, W8, B8]
    exact congrArg₂ (· + ·) (Finset.sum_congr rfl fun q _ => congrArg₂ (· * ·) rfl (congrArg N (congrArg₂ ix2 rfl (Fin.ext (by dsimp only; omega))))) rfl
  rw [dif_neg g3]
  by_cases g4 : d.val - 128 - 128 - 128 - 128 < 128
  · rw [dif_pos g4]
    have hk : grp d = 4 := Fin.ext (by show d.val / 128 = 4; omega)
    simp only [hk, W8, B8]
    exact congrArg₂ (· + ·) (Finset.sum_congr rfl fun q _ => congrArg₂ (· * ·) rfl (congrArg N (congrArg₂ ix2 rfl (Fin.ext (by dsimp only; omega))))) rfl
  rw [dif_neg g4]
  by_cases g5 : d.val - 128 - 128 - 128 - 128 - 128 < 128
  · rw [dif_pos g5]
    have hk : grp d = 5 := Fin.ext (by show d.val / 128 = 5; omega)
    simp only [hk, W8, B8]
    exact congrArg₂ (· + ·) (Finset.sum_congr rfl fun q _ => congrArg₂ (· * ·) rfl (congrArg N (congrArg₂ ix2 rfl (Fin.ext (by dsimp only; omega))))) rfl
  rw [dif_neg g5]
  by_cases g6 : d.val - 128 - 128 - 128 - 128 - 128 - 128 < 128
  · rw [dif_pos g6]
    have hk : grp d = 6 := Fin.ext (by show d.val / 128 = 6; omega)
    simp only [hk, W8, B8]
    exact congrArg₂ (· + ·) (Finset.sum_congr rfl fun q _ => congrArg₂ (· * ·) rfl (congrArg N (congrArg₂ ix2 rfl (Fin.ext (by dsimp only; omega))))) rfl
  rw [dif_neg g6]
  have hk : grp d = 7 := Fin.ext (by show d.val / 128 = 7; omega)
  simp only [hk, W8, B8]
  exact congrArg₂ (· + ·) (Finset.sum_congr rfl fun q _ => congrArg₂ (· * ·) rfl (congrArg N (congrArg₂ ix2 rfl (Fin.ext (by dsimp only; omega))))) rfl

end Cert.Kernel16Ideal.Final

end
-- ==== Proof.GateFwd.Array.lean ====
/- What the kernel of the spatial gate reads at a grid point, and what its result should be. -/
module

public import proofs.«01_k».proof.Proof.GateFwd.Point

@[expose] public section

set_option maxRecDepth 16384

noncomputable section

open Idealize.ShloMosaic Idealize.ShloMosaic.TcCoe Idealize.SL.Sem
open Idealize.ShloMosaic.Pipeline (Dat)

namespace Cert.Kernel16Ideal.Final

open Cert.Kernel16Ideal Cert.Kernel16Ideal.Gen Cert.Mix

variable (m : (ℓ : Loc nD τ sig) → Buf (Elt Ideal) ℓ)

section Spec

variable (P : FVec Ideal S4352x7168 .f32) (g b : FVec Ideal S1024 .f32) (W : FVec Ideal S8x128x128 .f32) (B : FVec Ideal S8x128 .f32)

/-- The first half of row `p` of the projection's latent chunk `n`. -/
def ub (n : Fin 32) (p : Fin 128) (d : Fin 1024) : EReal := P (ix2 ⟨128 * (n.val + 2) + p.val, by omega⟩ ⟨2048 + d.val, by omega⟩)
/-- The second half of row `p` of the projection's latent chunk `n`. -/
def vb (n : Fin 32) (p : Fin 128) (d : Fin 1024) : EReal := P (ix2 ⟨128 * (n.val + 2) + p.val, by omega⟩ ⟨3072 + d.val, by omega⟩)
/-- A vector's entries. -/
def vec (x : FVec Ideal S1024 .f32) (d : Fin 1024) : EReal := x (ix1 d)
/-- The mixing weights' entries. -/
def wts (k : Fin 8) (p q : Fin 128) : EReal := W (ix3 k p q)
/-- The mixing biases' entries. -/
def bia (k : Fin 8) (p : Fin 128) : EReal := B (ix2 k p)

/-- Row `p` of chunk `n`. -/
def row (n : Fin 32) (p : Fin 128) : Fin 4096 := ⟨128 * n.val + p.val, by omega⟩

/-- The gate at row `p` of chunk `n`: the first half's activation times the mixed second half. -/
def gateAt (n : Fin 32) (p : Fin 128) (d : Fin 1024) : EReal :=
  gel (ub P n p d) * mixed (wts W) (bia B) (vec g) (vec b) (vb P n) p d

/-- The gate. -/
def gated (i : S4096x1024.Idx) : EReal :=
  gateAt P g b W B ⟨(i 0).val / 128, by have := (i 0).isLt; change (i 0).val < 4096 at this; omega⟩ ⟨(i 0).val % 128, by omega⟩ (i 1)

/-- The gate at a chunk's row. -/
theorem gated_at (n : Fin 32) (p : Fin 128) (d : Fin 1024) (r : Fin 4096) (hr : r.val = 128 * n.val + p.val) : gated P g b W B (ix2 r d) = gateAt P g b W B n p d := by
  have h0 : (⟨r.val / 128, by omega⟩ : Fin 32) = n := Fin.ext (by show r.val / 128 = n.val; omega)
  have h1 : (⟨r.val % 128, by omega⟩ : Fin 128) = p := Fin.ext (by show r.val % 128 = p.val; omega)
  unfold gated
  show gateAt P g b W B ⟨r.val / 128, _⟩ ⟨r.val % 128, _⟩ d = _
  rw [h0, h1]

end Spec

/-- Where the moving windows' blocks sit at grid point `t`: the latent rows begin two points after the context's. -/
theorem idx : ∀ t : Fin cfg0.N, win0_0.index t = ![t.val + 2, 1] ∧ win0_19.index t = ![t.val, 0] ∧ t.val < 32 :=
  (by decide +kernel : ∀ t : Fin grid0.N, _)

/-- Where the fixed windows' blocks sit. -/
theorem idx' : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

/-- The first half of a point's block. -/
theorem hU (c : Dev nD) (t : Fin cfg0.N) : uu (X0_0 m c t) = ub (m ((c : Thread nD τ).loc main_arg0)) ⟨t.val, (idx t).2.2⟩ := by
  have ht := (idx t).2.2
  funext p d
  show X0_0 m c t (ix2 p _) = _
  unfold X0_0 Pipeline.Window.fill
  rw [dif_pos (moved0_0 t _)]
  unfold ub
  blk_point [iblk, V, idx t]

/-- The second half of a point's block. -/
theorem hV (c : Dev nD) (t : Fin cfg0.N) : vv (X0_0 m c t) = vb (m ((c : Thread nD τ).loc main_arg0)) ⟨t.val, (idx t).2.2⟩ := by
  have ht := (idx t).2.2
  funext p d
  show X0_0 m c t (ix2 p _) = _
  unfold X0_0 Pipeline.Window.fill
  rw [dif_pos (moved0_0 t _)]
  unfold vb
  blk_point [iblk, V, idx t]

/-- The scale. -/
theorem hG (c : Dev nD) (t : Fin cfg0.N) : rowv (k0_pay2 (F := Ideal) (iblk m c 1 t)) = vec (m ((c : Thread nD τ).loc main_arg1)) := by
  funext d
  unfold rowv vec
  pointwise [k0_pay2]
  blk_point [iblk, V, idx' t]

/-- The shift. -/
theorem hB (c : Dev nD) (t : Fin cfg0.N) : rowv (k0_pay3 (F := Ideal) (iblk m c 2 t)) = vec (m ((c : Thread nD τ).loc main_arg2)) := by
  funext d
  unfold rowv vec
  pointwise [k0_pay3]
  blk_point [iblk, V, idx' t]

/-- Group 0's mixing weights. -/
theorem hW0 (c : Dev nD) (t : Fin cfg0.N) (p q : Fin 128) : k0_pay4 (F := Ideal) (iblk m c 3 t) (ix2 p q) = wts (m ((c : Thread nD τ).loc main_arg3)) 0 p q := by
  unfold wts
  pointwise [k0_pay4]
  blk_point [iblk, V, idx' t]

/-- Group 0's mixing biases. -/
theorem hS0 (c : Dev nD) (t : Fin cfg0.N) (p : Fin 128) : k0_pay12 (F := Ideal) (iblk m c 11 t) (ix2 p 0) = bia (m ((c : Thread nD τ).loc main_arg4)) 0 p := by
  unfold bia
  pointwise [k0_pay12]
  blk_point [iblk, V, idx' t]

/-- Group 1's mixing weights. -/
theorem hW1 (c : Dev nD) (t : Fin cfg0.N) (p q : Fin 128) : k0_pay5 (F := Ideal) (iblk m c 4 t) (ix2 p q) = wts (m ((c : Thread nD τ).loc main_arg3)) 1 p q := by
  unfold wts
  pointwise [k0_pay5]
  blk_point [iblk, V, idx' t]

/-- Group 1's mixing biases. -/
theorem hS1 (c : Dev nD) (t : Fin cfg0.N) (p : Fin 128) : k0_pay13 (F := Ideal) (iblk m c 12 t) (ix2 p 0) = bia (m ((c : Thread nD τ).loc main_arg4)) 1 p := by
  unfold bia
  pointwise [k0_pay13]
  blk_point [iblk, V, idx' t]

/-- Group 2's mixing weights. -/
theorem hW2 (c : Dev nD) (t : Fin cfg0.N) (p q : Fin 128) : k0_pay6 (F := Ideal) (iblk m c 5 t) (ix2 p q) = wts (m ((c : Thread nD τ).loc main_arg3)) 2 p q := by
  unfold wts
  pointwise [k0_pay6]
  blk_point [iblk, V, idx' t]

/-- Group 2's mixing biases. -/
theorem hS2 (c : Dev nD) (t : Fin cfg0.N) (p : Fin 128) : k0_pay14 (F := Ideal) (iblk m c 13 t) (ix2 p 0) = bia (m ((c : Thread nD τ).loc main_arg4)) 2 p := by
  unfold bia
  pointwise [k0_pay14]
  blk_point [iblk, V, idx' t]

/-- Group 3's mixing weights. -/
theorem hW3 (c : Dev nD) (t : Fin cfg0.N) (p q : Fin 128) : k0_pay7 (F := Ideal) (iblk m c 6 t) (ix2 p q) = wts (m ((c : Thread nD τ).loc main_arg3)) 3 p q := by
  unfold wts
  pointwise [k0_pay7]
  blk_point [iblk, V, idx' t]

/-- Group 3's mixing biases. -/
theorem hS3 (c : Dev nD) (t : Fin cfg0.N) (p : Fin 128) : k0_pay15 (F := Ideal) (iblk m c 14 t) (ix2 p 0) = bia (m ((c : Thread nD τ).loc main_arg4)) 3 p := by
  unfold bia
  pointwise [k0_pay15]
  blk_point [iblk, V, idx' t]

/-- Group 4's mixing weights. -/
theorem hW4 (c : Dev nD) (t : Fin cfg0.N) (p q : Fin 128) : k0_pay8 (F := Ideal) (iblk m c 7 t) (ix2 p q) = wts (m ((c : Thread nD τ).loc main_arg3)) 4 p q := by
  unfold wts
  pointwise [k0_pay8]
  blk_point [iblk, V, idx' t]

/-- Group 4's mixing biases. -/
theorem hS4 (c : Dev nD) (t : Fin cfg0.N) (p : Fin 128) : k0_pay16 (F := Ideal) (iblk m c 15 t) (ix2 p 0) = bia (m ((c : Thread nD τ).loc main_arg4)) 4 p := by
  unfold bia
  pointwise [k0_pay16]
  blk_point [iblk, V, idx' t]

/-- Group 5's mixing weights. -/
theorem hW5 (c : Dev nD) (t : Fin cfg0.N) (p q : Fin 128) : k0_pay9 (F := Ideal) (iblk m c 8 t) (ix2 p q) = wts (m ((c : Thread nD τ).loc main_arg3)) 5 p q := by
  unfold wts
  pointwise [k0_pay9]
  blk_point [iblk, V, idx' t]

/-- Group 5's mixing biases. -/
theorem hS5 (c : Dev nD) (t : Fin cfg0.N) (p : Fin 128) : k0_pay17 (F := Ideal) (iblk m c 16 t) (ix2 p 0) = bia (m ((c : Thread nD τ).loc main_arg4)) 5 p := by
  unfold bia
  pointwise [k0_pay17]
  blk_point [iblk, V, idx' t]

/-- Group 6's mixing weights. -/
theorem hW6 (c : Dev nD) (t : Fin cfg0.N) (p q : Fin 128) : k0_pay10 (F := Ideal) (iblk m c 9 t) (ix2 p q) = wts (m ((c : Thread nD τ).loc main_arg3)) 6 p q := by
  unfold wts
  pointwise [k0_pay10]
  blk_point [iblk, V, idx' t]

/-- Group 6's mixing biases. -/
theorem hS6 (c : Dev nD) (t : Fin cfg0.N) (p : Fin 128) : k0_pay18 (F := Ideal) (iblk m c 17 t) (ix2 p 0) = bia (m ((c : Thread nD τ).loc main_arg4)) 6 p := by
  unfold bia
  pointwise [k0_pay18]
  blk_point [iblk, V, idx' t]

/-- Group 7's mixing weights. -/
theorem hW7 (c : Dev nD) (t : Fin cfg0.N) (p q : Fin 128) : k0_pay11 (F := Ideal) (iblk m c 10 t) (ix2 p q) = wts (m ((c : Thread nD τ).loc main_arg3)) 7 p q := by
  unfold wts
  pointwise [k0_pay11]
  blk_point [iblk, V, idx' t]

/-- Group 7's mixing biases. -/
theorem hS7 (c : Dev nD) (t : Fin cfg0.N) (p : Fin 128) : k0_pay19 (F := Ideal) (iblk m c 18 t) (ix2 p 0) = bia (m ((c : Thread nD τ).loc main_arg4)) 7 p := by
  unfold bia
  pointwise [k0_pay19]
  blk_point [iblk, V, idx' t]

/-- The eight groups' weights. -/
theorem hW (c : Dev nD) (t : Fin cfg0.N) : W8 (k0_pay4 (F := Ideal) (iblk m c 3 t)) (k0_pay5 (F := Ideal) (iblk m c 4 t)) (k0_pay6 (F := Ideal) (iblk m c 5 t)) (k0_pay7 (F := Ideal) (iblk m c 6 t)) (k0_pay8 (F := Ideal) (iblk m c 7 t)) (k0_pay9 (F := Ideal) (iblk m c 8 t)) (k0_pay10 (F := Ideal) (iblk m c 9 t)) (k0_pay11 (F := Ideal) (iblk m c 10 t)) = wts (m ((c : Thread nD τ).loc main_arg3)) := by
  funext k p q
  match k with
  | ⟨0, _⟩ => exact hW0 m c t p q
  | ⟨1, _⟩ => exact hW1 m c t p q
  | ⟨2, _⟩ => exact hW2 m c t p q
  | ⟨3, _⟩ => exact hW3 m c t p q
  | ⟨4, _⟩ => exact hW4 m c t p q
  | ⟨5, _⟩ => exact hW5 m c t p q
  | ⟨6, _⟩ => exact hW6 m c t p q
  | ⟨7, _⟩ => exact hW7 m c t p q

/-- The eight groups' biases. -/
theorem hS (c : Dev nD) (t : Fin cfg0.N) : B8 (k0_pay12 (F := Ideal) (iblk m c 11 t)) (k0_pay13 (F := Ideal) (iblk m c 12 t)) (k0_pay14 (F := Ideal) (iblk m c 13 t)) (k0_pay15 (F := Ideal) (iblk m c 14 t)) (k0_pay16 (F := Ideal) (iblk m c 15 t)) (k0_pay17 (F := Ideal) (iblk m c 16 t)) (k0_pay18 (F := Ideal) (iblk m c 17 t)) (k0_pay19 (F := Ideal) (iblk m c 18 t)) = bia (m ((c : Thread nD τ).loc main_arg4)) := by
  funext k p
  match k with
  | ⟨0, _⟩ => exact hS0 m c t p
  | ⟨1, _⟩ => exact hS1 m c t p
  | ⟨2, _⟩ => exact hS2 m c t p
  | ⟨3, _⟩ => exact hS3 m c t p
  | ⟨4, _⟩ => exact hS4 m c t p
  | ⟨5, _⟩ => exact hS5 m c t p
  | ⟨6, _⟩ => exact hS6 m c t p
  | ⟨7, _⟩ => exact hS7 m c t p

end Cert.Kernel16Ideal.Final

end
-- ==== Proof.GateFwd.Final.lean ====
/- The array the kernel of the spatial gate leaves. -/
module

public import proofs.«01_k».proof.Proof.GateFwd.Array

@[expose] public section

set_option maxRecDepth 16384

noncomputable section

open Idealize.ShloMosaic Idealize.ShloMosaic.TcCoe Idealize.SL.Sem
open Idealize.ShloMosaic.Pipeline (Dat)

namespace Cert.Kernel16Ideal.Final

open Cert.Kernel16Ideal Cert.Kernel16Ideal.Gen Cert.Mix

variable (m : (ℓ : Loc nD τ sig) → Buf (Elt Ideal) ℓ)

/-- The result's array after the run. -/
theorem final19 (c : Dev nD) : (dats m 0 c).arrAt 19 (cfgs 0).N = gated (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 19 _ (by decide +kernel) fun t _ y => ?_
  have ht := (idx t).2.2
  blk_simp
  rw [after0_19]
  unfold outsAt0
  frame_out
  idx_vars y
  rw [out_at, mix_at]
  simp only [vn_at]
  rw [hU, hV, hW, hS, hG, hB]
  refine (gated_at _ _ _ _ _ ⟨t.val, ht⟩ y0 y1 ⟨128 * t.val + y0.val, by omega⟩ rfl).symm.trans ?_
  generalize gated _ _ _ _ _ = G
  blk_point [iblk, V, idx t]

end Cert.Kernel16Ideal.Final

end
-- ==== Proof.GateFwd.Ref.lean ====
/- The reference's spatial gate is what the kernel leaves. -/
module

public import proofs.«01_k».proof.Proof.GateFwd.Final
public import proofs.«01_k».proof.Proof.Gen.Reference16Ideal.Read

@[expose] public section

set_option maxRecDepth 16384

noncomputable section

open Idealize.ShloMosaic Idealize.ShloMosaic.TcCoe Idealize.SL.Sem

namespace Cert.Reference16Ideal.Final

open Cert.Reference16Ideal Cert.Reference16Ideal.Gen Cert.Reference16Ideal.Read Cert.Mix
open Cert.Kernel16Ideal.Final (ub vb vec wts bia row gateAt gated gated_at)

variable (x0 : FVec Ideal S4352x7168 .f32) (x1 x2 : FVec Ideal S1024 .f32) (x3 : FVec Ideal S8x128x128 .f32) (x4 : FVec Ideal S8x128 .f32)
variable (n : Fin 32) (p : Fin 128) (d : Fin 1024)

/-- The first half. -/
theorem u_at : val_main_v0 (F := Ideal) x0 (ix2 (row n p) d) = ub x0 n p d := by
  pointwise [val_main_v0]
  unfold ub row
  blk_point

/-- The second half. -/
theorem v_at : val_main_v14 (F := Ideal) x0 (ix2 (row n p) d) = vb x0 n p d := by
  pointwise [val_main_v14]
  unfold vb row
  blk_point

/-- The hyperbolic tangent of the first half. -/
theorem tu_at : val_main_v8 (F := Ideal) x0 (ix2 (row n p) d) = th (ub x0 n p d) := by
  pointwise [val_main_v8, val_main_v7, val_main_v6, val_main_v5, val_main_v4, val_main_v3, val_main_v2, val_main_v1, val_main_cst, val_main_cst_0]
  simp only [u_at]
  rfl

/-- The hyperbolic tangent of the second half. -/
theorem tv_at : val_main_v22 (F := Ideal) x0 (ix2 (row n p) d) = th (vb x0 n p d) := by
  pointwise [val_main_v22, val_main_v21, val_main_v20, val_main_v19, val_main_v18, val_main_v17, val_main_v16, val_main_v15, val_main_cst_3, val_main_cst_4]
  simp only [v_at]
  rfl

/-- The first half's activation. -/
theorem gu_at : val_main_v13 (F := Ideal) x0 (ix2 (row n p) d) = gel (ub x0 n p d) := by
  pointwise [val_main_v13, val_main_v12, val_main_v11, val_main_v10, val_main_v9, val_main_cst_1, val_main_cst_2]
  rw [u_at, tu_at, mul_left_comm, ← mul_assoc]
  rfl

/-- The second half's activation. -/
theorem gv_at : val_main_v27 (F := Ideal) x0 (ix2 (row n p) d) = gel (vb x0 n p d) := by
  pointwise [val_main_v27, val_main_v26, val_main_v25, val_main_v24, val_main_v23, val_main_cst_5, val_main_cst_6]
  rw [v_at, tv_at, mul_left_comm, ← mul_assoc]
  rfl

/-- A row's mean. -/
theorem mean_at : val_main_v31 (F := Ideal) x0 (ix2 (row n p) 0) = mean (vb x0 n p) := by
  pointwise [val_main_v31, val_main_v30, val_main_v29, val_main_v28, val_main_cst_7, val_main_cst_8]
  simp only [gv_at]
  rfl

/-- A row less its mean. -/
theorem xc_at : val_main_v33 (F := Ideal) x0 (ix2 (row n p) d) = xc (vb x0 n p) d := by
  pointwise [val_main_v33, val_main_v32]
  rw [gv_at, mean_at]
  rfl

/-- A row less its mean, once more. -/
theorem xc'_at : val_main_v40 (F := Ideal) x0 (ix2 (row n p) d) = xc (vb x0 n p) d := by
  pointwise [val_main_v40, val_main_v39]
  rw [gv_at, mean_at]
  rfl

/-- A row's variance with the small constant. -/
theorem vare_at : val_main_v42 (F := Ideal) x0 (ix2 (row n p) 0) = vare (vb x0 n p) := by
  pointwise [val_main_v42, val_main_v41, val_main_v38, val_main_v37, val_main_v36, val_main_v35, val_main_v34, val_main_cst_9, val_main_cst_10, val_main_cst_11]
  simp only [xc_at]
  rfl

/-- The reciprocal root. -/
theorem rs_at : val_main_v43 (F := Ideal) x0 (ix2 (row n p) 0) = rs (vb x0 n p) := by
  pointwise [val_main_v43]
  rw [vare_at]
  rfl

/-- A row normalised. -/
theorem xh_at : val_main_v45 (F := Ideal) x0 (ix2 (row n p) d) = xh (vb x0 n p) d := by
  pointwise [val_main_v45, val_main_v44]
  rw [xc'_at, rs_at]
  rfl

/-- A row after the layer norm. -/
theorem vn_at : val_main_v51 (F := Ideal) x0 x1 x2 (ix2 (row n p) d) = vn (vec x1) (vec x2) (vb x0 n p) d := by
  pointwise [val_main_v51, val_main_v50, val_main_v49, val_main_v48, val_main_v47, val_main_v46]
  rw [xh_at]
  rfl

/-- A row's number is its chunk's block and its place there. -/
theorem row_eq (q : Fin 128) (h) : (⟨(row n p).val / 128 * 128 + q.val, h⟩ : Fin 4096) = row n q :=
  Fin.ext (by unfold row; show (128 * n.val + p.val) / 128 * 128 + q.val = 128 * n.val + q.val; omega)

/-- A row's place in its chunk. -/
theorem place_eq (h) : (⟨(row n p).val % 128, h⟩ : Fin 128) = p :=
  Fin.ext (by unfold row; show (128 * n.val + p.val) % 128 = p.val; omega)

/-- A row mixed with its chunk's. -/
theorem mixed_at : val_main_v60 (F := Ideal) x0 x1 x2 x3 x4 (ix2 (row n p) d) = mixed (wts x3) (bia x4) (vec x1) (vec x2) (vb x0 n) p d := by
  pointwise [val_main_v60, val_main_v59, val_main_v58, val_main_v57, val_main_v56, val_main_v55, val_main_v54, val_main_v53, val_main_v52]
  simp only [row_eq, place_eq, vn_at]
  unfold mixed
  exact congrArg₂ (· + ·) (Finset.sum_congr rfl fun q _ => mul_comm _ _) rfl

/-- The gate at a chunk's row. -/
theorem out_at : val_main_v62 (F := Ideal) x0 x1 x2 x3 x4 (ix2 (row n p) d) = gateAt x0 x1 x2 x3 x4 n p d := by
  pointwise [val_main_v62, val_main_v61]
  rw [gu_at, mixed_at]
  rfl

/-- The gate. -/
theorem eq62 : val_main_v62 (F := Ideal) x0 x1 x2 x3 x4 = gated x0 x1 x2 x3 x4 := by
  funext i
  idx_vars i
  have hr : i0 = row ⟨i0.val / 128, by omega⟩ ⟨i0.val % 128, by omega⟩ :=
    Fin.ext (by unfold row; show i0.val = 128 * (i0.val / 128) + i0.val % 128; omega)
  rw [gated_at x0 x1 x2 x3 x4 ⟨i0.val / 128, by omega⟩ ⟨i0.val % 128, by omega⟩ i1 i0 (congrArg Fin.val hr)]
  exact (congrArg (fun r => val_main_v62 (F := Ideal) x0 x1 x2 x3 x4 (ix2 r i1)) hr).trans (out_at x0 x1 x2 x3 x4 _ _ i1)

end Cert.Reference16Ideal.Final

end
-- ==== Proof.GateFwd.Claim.lean ====
/- The claims about the call that computes the spatial gate. -/
module

public import proofs.«01_k».proof.Defs
public import proofs.«01_k».proof.Proof.GateFwd.Ref
public import proofs.«01_k».proof.Proof.Gen.Reference16Ideal.Run
public import Idealize.ShloMosaic.Adequacy
public import Idealize.ShloMosaic.Lib.Claim
public import Idealize.ShloMosaic.Lib.StableHlo.RunHlo

@[expose] public section

set_option maxRecDepth 16384

noncomputable section

namespace Cert.GateFwd

open Idealize.ShloMosaic Idealize.SL.Sem

/-- The reference runs, leaves its arguments alone, and has no counter to leave off zero. -/
theorem frame_ref : Cert.quiescent_Reference16Ideal := fun m g _ => by
  refine (θ_run _ _ _).mono (fun r h => ⟨fun c => (h c).2, ?_⟩) (Cert.Reference16Ideal.Value.run m g)
  exact Idealize.ShloMosaic.sem_eq_zero_of_no_sems (by decide) r.2

/-- The call ends with the gate, as the reference does. -/
theorem value : Cert.algebraic_Kernel16Ideal_Reference16Ideal := by
  pair_intro
  · run_from Cert.Kernel16Ideal.Value.run_blocks m g
  · run_from Cert.Reference16Ideal.Value.run m' g'
    · obtain ⟨a0, a1, a2, a3, a4⟩ := hagree c
      rw [Cert.Kernel16Ideal.Final.final19, ← a0, ← a1, ← a2, ← a3, ← a4]
      exact (Cert.Reference16Ideal.Read.val_main_v62_eq m' c).trans (Cert.Reference16Ideal.Final.eq62 _ _ _ _ _)

end Cert.GateFwd

end
-- ==== Proof.NormFwd.Array.lean ====
/- What the kernel of the state-space branch's gated norm leaves in its result. -/
module

public import proofs.«01_k».proof.Proof.Gen.Kernel17Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel17Ideal.Final

open Cert.Kernel17Ideal Cert.Kernel17Ideal.Gen

variable (m : (ℓ : Loc nD τ sig) → Buf (Elt Ideal) ℓ)

/-- A row divided by the root of its mean square. -/
def nrm (z : Fin 1024 → EReal) (d : Fin 1024) : EReal :=
  z d * Ideal.rsqrt (Ideal.div (∑ k : Fin 1024, z k * z k) (Ideal.ofBits .f32 0x44800000#32) + Ideal.ofBits .f32 0x3727C5AC#32)

/-- The gated state of latent row `r` at column `d`: both directions' outputs and the skip, times the gate's SiLU. -/
def gatedAt (Yf Yb : FVec Ideal S4352x1024 .f32) (X : FVec Ideal S4352x1536 .f32) (P : FVec Ideal S4352x7168 .f32) (s : FVec Ideal S1024 .f32)
    (r : Fin 4096) (d : Fin 1024) : EReal :=
  (Yf (ix2 ⟨256 + r.val, by omega⟩ d) + Yb (ix2 ⟨256 + r.val, by omega⟩ d) + X (ix2 ⟨256 + r.val, by omega⟩ ⟨d.val, by omega⟩) * s (ix1 d))
    * (P (ix2 ⟨256 + r.val, by omega⟩ ⟨4096 + d.val, by omega⟩) * Ideal.logistic (P (ix2 ⟨256 + r.val, by omega⟩ ⟨4096 + d.val, by omega⟩)))

/-- The gated state's rows normalised, times the scale. -/
def normed (Yf Yb : FVec Ideal S4352x1024 .f32) (X : FVec Ideal S4352x1536 .f32) (P : FVec Ideal S4352x7168 .f32) (s g : FVec Ideal S1024 .f32)
    (i : S4096x1024.Idx) : EReal :=
  nrm (gatedAt Yf Yb X P s (i 0)) (i 1) * g (ix1 (i 1))

/-- Where every window's block sits at grid point `t`: the latent rows begin after the context's. -/
theorem idx : ∀ t : Fin cfg0.N, win0_0.index t = ![t.val + 1, 0] ∧ win0_1.index t = ![t.val + 1, 0] ∧ win0_2.index t = ![t.val + 1, 0]
    ∧ win0_3.index t = ![t.val + 1, 4] ∧ win0_4.index t = ![0, 0] ∧ win0_5.index t = ![0, 0] ∧ win0_6.index t = ![t.val, 0] ∧ t.val < 16 :=
  (by decide +kernel : ∀ t : Fin grid0.N, _)

/-- A block's gated row. -/
def tileRow (v0 : FVec Ideal S1x1024 .f32) (v4 v5 v6 v7 : FVec Ideal S256x1024 .f32) (p : Fin 256) (d : Fin 1024) : EReal :=
  (v4 (ix2 p d) + v5 (ix2 p d) + v6 (ix2 p d) * v0 (ix2 0 d)) * (v7 (ix2 p d) * Ideal.logistic (v7 (ix2 p d)))

/-- What the body computes at a point of its block. -/
theorem pay_at (v0 v2 : FVec Ideal S1x1024 .f32) (v4 v5 v6 v7 : FVec Ideal S256x1024 .f32) (p : Fin 256) (d : Fin 1024) :
    k0_pay1 (F := Ideal) v0 v2 v4 v5 v6 v7 (ix2 p d) = nrm (tileRow v0 v4 v5 v6 v7 p) d * v2 (ix2 0 d) := by
  pointwise [k0_pay1, nrm, tileRow]

/-- A point's block of the skip's input, at an index. -/
theorem skip_at (c : Dev nD) (t : Fin cfg0.N) (p : Fin 256) (d : Fin 1024) :
    (show FVec Ideal S256x1024 .f32 from X0_2 m c t) (ix2 p d)
      = (show FVec Ideal S4352x1536 .f32 from (m ((c : Thread nD τ).loc main_arg2))) (ix2 ⟨256 * (t.val + 1) + p.val, by have := (idx t).2.2.2.2.2.2.2; omega⟩ ⟨d.val, by omega⟩) := by
  have ht := (idx t).2.2.2.2.2.2.2
  show X0_2 m c t (ix2 p d) = _
  unfold X0_2 Pipeline.Window.fill
  rw [dif_pos (moved0_2 t _)]
  blk_point [iblk, V, idx t]

/-- A point's gated row is the array's. -/
theorem row_at (c : Dev nD) (t : Fin cfg0.N) (p : Fin 256) (r : Fin 4096) (hr : r.val = 256 * t.val + p.val) :
    tileRow (iblk m c 4 t) (iblk m c 0 t) (iblk m c 1 t) (X0_2 m c t) (iblk m c 3 t) p
      = gatedAt (m ((c : Thread nD τ).loc main_arg0)) (m ((c : Thread nD τ).loc main_arg1)) (m ((c : Thread nD τ).loc main_arg2)) (m ((c : Thread nD τ).loc main_arg3)) (m ((c : Thread nD τ).loc main_arg4)) r := by
  have ht := (idx t).2.2.2.2.2.2.2
  funext d
  unfold tileRow gatedAt
  refine congrArg₂ (· * ·) (congrArg₂ (· + ·) (congrArg₂ (· + ·) ?_ ?_) (congrArg₂ (· * ·) ((skip_at m c t p d).trans (congrArg _ ?_)) ?_)) (congrArg₂ (· * ·) ?_ (congrArg _ ?_))
  · blk_point [iblk, V, idx t]
  · blk_point [iblk, V, idx t]
  · exact congrArg₂ ix2 (Fin.ext (by show 256 * (t.val + 1) + p.val = 256 + r.val; omega)) rfl
  · blk_point [iblk, V, idx t]
  · blk_point [iblk, V, idx t]
  · blk_point [iblk, V, idx t]

/-- A point's scale is the array's. -/
theorem scale_at (c : Dev nD) (t : Fin cfg0.N) (d : Fin 1024) :
    (show FVec Ideal S1x1024 .f32 from iblk m c 5 t) (ix2 0 d) = (show FVec Ideal S1024 .f32 from (m ((c : Thread nD τ).loc main_arg5))) (ix1 d) := by
  show iblk m c 5 t (ix2 0 d) = _
  blk_point [iblk, V, idx t]

/-- What a point's body leaves is the array's normalised row. -/
theorem tile_at (c : Dev nD) (t : Fin cfg0.N) (p : Fin 256) (d : Fin 1024) (r : Fin 4096) (hr : r.val = 256 * t.val + p.val) :
    nrm (tileRow (iblk m c 4 t) (iblk m c 0 t) (iblk m c 1 t) (X0_2 m c t) (iblk m c 3 t) p) d * (show FVec Ideal S1x1024 .f32 from iblk m c 5 t) (ix2 0 d)
      = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r d) := by
  rw [row_at m c t p r hr, scale_at m c t d]
  rfl

/-- The result's array after the run. -/
theorem final6 (c : Dev nD) : (dats m 0 c).arrAt 6 (cfgs 0).N = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht := (idx t).2.2.2.2.2.2.2
  blk_simp
  rw [after0_6]
  unfold outsAt0
  frame_out
  idx_vars y
  rw [pay_at]
  refine (tile_at m c t y0 y1 ⟨256 * t.val + y0.val, by omega⟩ rfl).trans ?_
  generalize normed _ _ _ _ _ _ = G
  blk_point [iblk, V, idx t]

end Cert.Kernel17Ideal.Final

end
-- ==== Proof.NormFwd.Ref.lean ====
/- The reference's gated norm of the state-space branch is what the kernel leaves. -/
module

public import proofs.«01_k».proof.Proof.NormFwd.Array
public import proofs.«01_k».proof.Proof.Gen.Reference17Ideal.Read

@[expose] public section

set_option maxRecDepth 16384

noncomputable section

open Idealize.ShloMosaic Idealize.ShloMosaic.TcCoe Idealize.SL.Sem

namespace Cert.Reference17Ideal.Final

open Cert.Reference17Ideal Cert.Reference17Ideal.Gen Cert.Reference17Ideal.Read Cert.Kernel17Ideal.Final

variable (x0 x1 : FVec Ideal S4352x1024 .f32) (x2 : FVec Ideal S4352x1536 .f32) (x3 : FVec Ideal S4352x7168 .f32) (x4 x5 : FVec Ideal S1024 .f32)

/-- The gated state. -/
theorem h_at (r : Fin 4096) (d : Fin 1024) : val_main_v10 (F := Ideal) x0 x1 x2 x3 x4 (ix2 r d) = gatedAt x0 x1 x2 x3 x4 r d := by
  pointwise [val_main_v0, val_main_v1, val_main_v2, val_main_v3, val_main_v4, val_main_v5, val_main_v6, val_main_v7, val_main_v8, val_main_v9, val_main_v10, val_main_call0_v0, val_main_call0_v1, val_main_call0_v2, val_main_call0_v3, val_main_call0_v4, val_main_call0_v5, val_main_call0_cst, val_main_call0_cst_0, gatedAt]
  rfl

/-- The gated state normalised. -/
theorem eq24 : val_main_v24 (F := Ideal) x0 x1 x2 x3 x4 x5 = normed x0 x1 x2 x3 x4 x5 := by
  funext i
  idx_vars i
  pointwise [val_main_v11, val_main_v12, val_main_v13, val_main_v14, val_main_v15, val_main_v16, val_main_v17, val_main_v18, val_main_v19, val_main_v20, val_main_v21, val_main_v22, val_main_v23, val_main_v24, val_main_cst, val_main_cst_0, val_main_cst_1, normed, nrm]
  simp only [h_at]

end Cert.Reference17Ideal.Final

end
-- ==== Proof.NormFwd.Claim.lean ====
/- The claims about the call that computes the gated norm of the state-space branch. -/
module

public import proofs.«01_k».proof.Defs
public import proofs.«01_k».proof.Proof.NormFwd.Ref
public import proofs.«01_k».proof.Proof.Gen.Reference17Ideal.Run
public import Idealize.ShloMosaic.Adequacy
public import Idealize.ShloMosaic.Lib.Claim
public import Idealize.ShloMosaic.Lib.StableHlo.RunHlo

@[expose] public section

set_option maxRecDepth 16384

noncomputable section

namespace Cert.NormFwd

open Idealize.ShloMosaic Idealize.SL.Sem

/-- The reference runs, leaves its arguments alone, and has no counter to leave off zero. -/
theorem frame_ref : Cert.quiescent_Reference17Ideal := fun m g _ => by
  refine (θ_run _ _ _).mono (fun r h => ⟨fun c => (h c).2, ?_⟩) (Cert.Reference17Ideal.Value.run m g)
  exact Idealize.ShloMosaic.sem_eq_zero_of_no_sems (by decide) r.2

/-- The call ends with the gated state normalised, as the reference does. -/
theorem value : Cert.algebraic_Kernel17Ideal_Reference17Ideal := by
  pair_intro
  · run_from Cert.Kernel17Ideal.Value.run_blocks m g
  · run_from Cert.Reference17Ideal.Value.run m' g'
    · rw [Cert.Kernel17Ideal.Final.final6]
      exact (Cert.Reference17Ideal.Read.val_main_v24_eq _ _ _ _ _ _).trans (Cert.Reference17Ideal.Final.eq24 _ _ _ _ _ _)

end Cert.NormFwd

end
-- ==== Proof.lean ====
/- The certificate of the step's products and of the gate's gradient: the claims of each call come from its own module, and are put together here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gate.Eq
public import proofs.«01_k».proof.Proof.Gen.Kernel3.Frame
public import proofs.«01_k».proof.Proof.Gen.Kernel3Ideal.Frame
public import proofs.«01_k».proof.Proof.FfInX.Claim
public import proofs.«01_k».proof.Proof.Gen.Kernel4.Frame
public import proofs.«01_k».proof.Proof.Gen.Kernel4Ideal.Frame
public import proofs.«01_k».proof.Proof.FfInW.Claim
public import proofs.«01_k».proof.Proof.Gen.Kernel5.Frame
public import proofs.«01_k».proof.Proof.Gen.Kernel5Ideal.Frame
public import proofs.«01_k».proof.Proof.FfOutW.Claim
public import proofs.«01_k».proof.Proof.Gen.Kernel6.Frame
public import proofs.«01_k».proof.Proof.Gen.Kernel6Ideal.Frame
public import proofs.«01_k».proof.Proof.ProjW.Claim
public import proofs.«01_k».proof.Proof.Gen.Kernel7.Frame
public import proofs.«01_k».proof.Proof.Gen.Kernel7Ideal.Frame
public import proofs.«01_k».proof.Proof.ProjX.Claim
public import proofs.«01_k».proof.Proof.Gen.Kernel8.Frame
public import proofs.«01_k».proof.Proof.Gen.Kernel8Ideal.Frame
public import proofs.«01_k».proof.Proof.BranchX.Claim
public import proofs.«01_k».proof.Proof.Gen.Kernel9.Frame
public import proofs.«01_k».proof.Proof.Gen.Kernel9Ideal.Frame
public import proofs.«01_k».proof.Proof.BranchW.Claim
public import proofs.«01_k».proof.Proof.Gen.Kernel10.Frame
public import proofs.«01_k».proof.Proof.Gen.Kernel10Ideal.Frame
public import proofs.«01_k».proof.Proof.FfnIn.Claim
public import proofs.«01_k».proof.Proof.Gen.Kernel11.Frame
public import proofs.«01_k».proof.Proof.Gen.Kernel11Ideal.Frame
public import proofs.«01_k».proof.Proof.FfnOut.Claim
public import proofs.«01_k».proof.Proof.Gen.Kernel12.Frame
public import proofs.«01_k».proof.Proof.Gen.Kernel12Ideal.Frame
public import proofs.«01_k».proof.Proof.ProjFwd.Claim
public import proofs.«01_k».proof.Proof.Gen.Kernel14.Frame
public import proofs.«01_k».proof.Proof.Gen.Kernel14Ideal.Frame
public import proofs.«01_k».proof.Proof.MergeFwd.Claim
public import proofs.«01_k».proof.Proof.Gen.Kernel15.Frame
public import proofs.«01_k».proof.Proof.Gen.Kernel15Ideal.Frame
public import proofs.«01_k».proof.Proof.Res1Fwd.Claim
public import proofs.«01_k».proof.Proof.Gen.Kernel13.Frame
public import proofs.«01_k».proof.Proof.Gen.Kernel13Ideal.Frame
public import proofs.«01_k».proof.Proof.MergeBwd.Claim
public import proofs.«01_k».proof.Proof.Gen.Kernel2.Frame
public import proofs.«01_k».proof.Proof.Gen.Kernel2Ideal.Frame
public import proofs.«01_k».proof.Proof.Mix.Claim
public import proofs.«01_k».proof.Proof.Gen.Kernel16.Frame
public import proofs.«01_k».proof.Proof.Gen.Kernel16Ideal.Frame
public import proofs.«01_k».proof.Proof.GateFwd.Claim
public import proofs.«01_k».proof.Proof.Gen.Kernel17.Frame
public import proofs.«01_k».proof.Proof.Gen.Kernel17Ideal.Frame
public import proofs.«01_k».proof.Proof.NormFwd.Claim
public import Idealize.ShloMosaic.Adequacy
public import Idealize.ShloMosaic.Init
public import Idealize.ShloMosaic.Lib.Claim
public import Idealize.ShloMosaic.Lib.Tactic
public import Idealize.ShloMosaic.Lib.StableHlo.RunHlo

@[expose] public section

noncomputable section

namespace Cert.Proof

open Idealize.ShloMosaic Idealize.SL.Sem Cert.Kernel

/-- The reference runs, leaves its arguments alone, and has no counter to leave off zero. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3))
      ∧ r.2.sem = fun _ => 0) := by
  refine (θ_run _ _ _).mono (fun r h => ⟨fun c => (h c).2.2, ?_⟩) (Cert.ReferenceIdeal.Value.run m g)
  exact Idealize.ShloMosaic.sem_eq_zero_of_no_sems (by decide) r.2

/-- The gate's gradient call ends with the derivative of the gated unit in its two results, for finite arguments. -/
theorem algebraic_gate : Cert.algebraic_KernelIdeal_ReferenceIdeal_pre_finite := by
  pair_intro
  · run_from Cert.KernelIdeal.Value.run_blocks m g
  · run_from Cert.ReferenceIdeal.Value.run m' g'
    · rw [Cert.KernelIdeal.Gate.final4, Cert.ReferenceIdeal.Read.val_main_v19_eq]
      obtain ⟨h0, h1, h2, h3⟩ := Cert.Pre_finite.finite_of _ _ _ _ (hpre c)
      exact (Cert.Gate.gate_eq _ _ _ _ h0 h1 h2 h3).symm
    · rw [Cert.KernelIdeal.Gate.final5, Cert.ReferenceIdeal.Read.val_main_v20_eq]
      exact (Cert.Gate.lin_eq _ _ _).symm

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel13.Gen.facts, Cert.Kernel13Ideal.Gen.facts, Cert.Reference13Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    fun m g _ => frame_ref m g, fun m g _ => frame_ref m g,
    fun m ρ _ => Cert.Kernel2.Gen.frame m ρ, fun m ρ _ => Cert.Kernel2Ideal.Gen.frame m ρ, fun m ρ _ => Cert.Kernel2Ideal.Gen.frame m ρ,
    Cert.Mix.frame_ref, fun m g _ => Cert.Mix.frame_ref m g trivial,
    fun m ρ _ => Cert.Kernel3.Gen.frame m ρ, fun m ρ _ => Cert.Kernel3Ideal.Gen.frame m ρ, Cert.FfInX.frame_ref,
    fun m ρ _ => Cert.Kernel4.Gen.frame m ρ, fun m ρ _ => Cert.Kernel4Ideal.Gen.frame m ρ, Cert.FfInW.frame_ref,
    fun m ρ _ => Cert.Kernel5.Gen.frame m ρ, fun m ρ _ => Cert.Kernel5Ideal.Gen.frame m ρ, Cert.FfOutW.frame_ref,
    fun m ρ _ => Cert.Kernel6.Gen.frame m ρ, fun m ρ _ => Cert.Kernel6Ideal.Gen.frame m ρ, Cert.ProjW.frame_ref,
    fun m ρ _ => Cert.Kernel7.Gen.frame m ρ, fun m ρ _ => Cert.Kernel7Ideal.Gen.frame m ρ, Cert.ProjX.frame_ref,
    fun m ρ _ => Cert.Kernel8.Gen.frame m ρ, fun m ρ _ => Cert.Kernel8Ideal.Gen.frame m ρ, Cert.BranchX.frame_ref,
    fun m ρ _ => Cert.Kernel9.Gen.frame m ρ, fun m ρ _ => Cert.Kernel9Ideal.Gen.frame m ρ, Cert.BranchW.frame_ref,
    fun m ρ _ => Cert.Kernel10.Gen.frame m ρ, fun m ρ _ => Cert.Kernel10Ideal.Gen.frame m ρ, Cert.FfnIn.frame_ref,
    fun m ρ _ => Cert.Kernel11.Gen.frame m ρ, fun m ρ _ => Cert.Kernel11Ideal.Gen.frame m ρ, Cert.FfnOut.frame_ref,
    fun m ρ _ => Cert.Kernel12.Gen.frame m ρ, fun m ρ _ => Cert.Kernel12Ideal.Gen.frame m ρ, Cert.ProjFwd.frame_ref,
    fun m ρ _ => Cert.Kernel14.Gen.frame m ρ, fun m ρ _ => Cert.Kernel14Ideal.Gen.frame m ρ, Cert.MergeFwd.frame_ref,
    fun m ρ _ => Cert.Kernel15.Gen.frame m ρ, fun m ρ _ => Cert.Kernel15Ideal.Gen.frame m ρ, Cert.Res1Fwd.frame_ref,
    fun m ρ _ => Cert.Kernel13.Gen.frame m ρ, fun m ρ _ => Cert.Kernel13Ideal.Gen.frame m ρ, Cert.MergeBwd.frame_ref,
    fun m ρ _ => Cert.Kernel16.Gen.frame m ρ, fun m ρ _ => Cert.Kernel16Ideal.Gen.frame m ρ, Cert.GateFwd.frame_ref,
    fun m ρ _ => Cert.Kernel17.Gen.frame m ρ, fun m ρ _ => Cert.Kernel17Ideal.Gen.frame m ρ, Cert.NormFwd.frame_ref,
    trivial, algebraic_gate,
    trivial, Cert.Mix.value,
    trivial, Cert.FfInX.value,
    trivial, Cert.FfInW.value,
    trivial, Cert.FfOutW.value,
    trivial, Cert.ProjW.value,
    trivial, Cert.ProjX.value,
    trivial, Cert.BranchX.value,
    trivial, Cert.BranchW.value,
    trivial, Cert.FfnIn.value,
    trivial, Cert.FfnOut.value,
    trivial, Cert.ProjFwd.value,
    trivial, Cert.MergeFwd.value,
    trivial, Cert.Res1Fwd.value,
    trivial, Cert.MergeBwd.value,
    trivial, Cert.GateFwd.value,
    trivial, Cert.NormFwd.value⟩

end Cert.Proof

end
